-- ==== Defs.lean ====
def Pre_OutNorm (m : (ℓ : Loc Cert.OutNorm.nD Cert.OutNorm.τ Cert.OutNorm.sig) → Buf (Elt Bits) ℓ) : Prop :=
  True

def Pre_OutNormIdeal (m : (ℓ : Loc Cert.OutNormIdeal.nD Cert.OutNormIdeal.τ Cert.OutNormIdeal.sig) → Buf (Elt Ideal) ℓ) : Prop :=
  True

def Pre_OutNormRefIdeal (m : (ℓ : Loc Cert.OutNormRefIdeal.nD Cert.OutNormRefIdeal.τ Cert.OutNormRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_ProjQz (m : (ℓ : Loc Cert.ProjQz.nD Cert.ProjQz.τ Cert.ProjQz.sig) → Buf (Elt Bits) ℓ) : Prop :=
  True

def Pre_ProjQzIdeal (m : (ℓ : Loc Cert.ProjQzIdeal.nD Cert.ProjQzIdeal.τ Cert.ProjQzIdeal.sig) → Buf (Elt Ideal) ℓ) : Prop :=
  True

def Pre_ProjQzRefIdeal (m : (ℓ : Loc Cert.ProjQzRefIdeal.nD Cert.ProjQzRefIdeal.τ Cert.ProjQzRefIdeal.sig) → Buf (Elt Ideal) ℓ) : Prop :=
  True

def Pre_ProjKv (m : (ℓ : Loc Cert.ProjKv.nD Cert.ProjKv.τ Cert.ProjKv.sig) → Buf (Elt Bits) ℓ) : Prop :=
  True

def Pre_ProjKvIdeal (m : (ℓ : Loc Cert.ProjKvIdeal.nD Cert.ProjKvIdeal.τ Cert.ProjKvIdeal.sig) → Buf (Elt Ideal) ℓ) : Prop :=
  True

def Pre_ProjKvRefIdeal (m : (ℓ : Loc Cert.ProjKvRefIdeal.nD Cert.ProjKvRefIdeal.τ Cert.ProjKvRefIdeal.sig) → Buf (Elt Ideal) ℓ) : Prop :=
  True

def Pre_ProjConv (m : (ℓ : Loc Cert.ProjConv.nD Cert.ProjConv.τ Cert.ProjConv.sig) → Buf (Elt Bits) ℓ) : Prop :=
  True

def Pre_ProjConvIdeal (m : (ℓ : Loc Cert.ProjConvIdeal.nD Cert.ProjConvIdeal.τ Cert.ProjConvIdeal.sig) → Buf (Elt Ideal) ℓ) : Prop :=
  True

def Pre_ProjConvRefIdeal (m : (ℓ : Loc Cert.ProjConvRefIdeal.nD Cert.ProjConvRefIdeal.τ Cert.ProjConvRefIdeal.sig) → Buf (Elt Ideal) ℓ) : Prop :=
  True

def Pre_OutProjB (m : (ℓ : Loc Cert.OutProjB.nD Cert.OutProjB.τ Cert.OutProjB.sig) → Buf (Elt Bits) ℓ) : Prop :=
  True

def Pre_OutProjBIdeal (m : (ℓ : Loc Cert.OutProjBIdeal.nD Cert.OutProjBIdeal.τ Cert.OutProjBIdeal.sig) → Buf (Elt Ideal) ℓ) : Prop :=
  True

def Pre_OutProjBRefIdeal (m : (ℓ : Loc Cert.OutProjBRefIdeal.nD Cert.OutProjBRefIdeal.τ Cert.OutProjBRefIdeal.sig) → Buf (Elt Ideal) ℓ) : Prop :=
  True

def Pre_ProjZba (m : (ℓ : Loc Cert.ProjZba.nD Cert.ProjZba.τ Cert.ProjZba.sig) → Buf (Elt Bits) ℓ) : Prop :=
  True

def Pre_ProjZbaIdeal (m : (ℓ : Loc Cert.ProjZbaIdeal.nD Cert.ProjZbaIdeal.τ Cert.ProjZbaIdeal.sig) → Buf (Elt Ideal) ℓ) : Prop :=
  True

def Pre_ProjZbaRefIdeal (m : (ℓ : Loc Cert.ProjZbaRefIdeal.nD Cert.ProjZbaRefIdeal.τ Cert.ProjZbaRefIdeal.sig) → Buf (Elt Ideal) ℓ) : Prop :=
  True

def Pre_Unpermute (m : (ℓ : Loc Cert.Unpermute.nD Cert.Unpermute.τ Cert.Unpermute.sig) → Buf (Elt Bits) ℓ) : Prop :=
  True

def Pre_UnpermuteIdeal (m : (ℓ : Loc Cert.UnpermuteIdeal.nD Cert.UnpermuteIdeal.τ Cert.UnpermuteIdeal.sig) → Buf (Elt Ideal) ℓ) : Prop :=
  True

def Pre_UnpermuteRefIdeal (m : (ℓ : Loc Cert.UnpermuteRefIdeal.nD Cert.UnpermuteRefIdeal.τ Cert.UnpermuteRefIdeal.sig) → Buf (Elt Ideal) ℓ) : Prop :=
  True

def Pre_Permute (m : (ℓ : Loc Cert.Permute.nD Cert.Permute.τ Cert.Permute.sig) → Buf (Elt Bits) ℓ) : Prop :=
  True

def Pre_PermuteIdeal (m : (ℓ : Loc Cert.PermuteIdeal.nD Cert.PermuteIdeal.τ Cert.PermuteIdeal.sig) → Buf (Elt Ideal) ℓ) : Prop :=
  True

def Pre_PermuteRefIdeal (m : (ℓ : Loc Cert.PermuteRefIdeal.nD Cert.PermuteRefIdeal.τ Cert.PermuteRefIdeal.sig) → Buf (Elt Ideal) ℓ) : Prop :=
  True

def Pre_ModProj (m : (ℓ : Loc Cert.ModProj.nD Cert.ModProj.τ Cert.ModProj.sig) → Buf (Elt Bits) ℓ) : Prop :=
  True

def Pre_ModProjIdeal (m : (ℓ : Loc Cert.ModProjIdeal.nD Cert.ModProjIdeal.τ Cert.ModProjIdeal.sig) → Buf (Elt Ideal) ℓ) : Prop :=
  True

def Pre_ModProjIdeal_finite [hPre_finite : Cert.Pre_finite.Facts] (m : (ℓ : Loc Cert.ModProjIdeal.nD Cert.ModProjIdeal.τ Cert.ModProjIdeal.sig) → Buf (Elt Ideal) ℓ) : Prop :=
  ∀ c : Dev Cert.ModProjIdeal.nD,
    (Cert.Pre_finite.fn (F := Ideal) (m ((c.tc : Thread Cert.ModProjIdeal.nD Cert.ModProjIdeal.τ).loc Cert.ModProjIdeal.main_arg0)) (m ((c.tc : Thread Cert.ModProjIdeal.nD Cert.ModProjIdeal.τ).loc Cert.ModProjIdeal.main_arg1)) (m ((c.tc : Thread Cert.ModProjIdeal.nD Cert.ModProjIdeal.τ).loc Cert.ModProjIdeal.main_arg2))) = (fun _ => 1#1)

def Pre_ModProjRefIdeal (m : (ℓ : Loc Cert.ModProjRefIdeal.nD Cert.ModProjRefIdeal.τ Cert.ModProjRefIdeal.sig) → Buf (Elt Ideal) ℓ) : Prop :=
  True

def Pre_ModProjRefIdeal_finite [hPre_finite : Cert.Pre_finite.Facts] (m : (ℓ : Loc Cert.ModProjRefIdeal.nD Cert.ModProjRefIdeal.τ Cert.ModProjRefIdeal.sig) → Buf (Elt Ideal) ℓ) : Prop :=
  ∀ c : Dev Cert.ModProjRefIdeal.nD,
    (Cert.Pre_finite.fn (F := Ideal) (m ((c.tc : Thread Cert.ModProjRefIdeal.nD Cert.ModProjRefIdeal.τ).loc Cert.ModProjRefIdeal.main_arg0)) (m ((c.tc : Thread Cert.ModProjRefIdeal.nD Cert.ModProjRefIdeal.τ).loc Cert.ModProjRefIdeal.main_arg1)) (m ((c.tc : Thread Cert.ModProjRefIdeal.nD Cert.ModProjRefIdeal.τ).loc Cert.ModProjRefIdeal.main_arg2))) = (fun _ => 1#1)

def quiescent_OutNorm [hOutNorm : Cert.OutNorm.Facts] : Prop :=
  ∀ (m : (ℓ : Loc Cert.OutNorm.nD Cert.OutNorm.τ Cert.OutNorm.sig) → Buf (Elt Bits) ℓ) (g : Dev Cert.OutNorm.nD → PrngReg), Pre_OutNorm m →
    θ_run (Cert.OutNorm.defs (F := Bits)) (onTc (τ := Cert.OutNorm.τ) (Cert.OutNorm.main (F := Bits))) ⟨m, fun _ => 0, g⟩ (fun r => (∀ c : Dev Cert.OutNorm.nD,
      r.2.mem ((c.tc : Thread Cert.OutNorm.nD Cert.OutNorm.τ).loc Cert.OutNorm.main_arg0) = m ((c.tc : Thread Cert.OutNorm.nD Cert.OutNorm.τ).loc Cert.OutNorm.main_arg0)
      ∧ r.2.mem ((c.tc : Thread Cert.OutNorm.nD Cert.OutNorm.τ).loc Cert.OutNorm.main_arg1) = m ((c.tc : Thread Cert.OutNorm.nD Cert.OutNorm.τ).loc Cert.OutNorm.main_arg1)
      ∧ r.2.mem ((c.tc : Thread Cert.OutNorm.nD Cert.OutNorm.τ).loc Cert.OutNorm.main_arg2) = m ((c.tc : Thread Cert.OutNorm.nD Cert.OutNorm.τ).loc Cert.OutNorm.main_arg2)
      ∧ r.2.mem ((c.tc : Thread Cert.OutNorm.nD Cert.OutNorm.τ).loc Cert.OutNorm.main_arg3) = m ((c.tc : Thread Cert.OutNorm.nD Cert.OutNorm.τ).loc Cert.OutNorm.main_arg3)
      ∧ r.2.mem ((c.tc : Thread Cert.OutNorm.nD Cert.OutNorm.τ).loc Cert.OutNorm.main_arg4) = m ((c.tc : Thread Cert.OutNorm.nD Cert.OutNorm.τ).loc Cert.OutNorm.main_arg4))
      ∧ r.2.sem = fun _ => 0)

def quiescent_OutNormIdeal [hOutNormIdeal : Cert.OutNormIdeal.Facts] : Prop :=
  ∀ (m : (ℓ : Loc Cert.OutNormIdeal.nD Cert.OutNormIdeal.τ Cert.OutNormIdeal.sig) → Buf (Elt Ideal) ℓ) (g : Dev Cert.OutNormIdeal.nD → PrngReg), Pre_OutNormIdeal m →
    θ_run (Cert.OutNormIdeal.defs (F := Ideal)) (onTc (τ := Cert.OutNormIdeal.τ) (Cert.OutNormIdeal.main (F := Ideal))) ⟨m, fun _ => 0, g⟩ (fun r => (∀ c : Dev Cert.OutNormIdeal.nD,
      r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
      ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
      ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
      ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3)
      ∧ r.2.mem ((c.tc : Thread Cert.OutNormIdeal.nD Cert.OutNormIdeal.τ).loc Cert.OutNormIdeal.main_arg4) = m ((c.tc : Thread Cert.OutNormIdeal.nD Cert.OutNormIdeal.τ).loc Cert.OutNormIdeal.main_arg4))
      ∧ r.2.sem = fun _ => 0)

def quiescent_OutNormRefIdeal [hOutNormRefIdeal : Cert.OutNormRefIdeal.Facts] : Prop :=
  ∀ (m : (ℓ : Loc Cert.OutNormRefIdeal.nD Cert.OutNormRefIdeal.τ Cert.OutNormRefIdeal.sig) → Buf (Elt Ideal) ℓ) (g : Dev Cert.OutNormRefIdeal.nD → PrngReg), Pre_OutNormRefIdeal m →
    θ_run (Cert.OutNormRefIdeal.defs (F := Ideal)) (onTc (τ := Cert.OutNormRefIdeal.τ) (Cert.OutNormRefIdeal.main (F := Ideal))) ⟨m, fun _ => 0, g⟩ (fun r => (∀ c : Dev Cert.OutNormRefIdeal.nD,
      r.2.mem ((c.tc : Thread Cert.OutNormRefIdeal.nD Cert.OutNormRefIdeal.τ).loc Cert.OutNormRefIdeal.main_arg0) = m ((c.tc : Thread Cert.OutNormRefIdeal.nD Cert.OutNormRefIdeal.τ).loc Cert.OutNormRefIdeal.main_arg0)
      ∧ r.2.mem ((c.tc : Thread Cert.OutNormRefIdeal.nD Cert.OutNormRefIdeal.τ).loc Cert.OutNormRefIdeal.main_arg1) = m ((c.tc : Thread Cert.OutNormRefIdeal.nD Cert.OutNormRefIdeal.τ).loc Cert.OutNormRefIdeal.main_arg1)
      ∧ r.2.mem ((c.tc : Thread Cert.OutNormRefIdeal.nD Cert.OutNormRefIdeal.τ).loc Cert.OutNormRefIdeal.main_arg2) = m ((c.tc : Thread Cert.OutNormRefIdeal.nD Cert.OutNormRefIdeal.τ).loc Cert.OutNormRefIdeal.main_arg2)
      ∧ r.2.mem ((c.tc : Thread Cert.OutNormRefIdeal.nD Cert.OutNormRefIdeal.τ).loc Cert.OutNormRefIdeal.main_arg3) = m ((c.tc : Thread Cert.OutNormRefIdeal.nD Cert.OutNormRefIdeal.τ).loc Cert.OutNormRefIdeal.main_arg3)
      ∧ r.2.mem ((c.tc : Thread Cert.OutNormRefIdeal.nD Cert.OutNormRefIdeal.τ).loc Cert.OutNormRefIdeal.main_arg4) = m ((c.tc : Thread Cert.OutNormRefIdeal.nD Cert.OutNormRefIdeal.τ).loc Cert.OutNormRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_ProjQz [hProjQz : Cert.ProjQz.Facts] : Prop :=
  ∀ (m : (ℓ : Loc Cert.ProjQz.nD Cert.ProjQz.τ Cert.ProjQz.sig) → Buf (Elt Bits) ℓ) (g : Dev Cert.ProjQz.nD → PrngReg), Pre_ProjQz m →
    θ_run (Cert.ProjQz.defs (F := Bits)) (onTc (τ := Cert.ProjQz.τ) (Cert.ProjQz.main (F := Bits))) ⟨m, fun _ => 0, g⟩ (fun r => (∀ c : Dev Cert.ProjQz.nD,
      r.2.mem ((c.tc : Thread Cert.ProjQz.nD Cert.ProjQz.τ).loc Cert.ProjQz.main_arg0) = m ((c.tc : Thread Cert.ProjQz.nD Cert.ProjQz.τ).loc Cert.ProjQz.main_arg0)
      ∧ r.2.mem ((c.tc : Thread Cert.ProjQz.nD Cert.ProjQz.τ).loc Cert.ProjQz.main_arg1) = m ((c.tc : Thread Cert.ProjQz.nD Cert.ProjQz.τ).loc Cert.ProjQz.main_arg1)
      ∧ r.2.mem ((c.tc : Thread Cert.ProjQz.nD Cert.ProjQz.τ).loc Cert.ProjQz.main_arg2) = m ((c.tc : Thread Cert.ProjQz.nD Cert.ProjQz.τ).loc Cert.ProjQz.main_arg2)
      ∧ r.2.mem ((c.tc : Thread Cert.ProjQz.nD Cert.ProjQz.τ).loc Cert.ProjQz.main_arg3) = m ((c.tc : Thread Cert.ProjQz.nD Cert.ProjQz.τ).loc Cert.ProjQz.main_arg3)
      ∧ r.2.mem ((c.tc : Thread Cert.ProjQz.nD Cert.ProjQz.τ).loc Cert.ProjQz.main_arg4) = m ((c.tc : Thread Cert.ProjQz.nD Cert.ProjQz.τ).loc Cert.ProjQz.main_arg4))
      ∧ r.2.sem = fun _ => 0)

def quiescent_ProjQzIdeal [hProjQzIdeal : Cert.ProjQzIdeal.Facts] : Prop :=
  ∀ (m : (ℓ : Loc Cert.ProjQzIdeal.nD Cert.ProjQzIdeal.τ Cert.ProjQzIdeal.sig) → Buf (Elt Ideal) ℓ) (g : Dev Cert.ProjQzIdeal.nD → PrngReg), Pre_ProjQzIdeal m →
    θ_run (Cert.ProjQzIdeal.defs (F := Ideal)) (onTc (τ := Cert.ProjQzIdeal.τ) (Cert.ProjQzIdeal.main (F := Ideal))) ⟨m, fun _ => 0, g⟩ (fun r => (∀ c : Dev Cert.ProjQzIdeal.nD,
      r.2.mem ((c.tc : Thread Cert.ProjQzIdeal.nD Cert.ProjQzIdeal.τ).loc Cert.ProjQzIdeal.main_arg0) = m ((c.tc : Thread Cert.ProjQzIdeal.nD Cert.ProjQzIdeal.τ).loc Cert.ProjQzIdeal.main_arg0)
      ∧ r.2.mem ((c.tc : Thread Cert.ProjQzIdeal.nD Cert.ProjQzIdeal.τ).loc Cert.ProjQzIdeal.main_arg1) = m ((c.tc : Thread Cert.ProjQzIdeal.nD Cert.ProjQzIdeal.τ).loc Cert.ProjQzIdeal.main_arg1)
      ∧ r.2.mem ((c.tc : Thread Cert.ProjQzIdeal.nD Cert.ProjQzIdeal.τ).loc Cert.ProjQzIdeal.main_arg2) = m ((c.tc : Thread Cert.ProjQzIdeal.nD Cert.ProjQzIdeal.τ).loc Cert.ProjQzIdeal.main_arg2)
      ∧ r.2.mem ((c.tc : Thread Cert.ProjQzIdeal.nD Cert.ProjQzIdeal.τ).loc Cert.ProjQzIdeal.main_arg3) = m ((c.tc : Thread Cert.ProjQzIdeal.nD Cert.ProjQzIdeal.τ).loc Cert.ProjQzIdeal.main_arg3)
      ∧ r.2.mem ((c.tc : Thread Cert.ProjQzIdeal.nD Cert.ProjQzIdeal.τ).loc Cert.ProjQzIdeal.main_arg4) = m ((c.tc : Thread Cert.ProjQzIdeal.nD Cert.ProjQzIdeal.τ).loc Cert.ProjQzIdeal.main_arg4))
      ∧ r.2.sem = fun _ => 0)

def quiescent_ProjQzRefIdeal [hProjQzRefIdeal : Cert.ProjQzRefIdeal.Facts] : Prop :=
  ∀ (m : (ℓ : Loc Cert.ProjQzRefIdeal.nD Cert.ProjQzRefIdeal.τ Cert.ProjQzRefIdeal.sig) → Buf (Elt Ideal) ℓ) (g : Dev Cert.ProjQzRefIdeal.nD → PrngReg), Pre_ProjQzRefIdeal m →
    θ_run (Cert.ProjQzRefIdeal.defs (F := Ideal)) (onTc (τ := Cert.ProjQzRefIdeal.τ) (Cert.ProjQzRefIdeal.main (F := Ideal))) ⟨m, fun _ => 0, g⟩ (fun r => (∀ c : Dev Cert.ProjQzRefIdeal.nD,
      r.2.mem ((c.tc : Thread Cert.ProjQzRefIdeal.nD Cert.ProjQzRefIdeal.τ).loc Cert.ProjQzRefIdeal.main_arg0) = m ((c.tc : Thread Cert.ProjQzRefIdeal.nD Cert.ProjQzRefIdeal.τ).loc Cert.ProjQzRefIdeal.main_arg0)
      ∧ r.2.mem ((c.tc : Thread Cert.ProjQzRefIdeal.nD Cert.ProjQzRefIdeal.τ).loc Cert.ProjQzRefIdeal.main_arg1) = m ((c.tc : Thread Cert.ProjQzRefIdeal.nD Cert.ProjQzRefIdeal.τ).loc Cert.ProjQzRefIdeal.main_arg1)
      ∧ r.2.mem ((c.tc : Thread Cert.ProjQzRefIdeal.nD Cert.ProjQzRefIdeal.τ).loc Cert.ProjQzRefIdeal.main_arg2) = m ((c.tc : Thread Cert.ProjQzRefIdeal.nD Cert.ProjQzRefIdeal.τ).loc Cert.ProjQzRefIdeal.main_arg2)
      ∧ r.2.mem ((c.tc : Thread Cert.ProjQzRefIdeal.nD Cert.ProjQzRefIdeal.τ).loc Cert.ProjQzRefIdeal.main_arg3) = m ((c.tc : Thread Cert.ProjQzRefIdeal.nD Cert.ProjQzRefIdeal.τ).loc Cert.ProjQzRefIdeal.main_arg3)
      ∧ r.2.mem ((c.tc : Thread Cert.ProjQzRefIdeal.nD Cert.ProjQzRefIdeal.τ).loc Cert.ProjQzRefIdeal.main_arg4) = m ((c.tc : Thread Cert.ProjQzRefIdeal.nD Cert.ProjQzRefIdeal.τ).loc Cert.ProjQzRefIdeal.main_arg4))
      ∧ r.2.sem = fun _ => 0)

def quiescent_ProjKv [hProjKv : Cert.ProjKv.Facts] : Prop :=
  ∀ (m : (ℓ : Loc Cert.ProjKv.nD Cert.ProjKv.τ Cert.ProjKv.sig) → Buf (Elt Bits) ℓ) (g : Dev Cert.ProjKv.nD → PrngReg), Pre_ProjKv m →
    θ_run (Cert.ProjKv.defs (F := Bits)) (onTc (τ := Cert.ProjKv.τ) (Cert.ProjKv.main (F := Bits))) ⟨m, fun _ => 0, g⟩ (fun r => (∀ c : Dev Cert.ProjKv.nD,
      r.2.mem ((c.tc : Thread Cert.ProjKv.nD Cert.ProjKv.τ).loc Cert.ProjKv.main_arg0) = m ((c.tc : Thread Cert.ProjKv.nD Cert.ProjKv.τ).loc Cert.ProjKv.main_arg0)
      ∧ r.2.mem ((c.tc : Thread Cert.ProjKv.nD Cert.ProjKv.τ).loc Cert.ProjKv.main_arg1) = m ((c.tc : Thread Cert.ProjKv.nD Cert.ProjKv.τ).loc Cert.ProjKv.main_arg1)
      ∧ r.2.mem ((c.tc : Thread Cert.ProjKv.nD Cert.ProjKv.τ).loc Cert.ProjKv.main_arg2) = m ((c.tc : Thread Cert.ProjKv.nD Cert.ProjKv.τ).loc Cert.ProjKv.main_arg2)
      ∧ r.2.mem ((c.tc : Thread Cert.ProjKv.nD Cert.ProjKv.τ).loc Cert.ProjKv.main_arg3) = m ((c.tc : Thread Cert.ProjKv.nD Cert.ProjKv.τ).loc Cert.ProjKv.main_arg3)
      ∧ r.2.mem ((c.tc : Thread Cert.ProjKv.nD Cert.ProjKv.τ).loc Cert.ProjKv.main_arg4) = m ((c.tc : Thread Cert.ProjKv.nD Cert.ProjKv.τ).loc Cert.ProjKv.main_arg4))
      ∧ r.2.sem = fun _ => 0)

def quiescent_ProjKvIdeal [hProjKvIdeal : Cert.ProjKvIdeal.Facts] : Prop :=
  ∀ (m : (ℓ : Loc Cert.ProjKvIdeal.nD Cert.ProjKvIdeal.τ Cert.ProjKvIdeal.sig) → Buf (Elt Ideal) ℓ) (g : Dev Cert.ProjKvIdeal.nD → PrngReg), Pre_ProjKvIdeal m →
    θ_run (Cert.ProjKvIdeal.defs (F := Ideal)) (onTc (τ := Cert.ProjKvIdeal.τ) (Cert.ProjKvIdeal.main (F := Ideal))) ⟨m, fun _ => 0, g⟩ (fun r => (∀ c : Dev Cert.ProjKvIdeal.nD,
      r.2.mem ((c.tc : Thread Cert.ProjKvIdeal.nD Cert.ProjKvIdeal.τ).loc Cert.ProjKvIdeal.main_arg0) = m ((c.tc : Thread Cert.ProjKvIdeal.nD Cert.ProjKvIdeal.τ).loc Cert.ProjKvIdeal.main_arg0)
      ∧ r.2.mem ((c.tc : Thread Cert.ProjKvIdeal.nD Cert.ProjKvIdeal.τ).loc Cert.ProjKvIdeal.main_arg1) = m ((c.tc : Thread Cert.ProjKvIdeal.nD Cert.ProjKvIdeal.τ).loc Cert.ProjKvIdeal.main_arg1)
      ∧ r.2.mem ((c.tc : Thread Cert.ProjKvIdeal.nD Cert.ProjKvIdeal.τ).loc Cert.ProjKvIdeal.main_arg2) = m ((c.tc : Thread Cert.ProjKvIdeal.nD Cert.ProjKvIdeal.τ).loc Cert.ProjKvIdeal.main_arg2)
      ∧ r.2.mem ((c.tc : Thread Cert.ProjKvIdeal.nD Cert.ProjKvIdeal.τ).loc Cert.ProjKvIdeal.main_arg3) = m ((c.tc : Thread Cert.ProjKvIdeal.nD Cert.ProjKvIdeal.τ).loc Cert.ProjKvIdeal.main_arg3)
      ∧ r.2.mem ((c.tc : Thread Cert.ProjKvIdeal.nD Cert.ProjKvIdeal.τ).loc Cert.ProjKvIdeal.main_arg4) = m ((c.tc : Thread Cert.ProjKvIdeal.nD Cert.ProjKvIdeal.τ).loc Cert.ProjKvIdeal.main_arg4))
      ∧ r.2.sem = fun _ => 0)

def quiescent_ProjKvRefIdeal [hProjKvRefIdeal : Cert.ProjKvRefIdeal.Facts] : Prop :=
  ∀ (m : (ℓ : Loc Cert.ProjKvRefIdeal.nD Cert.ProjKvRefIdeal.τ Cert.ProjKvRefIdeal.sig) → Buf (Elt Ideal) ℓ) (g : Dev Cert.ProjKvRefIdeal.nD → PrngReg), Pre_ProjKvRefIdeal m →
    θ_run (Cert.ProjKvRefIdeal.defs (F := Ideal)) (onTc (τ := Cert.ProjKvRefIdeal.τ) (Cert.ProjKvRefIdeal.main (F := Ideal))) ⟨m, fun _ => 0, g⟩ (fun r => (∀ c : Dev Cert.ProjKvRefIdeal.nD,
      r.2.mem ((c.tc : Thread Cert.ProjKvRefIdeal.nD Cert.ProjKvRefIdeal.τ).loc Cert.ProjKvRefIdeal.main_arg0) = m ((c.tc : Thread Cert.ProjKvRefIdeal.nD Cert.ProjKvRefIdeal.τ).loc Cert.ProjKvRefIdeal.main_arg0)
      ∧ r.2.mem ((c.tc : Thread Cert.ProjKvRefIdeal.nD Cert.ProjKvRefIdeal.τ).loc Cert.ProjKvRefIdeal.main_arg1) = m ((c.tc : Thread Cert.ProjKvRefIdeal.nD Cert.ProjKvRefIdeal.τ).loc Cert.ProjKvRefIdeal.main_arg1)
      ∧ r.2.mem ((c.tc : Thread Cert.ProjKvRefIdeal.nD Cert.ProjKvRefIdeal.τ).loc Cert.ProjKvRefIdeal.main_arg2) = m ((c.tc : Thread Cert.ProjKvRefIdeal.nD Cert.ProjKvRefIdeal.τ).loc Cert.ProjKvRefIdeal.main_arg2)
      ∧ r.2.mem ((c.tc : Thread Cert.ProjKvRefIdeal.nD Cert.ProjKvRefIdeal.τ).loc Cert.ProjKvRefIdeal.main_arg3) = m ((c.tc : Thread Cert.ProjKvRefIdeal.nD Cert.ProjKvRefIdeal.τ).loc Cert.ProjKvRefIdeal.main_arg3)
      ∧ r.2.mem ((c.tc : Thread Cert.ProjKvRefIdeal.nD Cert.ProjKvRefIdeal.τ).loc Cert.ProjKvRefIdeal.main_arg4) = m ((c.tc : Thread Cert.ProjKvRefIdeal.nD Cert.ProjKvRefIdeal.τ).loc Cert.ProjKvRefIdeal.main_arg4))
      ∧ r.2.sem = fun _ => 0)

def quiescent_ProjConv [hProjConv : Cert.ProjConv.Facts] : Prop :=
  ∀ (m : (ℓ : Loc Cert.ProjConv.nD Cert.ProjConv.τ Cert.ProjConv.sig) → Buf (Elt Bits) ℓ) (g : Dev Cert.ProjConv.nD → PrngReg), Pre_ProjConv m →
    θ_run (Cert.ProjConv.defs (F := Bits)) (onTc (τ := Cert.ProjConv.τ) (Cert.ProjConv.main (F := Bits))) ⟨m, fun _ => 0, g⟩ (fun r => (∀ c : Dev Cert.ProjConv.nD,
      r.2.mem ((c.tc : Thread Cert.ProjConv.nD Cert.ProjConv.τ).loc Cert.ProjConv.main_arg0) = m ((c.tc : Thread Cert.ProjConv.nD Cert.ProjConv.τ).loc Cert.ProjConv.main_arg0)
      ∧ r.2.mem ((c.tc : Thread Cert.ProjConv.nD Cert.ProjConv.τ).loc Cert.ProjConv.main_arg1) = m ((c.tc : Thread Cert.ProjConv.nD Cert.ProjConv.τ).loc Cert.ProjConv.main_arg1)
      ∧ r.2.mem ((c.tc : Thread Cert.ProjConv.nD Cert.ProjConv.τ).loc Cert.ProjConv.main_arg2) = m ((c.tc : Thread Cert.ProjConv.nD Cert.ProjConv.τ).loc Cert.ProjConv.main_arg2)
      ∧ r.2.mem ((c.tc : Thread Cert.ProjConv.nD Cert.ProjConv.τ).loc Cert.ProjConv.main_arg3) = m ((c.tc : Thread Cert.ProjConv.nD Cert.ProjConv.τ).loc Cert.ProjConv.main_arg3)
      ∧ r.2.mem ((c.tc : Thread Cert.ProjConv.nD Cert.ProjConv.τ).loc Cert.ProjConv.main_arg4) = m ((c.tc : Thread Cert.ProjConv.nD Cert.ProjConv.τ).loc Cert.ProjConv.main_arg4)
      ∧ r.2.mem ((c.tc : Thread Cert.ProjConv.nD Cert.ProjConv.τ).loc Cert.ProjConv.main_arg5) = m ((c.tc : Thread Cert.ProjConv.nD Cert.ProjConv.τ).loc Cert.ProjConv.main_arg5))
      ∧ r.2.sem = fun _ => 0)

def quiescent_ProjConvIdeal [hProjConvIdeal : Cert.ProjConvIdeal.Facts] : Prop :=
  ∀ (m : (ℓ : Loc Cert.ProjConvIdeal.nD Cert.ProjConvIdeal.τ Cert.ProjConvIdeal.sig) → Buf (Elt Ideal) ℓ) (g : Dev Cert.ProjConvIdeal.nD → PrngReg), Pre_ProjConvIdeal m →
    θ_run (Cert.ProjConvIdeal.defs (F := Ideal)) (onTc (τ := Cert.ProjConvIdeal.τ) (Cert.ProjConvIdeal.main (F := Ideal))) ⟨m, fun _ => 0, g⟩ (fun r => (∀ c : Dev Cert.ProjConvIdeal.nD,
      r.2.mem ((c.tc : Thread Cert.ProjConvIdeal.nD Cert.ProjConvIdeal.τ).loc Cert.ProjConvIdeal.main_arg0) = m ((c.tc : Thread Cert.ProjConvIdeal.nD Cert.ProjConvIdeal.τ).loc Cert.ProjConvIdeal.main_arg0)
      ∧ r.2.mem ((c.tc : Thread Cert.ProjConvIdeal.nD Cert.ProjConvIdeal.τ).loc Cert.ProjConvIdeal.main_arg1) = m ((c.tc : Thread Cert.ProjConvIdeal.nD Cert.ProjConvIdeal.τ).loc Cert.ProjConvIdeal.main_arg1)
      ∧ r.2.mem ((c.tc : Thread Cert.ProjConvIdeal.nD Cert.ProjConvIdeal.τ).loc Cert.ProjConvIdeal.main_arg2) = m ((c.tc : Thread Cert.ProjConvIdeal.nD Cert.ProjConvIdeal.τ).loc Cert.ProjConvIdeal.main_arg2)
      ∧ r.2.mem ((c.tc : Thread Cert.ProjConvIdeal.nD Cert.ProjConvIdeal.τ).loc Cert.ProjConvIdeal.main_arg3) = m ((c.tc : Thread Cert.ProjConvIdeal.nD Cert.ProjConvIdeal.τ).loc Cert.ProjConvIdeal.main_arg3)
      ∧ r.2.mem ((c.tc : Thread Cert.ProjConvIdeal.nD Cert.ProjConvIdeal.τ).loc Cert.ProjConvIdeal.main_arg4) = m ((c.tc : Thread Cert.ProjConvIdeal.nD Cert.ProjConvIdeal.τ).loc Cert.ProjConvIdeal.main_arg4)
      ∧ r.2.mem ((c.tc : Thread Cert.ProjConvIdeal.nD Cert.ProjConvIdeal.τ).loc Cert.ProjConvIdeal.main_arg5) = m ((c.tc : Thread Cert.ProjConvIdeal.nD Cert.ProjConvIdeal.τ).loc Cert.ProjConvIdeal.main_arg5))
      ∧ r.2.sem = fun _ => 0)

def quiescent_ProjConvRefIdeal [hProjConvRefIdeal : Cert.ProjConvRefIdeal.Facts] : Prop :=
  ∀ (m : (ℓ : Loc Cert.ProjConvRefIdeal.nD Cert.ProjConvRefIdeal.τ Cert.ProjConvRefIdeal.sig) → Buf (Elt Ideal) ℓ) (g : Dev Cert.ProjConvRefIdeal.nD → PrngReg), Pre_ProjConvRefIdeal m →
    θ_run (Cert.ProjConvRefIdeal.defs (F := Ideal)) (onTc (τ := Cert.ProjConvRefIdeal.τ) (Cert.ProjConvRefIdeal.main (F := Ideal))) ⟨m, fun _ => 0, g⟩ (fun r => (∀ c : Dev Cert.ProjConvRefIdeal.nD,
      r.2.mem ((c.tc : Thread Cert.ProjConvRefIdeal.nD Cert.ProjConvRefIdeal.τ).loc Cert.ProjConvRefIdeal.main_arg0) = m ((c.tc : Thread Cert.ProjConvRefIdeal.nD Cert.ProjConvRefIdeal.τ).loc Cert.ProjConvRefIdeal.main_arg0)
      ∧ r.2.mem ((c.tc : Thread Cert.ProjConvRefIdeal.nD Cert.ProjConvRefIdeal.τ).loc Cert.ProjConvRefIdeal.main_arg1) = m ((c.tc : Thread Cert.ProjConvRefIdeal.nD Cert.ProjConvRefIdeal.τ).loc Cert.ProjConvRefIdeal.main_arg1)
      ∧ r.2.mem ((c.tc : Thread Cert.ProjConvRefIdeal.nD Cert.ProjConvRefIdeal.τ).loc Cert.ProjConvRefIdeal.main_arg2) = m ((c.tc : Thread Cert.ProjConvRefIdeal.nD Cert.ProjConvRefIdeal.τ).loc Cert.ProjConvRefIdeal.main_arg2)
      ∧ r.2.mem ((c.tc : Thread Cert.ProjConvRefIdeal.nD Cert.ProjConvRefIdeal.τ).loc Cert.ProjConvRefIdeal.main_arg3) = m ((c.tc : Thread Cert.ProjConvRefIdeal.nD Cert.ProjConvRefIdeal.τ).loc Cert.ProjConvRefIdeal.main_arg3)
      ∧ r.2.mem ((c.tc : Thread Cert.ProjConvRefIdeal.nD Cert.ProjConvRefIdeal.τ).loc Cert.ProjConvRefIdeal.main_arg4) = m ((c.tc : Thread Cert.ProjConvRefIdeal.nD Cert.ProjConvRefIdeal.τ).loc Cert.ProjConvRefIdeal.main_arg4)
      ∧ r.2.mem ((c.tc : Thread Cert.ProjConvRefIdeal.nD Cert.ProjConvRefIdeal.τ).loc Cert.ProjConvRefIdeal.main_arg5) = m ((c.tc : Thread Cert.ProjConvRefIdeal.nD Cert.ProjConvRefIdeal.τ).loc Cert.ProjConvRefIdeal.main_arg5))
      ∧ r.2.sem = fun _ => 0)

def quiescent_OutProjB [hOutProjB : Cert.OutProjB.Facts] : Prop :=
  ∀ (m : (ℓ : Loc Cert.OutProjB.nD Cert.OutProjB.τ Cert.OutProjB.sig) → Buf (Elt Bits) ℓ) (g : Dev Cert.OutProjB.nD → PrngReg), Pre_OutProjB m →
    θ_run (Cert.OutProjB.defs (F := Bits)) (onTc (τ := Cert.OutProjB.τ) (Cert.OutProjB.main (F := Bits))) ⟨m, fun _ => 0, g⟩ (fun r => (∀ c : Dev Cert.OutProjB.nD,
      r.2.mem ((c.tc : Thread Cert.OutProjB.nD Cert.OutProjB.τ).loc Cert.OutProjB.main_arg0) = m ((c.tc : Thread Cert.OutProjB.nD Cert.OutProjB.τ).loc Cert.OutProjB.main_arg0)
      ∧ r.2.mem ((c.tc : Thread Cert.OutProjB.nD Cert.OutProjB.τ).loc Cert.OutProjB.main_arg1) = m ((c.tc : Thread Cert.OutProjB.nD Cert.OutProjB.τ).loc Cert.OutProjB.main_arg1)
      ∧ r.2.mem ((c.tc : Thread Cert.OutProjB.nD Cert.OutProjB.τ).loc Cert.OutProjB.main_arg2) = m ((c.tc : Thread Cert.OutProjB.nD Cert.OutProjB.τ).loc Cert.OutProjB.main_arg2)
      ∧ r.2.mem ((c.tc : Thread Cert.OutProjB.nD Cert.OutProjB.τ).loc Cert.OutProjB.main_arg3) = m ((c.tc : Thread Cert.OutProjB.nD Cert.OutProjB.τ).loc Cert.OutProjB.main_arg3))
      ∧ r.2.sem = fun _ => 0)

def quiescent_OutProjBIdeal [hOutProjBIdeal : Cert.OutProjBIdeal.Facts] : Prop :=
  ∀ (m : (ℓ : Loc Cert.OutProjBIdeal.nD Cert.OutProjBIdeal.τ Cert.OutProjBIdeal.sig) → Buf (Elt Ideal) ℓ) (g : Dev Cert.OutProjBIdeal.nD → PrngReg), Pre_OutProjBIdeal m →
    θ_run (Cert.OutProjBIdeal.defs (F := Ideal)) (onTc (τ := Cert.OutProjBIdeal.τ) (Cert.OutProjBIdeal.main (F := Ideal))) ⟨m, fun _ => 0, g⟩ (fun r => (∀ c : Dev Cert.OutProjBIdeal.nD,
      r.2.mem ((c.tc : Thread Cert.OutProjBIdeal.nD Cert.OutProjBIdeal.τ).loc Cert.OutProjBIdeal.main_arg0) = m ((c.tc : Thread Cert.OutProjBIdeal.nD Cert.OutProjBIdeal.τ).loc Cert.OutProjBIdeal.main_arg0)
      ∧ r.2.mem ((c.tc : Thread Cert.OutProjBIdeal.nD Cert.OutProjBIdeal.τ).loc Cert.OutProjBIdeal.main_arg1) = m ((c.tc : Thread Cert.OutProjBIdeal.nD Cert.OutProjBIdeal.τ).loc Cert.OutProjBIdeal.main_arg1)
      ∧ r.2.mem ((c.tc : Thread Cert.OutProjBIdeal.nD Cert.OutProjBIdeal.τ).loc Cert.OutProjBIdeal.main_arg2) = m ((c.tc : Thread Cert.OutProjBIdeal.nD Cert.OutProjBIdeal.τ).loc Cert.OutProjBIdeal.main_arg2)
      ∧ r.2.mem ((c.tc : Thread Cert.OutProjBIdeal.nD Cert.OutProjBIdeal.τ).loc Cert.OutProjBIdeal.main_arg3) = m ((c.tc : Thread Cert.OutProjBIdeal.nD Cert.OutProjBIdeal.τ).loc Cert.OutProjBIdeal.main_arg3))
      ∧ r.2.sem = fun _ => 0)

def quiescent_OutProjBRefIdeal [hOutProjBRefIdeal : Cert.OutProjBRefIdeal.Facts] : Prop :=
  ∀ (m : (ℓ : Loc Cert.OutProjBRefIdeal.nD Cert.OutProjBRefIdeal.τ Cert.OutProjBRefIdeal.sig) → Buf (Elt Ideal) ℓ) (g : Dev Cert.OutProjBRefIdeal.nD → PrngReg), Pre_OutProjBRefIdeal m →
    θ_run (Cert.OutProjBRefIdeal.defs (F := Ideal)) (onTc (τ := Cert.OutProjBRefIdeal.τ) (Cert.OutProjBRefIdeal.main (F := Ideal))) ⟨m, fun _ => 0, g⟩ (fun r => (∀ c : Dev Cert.OutProjBRefIdeal.nD,
      r.2.mem ((c.tc : Thread Cert.OutProjBRefIdeal.nD Cert.OutProjBRefIdeal.τ).loc Cert.OutProjBRefIdeal.main_arg0) = m ((c.tc : Thread Cert.OutProjBRefIdeal.nD Cert.OutProjBRefIdeal.τ).loc Cert.OutProjBRefIdeal.main_arg0)
      ∧ r.2.mem ((c.tc : Thread Cert.OutProjBRefIdeal.nD Cert.OutProjBRefIdeal.τ).loc Cert.OutProjBRefIdeal.main_arg1) = m ((c.tc : Thread Cert.OutProjBRefIdeal.nD Cert.OutProjBRefIdeal.τ).loc Cert.OutProjBRefIdeal.main_arg1)
      ∧ r.2.mem ((c.tc : Thread Cert.OutProjBRefIdeal.nD Cert.OutProjBRefIdeal.τ).loc Cert.OutProjBRefIdeal.main_arg2) = m ((c.tc : Thread Cert.OutProjBRefIdeal.nD Cert.OutProjBRefIdeal.τ).loc Cert.OutProjBRefIdeal.main_arg2)
      ∧ r.2.mem ((c.tc : Thread Cert.OutProjBRefIdeal.nD Cert.OutProjBRefIdeal.τ).loc Cert.OutProjBRefIdeal.main_arg3) = m ((c.tc : Thread Cert.OutProjBRefIdeal.nD Cert.OutProjBRefIdeal.τ).loc Cert.OutProjBRefIdeal.main_arg3))
      ∧ r.2.sem = fun _ => 0)

def quiescent_ProjZba [hProjZba : Cert.ProjZba.Facts] : Prop :=
  ∀ (m : (ℓ : Loc Cert.ProjZba.nD Cert.ProjZba.τ Cert.ProjZba.sig) → Buf (Elt Bits) ℓ) (g : Dev Cert.ProjZba.nD → PrngReg), Pre_ProjZba m →
    θ_run (Cert.ProjZba.defs (F := Bits)) (onTc (τ := Cert.ProjZba.τ) (Cert.ProjZba.main (F := Bits))) ⟨m, fun _ => 0, g⟩ (fun r => (∀ c : Dev Cert.ProjZba.nD,
      r.2.mem ((c.tc : Thread Cert.ProjZba.nD Cert.ProjZba.τ).loc Cert.ProjZba.main_arg0) = m ((c.tc : Thread Cert.ProjZba.nD Cert.ProjZba.τ).loc Cert.ProjZba.main_arg0)
      ∧ r.2.mem ((c.tc : Thread Cert.ProjZba.nD Cert.ProjZba.τ).loc Cert.ProjZba.main_arg1) = m ((c.tc : Thread Cert.ProjZba.nD Cert.ProjZba.τ).loc Cert.ProjZba.main_arg1)
      ∧ r.2.mem ((c.tc : Thread Cert.ProjZba.nD Cert.ProjZba.τ).loc Cert.ProjZba.main_arg2) = m ((c.tc : Thread Cert.ProjZba.nD Cert.ProjZba.τ).loc Cert.ProjZba.main_arg2)
      ∧ r.2.mem ((c.tc : Thread Cert.ProjZba.nD Cert.ProjZba.τ).loc Cert.ProjZba.main_arg3) = m ((c.tc : Thread Cert.ProjZba.nD Cert.ProjZba.τ).loc Cert.ProjZba.main_arg3)
      ∧ r.2.mem ((c.tc : Thread Cert.ProjZba.nD Cert.ProjZba.τ).loc Cert.ProjZba.main_arg4) = m ((c.tc : Thread Cert.ProjZba.nD Cert.ProjZba.τ).loc Cert.ProjZba.main_arg4))
      ∧ r.2.sem = fun _ => 0)

def quiescent_ProjZbaIdeal [hProjZbaIdeal : Cert.ProjZbaIdeal.Facts] : Prop :=
  ∀ (m : (ℓ : Loc Cert.ProjZbaIdeal.nD Cert.ProjZbaIdeal.τ Cert.ProjZbaIdeal.sig) → Buf (Elt Ideal) ℓ) (g : Dev Cert.ProjZbaIdeal.nD → PrngReg), Pre_ProjZbaIdeal m →
    θ_run (Cert.ProjZbaIdeal.defs (F := Ideal)) (onTc (τ := Cert.ProjZbaIdeal.τ) (Cert.ProjZbaIdeal.main (F := Ideal))) ⟨m, fun _ => 0, g⟩ (fun r => (∀ c : Dev Cert.ProjZbaIdeal.nD,
      r.2.mem ((c.tc : Thread Cert.ProjZbaIdeal.nD Cert.ProjZbaIdeal.τ).loc Cert.ProjZbaIdeal.main_arg0) = m ((c.tc : Thread Cert.ProjZbaIdeal.nD Cert.ProjZbaIdeal.τ).loc Cert.ProjZbaIdeal.main_arg0)
      ∧ r.2.mem ((c.tc : Thread Cert.ProjZbaIdeal.nD Cert.ProjZbaIdeal.τ).loc Cert.ProjZbaIdeal.main_arg1) = m ((c.tc : Thread Cert.ProjZbaIdeal.nD Cert.ProjZbaIdeal.τ).loc Cert.ProjZbaIdeal.main_arg1)
      ∧ r.2.mem ((c.tc : Thread Cert.ProjZbaIdeal.nD Cert.ProjZbaIdeal.τ).loc Cert.ProjZbaIdeal.main_arg2) = m ((c.tc : Thread Cert.ProjZbaIdeal.nD Cert.ProjZbaIdeal.τ).loc Cert.ProjZbaIdeal.main_arg2)
      ∧ r.2.mem ((c.tc : Thread Cert.ProjZbaIdeal.nD Cert.ProjZbaIdeal.τ).loc Cert.ProjZbaIdeal.main_arg3) = m ((c.tc : Thread Cert.ProjZbaIdeal.nD Cert.ProjZbaIdeal.τ).loc Cert.ProjZbaIdeal.main_arg3)
      ∧ r.2.mem ((c.tc : Thread Cert.ProjZbaIdeal.nD Cert.ProjZbaIdeal.τ).loc Cert.ProjZbaIdeal.main_arg4) = m ((c.tc : Thread Cert.ProjZbaIdeal.nD Cert.ProjZbaIdeal.τ).loc Cert.ProjZbaIdeal.main_arg4))
      ∧ r.2.sem = fun _ => 0)

def quiescent_ProjZbaRefIdeal [hProjZbaRefIdeal : Cert.ProjZbaRefIdeal.Facts] : Prop :=
  ∀ (m : (ℓ : Loc Cert.ProjZbaRefIdeal.nD Cert.ProjZbaRefIdeal.τ Cert.ProjZbaRefIdeal.sig) → Buf (Elt Ideal) ℓ) (g : Dev Cert.ProjZbaRefIdeal.nD → PrngReg), Pre_ProjZbaRefIdeal m →
    θ_run (Cert.ProjZbaRefIdeal.defs (F := Ideal)) (onTc (τ := Cert.ProjZbaRefIdeal.τ) (Cert.ProjZbaRefIdeal.main (F := Ideal))) ⟨m, fun _ => 0, g⟩ (fun r => (∀ c : Dev Cert.ProjZbaRefIdeal.nD,
      r.2.mem ((c.tc : Thread Cert.ProjZbaRefIdeal.nD Cert.ProjZbaRefIdeal.τ).loc Cert.ProjZbaRefIdeal.main_arg0) = m ((c.tc : Thread Cert.ProjZbaRefIdeal.nD Cert.ProjZbaRefIdeal.τ).loc Cert.ProjZbaRefIdeal.main_arg0)
      ∧ r.2.mem ((c.tc : Thread Cert.ProjZbaRefIdeal.nD Cert.ProjZbaRefIdeal.τ).loc Cert.ProjZbaRefIdeal.main_arg1) = m ((c.tc : Thread Cert.ProjZbaRefIdeal.nD Cert.ProjZbaRefIdeal.τ).loc Cert.ProjZbaRefIdeal.main_arg1)
      ∧ r.2.mem ((c.tc : Thread Cert.ProjZbaRefIdeal.nD Cert.ProjZbaRefIdeal.τ).loc Cert.ProjZbaRefIdeal.main_arg2) = m ((c.tc : Thread Cert.ProjZbaRefIdeal.nD Cert.ProjZbaRefIdeal.τ).loc Cert.ProjZbaRefIdeal.main_arg2)
      ∧ r.2.mem ((c.tc : Thread Cert.ProjZbaRefIdeal.nD Cert.ProjZbaRefIdeal.τ).loc Cert.ProjZbaRefIdeal.main_arg3) = m ((c.tc : Thread Cert.ProjZbaRefIdeal.nD Cert.ProjZbaRefIdeal.τ).loc Cert.ProjZbaRefIdeal.main_arg3)
      ∧ r.2.mem ((c.tc : Thread Cert.ProjZbaRefIdeal.nD Cert.ProjZbaRefIdeal.τ).loc Cert.ProjZbaRefIdeal.main_arg4) = m ((c.tc : Thread Cert.ProjZbaRefIdeal.nD Cert.ProjZbaRefIdeal.τ).loc Cert.ProjZbaRefIdeal.main_arg4))
      ∧ r.2.sem = fun _ => 0)

def quiescent_Unpermute [hUnpermute : Cert.Unpermute.Facts] : Prop :=
  ∀ (m : (ℓ : Loc Cert.Unpermute.nD Cert.Unpermute.τ Cert.Unpermute.sig) → Buf (Elt Bits) ℓ) (g : Dev Cert.Unpermute.nD → PrngReg), Pre_Unpermute m →
    θ_run (Cert.Unpermute.defs (F := Bits)) (onTc (τ := Cert.Unpermute.τ) (Cert.Unpermute.main (F := Bits))) ⟨m, fun _ => 0, g⟩ (fun r => (∀ c : Dev Cert.Unpermute.nD,
      r.2.mem ((c.tc : Thread Cert.Unpermute.nD Cert.Unpermute.τ).loc Cert.Unpermute.main_arg0) = m ((c.tc : Thread Cert.Unpermute.nD Cert.Unpermute.τ).loc Cert.Unpermute.main_arg0))
      ∧ r.2.sem = fun _ => 0)

def quiescent_UnpermuteIdeal [hUnpermuteIdeal : Cert.UnpermuteIdeal.Facts] : Prop :=
  ∀ (m : (ℓ : Loc Cert.UnpermuteIdeal.nD Cert.UnpermuteIdeal.τ Cert.UnpermuteIdeal.sig) → Buf (Elt Ideal) ℓ) (g : Dev Cert.UnpermuteIdeal.nD → PrngReg), Pre_UnpermuteIdeal m →
    θ_run (Cert.UnpermuteIdeal.defs (F := Ideal)) (onTc (τ := Cert.UnpermuteIdeal.τ) (Cert.UnpermuteIdeal.main (F := Ideal))) ⟨m, fun _ => 0, g⟩ (fun r => (∀ c : Dev Cert.UnpermuteIdeal.nD,
      r.2.mem ((c.tc : Thread Cert.UnpermuteIdeal.nD Cert.UnpermuteIdeal.τ).loc Cert.UnpermuteIdeal.main_arg0) = m ((c.tc : Thread Cert.UnpermuteIdeal.nD Cert.UnpermuteIdeal.τ).loc Cert.UnpermuteIdeal.main_arg0))
      ∧ r.2.sem = fun _ => 0)

def quiescent_UnpermuteRefIdeal [hUnpermuteRefIdeal : Cert.UnpermuteRefIdeal.Facts] : Prop :=
  ∀ (m : (ℓ : Loc Cert.UnpermuteRefIdeal.nD Cert.UnpermuteRefIdeal.τ Cert.UnpermuteRefIdeal.sig) → Buf (Elt Ideal) ℓ) (g : Dev Cert.UnpermuteRefIdeal.nD → PrngReg), Pre_UnpermuteRefIdeal m →
    θ_run (Cert.UnpermuteRefIdeal.defs (F := Ideal)) (onTc (τ := Cert.UnpermuteRefIdeal.τ) (Cert.UnpermuteRefIdeal.main (F := Ideal))) ⟨m, fun _ => 0, g⟩ (fun r => (∀ c : Dev Cert.UnpermuteRefIdeal.nD,
      r.2.mem ((c.tc : Thread Cert.UnpermuteRefIdeal.nD Cert.UnpermuteRefIdeal.τ).loc Cert.UnpermuteRefIdeal.main_arg0) = m ((c.tc : Thread Cert.UnpermuteRefIdeal.nD Cert.UnpermuteRefIdeal.τ).loc Cert.UnpermuteRefIdeal.main_arg0))
      ∧ r.2.sem = fun _ => 0)

def quiescent_Permute [hPermute : Cert.Permute.Facts] : Prop :=
  ∀ (m : (ℓ : Loc Cert.Permute.nD Cert.Permute.τ Cert.Permute.sig) → Buf (Elt Bits) ℓ) (g : Dev Cert.Permute.nD → PrngReg), Pre_Permute m →
    θ_run (Cert.Permute.defs (F := Bits)) (onTc (τ := Cert.Permute.τ) (Cert.Permute.main (F := Bits))) ⟨m, fun _ => 0, g⟩ (fun r => (∀ c : Dev Cert.Permute.nD,
      r.2.mem ((c.tc : Thread Cert.Permute.nD Cert.Permute.τ).loc Cert.Permute.main_arg0) = m ((c.tc : Thread Cert.Permute.nD Cert.Permute.τ).loc Cert.Permute.main_arg0))
      ∧ r.2.sem = fun _ => 0)

def quiescent_PermuteIdeal [hPermuteIdeal : Cert.PermuteIdeal.Facts] : Prop :=
  ∀ (m : (ℓ : Loc Cert.PermuteIdeal.nD Cert.PermuteIdeal.τ Cert.PermuteIdeal.sig) → Buf (Elt Ideal) ℓ) (g : Dev Cert.PermuteIdeal.nD → PrngReg), Pre_PermuteIdeal m →
    θ_run (Cert.PermuteIdeal.defs (F := Ideal)) (onTc (τ := Cert.PermuteIdeal.τ) (Cert.PermuteIdeal.main (F := Ideal))) ⟨m, fun _ => 0, g⟩ (fun r => (∀ c : Dev Cert.PermuteIdeal.nD,
      r.2.mem ((c.tc : Thread Cert.PermuteIdeal.nD Cert.PermuteIdeal.τ).loc Cert.PermuteIdeal.main_arg0) = m ((c.tc : Thread Cert.PermuteIdeal.nD Cert.PermuteIdeal.τ).loc Cert.PermuteIdeal.main_arg0))
      ∧ r.2.sem = fun _ => 0)

def quiescent_PermuteRefIdeal [hPermuteRefIdeal : Cert.PermuteRefIdeal.Facts] : Prop :=
  ∀ (m : (ℓ : Loc Cert.PermuteRefIdeal.nD Cert.PermuteRefIdeal.τ Cert.PermuteRefIdeal.sig) → Buf (Elt Ideal) ℓ) (g : Dev Cert.PermuteRefIdeal.nD → PrngReg), Pre_PermuteRefIdeal m →
    θ_run (Cert.PermuteRefIdeal.defs (F := Ideal)) (onTc (τ := Cert.PermuteRefIdeal.τ) (Cert.PermuteRefIdeal.main (F := Ideal))) ⟨m, fun _ => 0, g⟩ (fun r => (∀ c : Dev Cert.PermuteRefIdeal.nD,
      r.2.mem ((c.tc : Thread Cert.PermuteRefIdeal.nD Cert.PermuteRefIdeal.τ).loc Cert.PermuteRefIdeal.main_arg0) = m ((c.tc : Thread Cert.PermuteRefIdeal.nD Cert.PermuteRefIdeal.τ).loc Cert.PermuteRefIdeal.main_arg0))
      ∧ r.2.sem = fun _ => 0)

def quiescent_ModProj [hModProj : Cert.ModProj.Facts] : Prop :=
  ∀ (m : (ℓ : Loc Cert.ModProj.nD Cert.ModProj.τ Cert.ModProj.sig) → Buf (Elt Bits) ℓ) (g : Dev Cert.ModProj.nD → PrngReg), Pre_ModProj m →
    θ_run (Cert.ModProj.defs (F := Bits)) (onTc (τ := Cert.ModProj.τ) (Cert.ModProj.main (F := Bits))) ⟨m, fun _ => 0, g⟩ (fun r => (∀ c : Dev Cert.ModProj.nD,
      r.2.mem ((c.tc : Thread Cert.ModProj.nD Cert.ModProj.τ).loc Cert.ModProj.main_arg0) = m ((c.tc : Thread Cert.ModProj.nD Cert.ModProj.τ).loc Cert.ModProj.main_arg0)
      ∧ r.2.mem ((c.tc : Thread Cert.ModProj.nD Cert.ModProj.τ).loc Cert.ModProj.main_arg1) = m ((c.tc : Thread Cert.ModProj.nD Cert.ModProj.τ).loc Cert.ModProj.main_arg1)
      ∧ r.2.mem ((c.tc : Thread Cert.ModProj.nD Cert.ModProj.τ).loc Cert.ModProj.main_arg2) = m ((c.tc : Thread Cert.ModProj.nD Cert.ModProj.τ).loc Cert.ModProj.main_arg2))
      ∧ r.2.sem = fun _ => 0)

def quiescent_ModProjIdeal [hModProjIdeal : Cert.ModProjIdeal.Facts] : Prop :=
  ∀ (m : (ℓ : Loc Cert.ModProjIdeal.nD Cert.ModProjIdeal.τ Cert.ModProjIdeal.sig) → Buf (Elt Ideal) ℓ) (g : Dev Cert.ModProjIdeal.nD → PrngReg), Pre_ModProjIdeal m →
    θ_run (Cert.ModProjIdeal.defs (F := Ideal)) (onTc (τ := Cert.ModProjIdeal.τ) (Cert.ModProjIdeal.main (F := Ideal))) ⟨m, fun _ => 0, g⟩ (fun r => (∀ c : Dev Cert.ModProjIdeal.nD,
      r.2.mem ((c.tc : Thread Cert.ModProjIdeal.nD Cert.ModProjIdeal.τ).loc Cert.ModProjIdeal.main_arg0) = m ((c.tc : Thread Cert.ModProjIdeal.nD Cert.ModProjIdeal.τ).loc Cert.ModProjIdeal.main_arg0)
      ∧ r.2.mem ((c.tc : Thread Cert.ModProjIdeal.nD Cert.ModProjIdeal.τ).loc Cert.ModProjIdeal.main_arg1) = m ((c.tc : Thread Cert.ModProjIdeal.nD Cert.ModProjIdeal.τ).loc Cert.ModProjIdeal.main_arg1)
      ∧ r.2.mem ((c.tc : Thread Cert.ModProjIdeal.nD Cert.ModProjIdeal.τ).loc Cert.ModProjIdeal.main_arg2) = m ((c.tc : Thread Cert.ModProjIdeal.nD Cert.ModProjIdeal.τ).loc Cert.ModProjIdeal.main_arg2))
      ∧ r.2.sem = fun _ => 0)

def quiescent_ModProjIdeal_pre_finite [hModProjIdeal : Cert.ModProjIdeal.Facts] [hPre_finite : Cert.Pre_finite.Facts] : Prop :=
  ∀ (m : (ℓ : Loc Cert.ModProjIdeal.nD Cert.ModProjIdeal.τ Cert.ModProjIdeal.sig) → Buf (Elt Ideal) ℓ) (g : Dev Cert.ModProjIdeal.nD → PrngReg), Pre_ModProjIdeal_finite m →
    θ_run (Cert.ModProjIdeal.defs (F := Ideal)) (onTc (τ := Cert.ModProjIdeal.τ) (Cert.ModProjIdeal.main (F := Ideal))) ⟨m, fun _ => 0, g⟩ (fun r => (∀ c : Dev Cert.ModProjIdeal.nD,
      r.2.mem ((c.tc : Thread Cert.ModProjIdeal.nD Cert.ModProjIdeal.τ).loc Cert.ModProjIdeal.main_arg0) = m ((c.tc : Thread Cert.ModProjIdeal.nD Cert.ModProjIdeal.τ).loc Cert.ModProjIdeal.main_arg0)
      ∧ r.2.mem ((c.tc : Thread Cert.ModProjIdeal.nD Cert.ModProjIdeal.τ).loc Cert.ModProjIdeal.main_arg1) = m ((c.tc : Thread Cert.ModProjIdeal.nD Cert.ModProjIdeal.τ).loc Cert.ModProjIdeal.main_arg1)
      ∧ r.2.mem ((c.tc : Thread Cert.ModProjIdeal.nD Cert.ModProjIdeal.τ).loc Cert.ModProjIdeal.main_arg2) = m ((c.tc : Thread Cert.ModProjIdeal.nD Cert.ModProjIdeal.τ).loc Cert.ModProjIdeal.main_arg2))
      ∧ r.2.sem = fun _ => 0)

def quiescent_ModProjRefIdeal [hModProjRefIdeal : Cert.ModProjRefIdeal.Facts] : Prop :=
  ∀ (m : (ℓ : Loc Cert.ModProjRefIdeal.nD Cert.ModProjRefIdeal.τ Cert.ModProjRefIdeal.sig) → Buf (Elt Ideal) ℓ) (g : Dev Cert.ModProjRefIdeal.nD → PrngReg), Pre_ModProjRefIdeal m →
    θ_run (Cert.ModProjRefIdeal.defs (F := Ideal)) (onTc (τ := Cert.ModProjRefIdeal.τ) (Cert.ModProjRefIdeal.main (F := Ideal))) ⟨m, fun _ => 0, g⟩ (fun r => (∀ c : Dev Cert.ModProjRefIdeal.nD,
      r.2.mem ((c.tc : Thread Cert.ModProjRefIdeal.nD Cert.ModProjRefIdeal.τ).loc Cert.ModProjRefIdeal.main_arg0) = m ((c.tc : Thread Cert.ModProjRefIdeal.nD Cert.ModProjRefIdeal.τ).loc Cert.ModProjRefIdeal.main_arg0)
      ∧ r.2.mem ((c.tc : Thread Cert.ModProjRefIdeal.nD Cert.ModProjRefIdeal.τ).loc Cert.ModProjRefIdeal.main_arg1) = m ((c.tc : Thread Cert.ModProjRefIdeal.nD Cert.ModProjRefIdeal.τ).loc Cert.ModProjRefIdeal.main_arg1)
      ∧ r.2.mem ((c.tc : Thread Cert.ModProjRefIdeal.nD Cert.ModProjRefIdeal.τ).loc Cert.ModProjRefIdeal.main_arg2) = m ((c.tc : Thread Cert.ModProjRefIdeal.nD Cert.ModProjRefIdeal.τ).loc Cert.ModProjRefIdeal.main_arg2))
      ∧ r.2.sem = fun _ => 0)

def quiescent_ModProjRefIdeal_pre_finite [hModProjRefIdeal : Cert.ModProjRefIdeal.Facts] [hPre_finite : Cert.Pre_finite.Facts] : Prop :=
  ∀ (m : (ℓ : Loc Cert.ModProjRefIdeal.nD Cert.ModProjRefIdeal.τ Cert.ModProjRefIdeal.sig) → Buf (Elt Ideal) ℓ) (g : Dev Cert.ModProjRefIdeal.nD → PrngReg), Pre_ModProjRefIdeal_finite m →
    θ_run (Cert.ModProjRefIdeal.defs (F := Ideal)) (onTc (τ := Cert.ModProjRefIdeal.τ) (Cert.ModProjRefIdeal.main (F := Ideal))) ⟨m, fun _ => 0, g⟩ (fun r => (∀ c : Dev Cert.ModProjRefIdeal.nD,
      r.2.mem ((c.tc : Thread Cert.ModProjRefIdeal.nD Cert.ModProjRefIdeal.τ).loc Cert.ModProjRefIdeal.main_arg0) = m ((c.tc : Thread Cert.ModProjRefIdeal.nD Cert.ModProjRefIdeal.τ).loc Cert.ModProjRefIdeal.main_arg0)
      ∧ r.2.mem ((c.tc : Thread Cert.ModProjRefIdeal.nD Cert.ModProjRefIdeal.τ).loc Cert.ModProjRefIdeal.main_arg1) = m ((c.tc : Thread Cert.ModProjRefIdeal.nD Cert.ModProjRefIdeal.τ).loc Cert.ModProjRefIdeal.main_arg1)
      ∧ r.2.mem ((c.tc : Thread Cert.ModProjRefIdeal.nD Cert.ModProjRefIdeal.τ).loc Cert.ModProjRefIdeal.main_arg2) = m ((c.tc : Thread Cert.ModProjRefIdeal.nD Cert.ModProjRefIdeal.τ).loc Cert.ModProjRefIdeal.main_arg2))
      ∧ r.2.sem = fun _ => 0)

def preserves_OutNorm_OutNormIdeal : Prop :=
  True

def algebraic_OutNormIdeal_OutNormRefIdeal [hOutNormIdeal : Cert.OutNormIdeal.Facts] [hOutNormRefIdeal : Cert.OutNormRefIdeal.Facts] : Prop :=
  ∀ (m : (ℓ : Loc Cert.OutNormIdeal.nD Cert.OutNormIdeal.τ Cert.OutNormIdeal.sig) → Buf (Elt Ideal) ℓ) (g : Dev Cert.OutNormIdeal.nD → PrngReg)
    (m' : (ℓ : Loc Cert.OutNormRefIdeal.nD Cert.OutNormRefIdeal.τ Cert.OutNormRefIdeal.sig) → Buf (Elt Ideal) ℓ) (g' : Dev Cert.OutNormRefIdeal.nD → PrngReg), Pre_OutNormIdeal m →
    (∀ c : Dev Cert.OutNormIdeal.nD,
      m' ((c.tc : Thread Cert.OutNormRefIdeal.nD Cert.OutNormRefIdeal.τ).loc Cert.OutNormRefIdeal.main_arg0) = m ((c.tc : Thread Cert.OutNormIdeal.nD Cert.OutNormIdeal.τ).loc Cert.OutNormIdeal.main_arg0)
      ∧ m' ((c.tc : Thread Cert.OutNormRefIdeal.nD Cert.OutNormRefIdeal.τ).loc Cert.OutNormRefIdeal.main_arg1) = m ((c.tc : Thread Cert.OutNormIdeal.nD Cert.OutNormIdeal.τ).loc Cert.OutNormIdeal.main_arg1)
      ∧ m' ((c.tc : Thread Cert.OutNormRefIdeal.nD Cert.OutNormRefIdeal.τ).loc Cert.OutNormRefIdeal.main_arg2) = m ((c.tc : Thread Cert.OutNormIdeal.nD Cert.OutNormIdeal.τ).loc Cert.OutNormIdeal.main_arg2)
      ∧ m' ((c.tc : Thread Cert.OutNormRefIdeal.nD Cert.OutNormRefIdeal.τ).loc Cert.OutNormRefIdeal.main_arg3) = m ((c.tc : Thread Cert.OutNormIdeal.nD Cert.OutNormIdeal.τ).loc Cert.OutNormIdeal.main_arg3)
      ∧ m' ((c.tc : Thread Cert.OutNormRefIdeal.nD Cert.OutNormRefIdeal.τ).loc Cert.OutNormRefIdeal.main_arg4) = m ((c.tc : Thread Cert.OutNormIdeal.nD Cert.OutNormIdeal.τ).loc Cert.OutNormIdeal.main_arg4)) →
    ∃ (v0 : (c : Dev Cert.OutNormIdeal.nD) → Buf (Elt Ideal) ((c.tc : Thread Cert.OutNormIdeal.nD Cert.OutNormIdeal.τ).loc Cert.OutNormIdeal.main_v3)),
      θ_run (Cert.OutNormIdeal.defs (F := Ideal)) (onTc (τ := Cert.OutNormIdeal.τ) (Cert.OutNormIdeal.main (F := Ideal))) ⟨m, fun _ => 0, g⟩ (fun r => ∀ c : Dev Cert.OutNormIdeal.nD,
          r.2.mem ((c.tc : Thread Cert.OutNormIdeal.nD Cert.OutNormIdeal.τ).loc Cert.OutNormIdeal.main_v3) = v0 c
          ∧ r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
          ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
          ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
          ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3)
          ∧ r.2.mem ((c.tc : Thread Cert.OutNormIdeal.nD Cert.OutNormIdeal.τ).loc Cert.OutNormIdeal.main_arg4) = m ((c.tc : Thread Cert.OutNormIdeal.nD Cert.OutNormIdeal.τ).loc Cert.OutNormIdeal.main_arg4))
      ∧ θ_run (Cert.OutNormRefIdeal.defs (F := Ideal)) (onTc (τ := Cert.OutNormRefIdeal.τ) (Cert.OutNormRefIdeal.main (F := Ideal))) ⟨m', fun _ => 0, g'⟩ (fun r => ∀ c : Dev Cert.OutNormRefIdeal.nD,
          r.2.mem ((c.tc : Thread Cert.OutNormRefIdeal.nD Cert.OutNormRefIdeal.τ).loc Cert.OutNormRefIdeal.main_v20) = v0 c
          ∧ r.2.mem ((c.tc : Thread Cert.OutNormRefIdeal.nD Cert.OutNormRefIdeal.τ).loc Cert.OutNormRefIdeal.main_arg0) = m' ((c.tc : Thread Cert.OutNormRefIdeal.nD Cert.OutNormRefIdeal.τ).loc Cert.OutNormRefIdeal.main_arg0)
          ∧ r.2.mem ((c.tc : Thread Cert.OutNormRefIdeal.nD Cert.OutNormRefIdeal.τ).loc Cert.OutNormRefIdeal.main_arg1) = m' ((c.tc : Thread Cert.OutNormRefIdeal.nD Cert.OutNormRefIdeal.τ).loc Cert.OutNormRefIdeal.main_arg1)
          ∧ r.2.mem ((c.tc : Thread Cert.OutNormRefIdeal.nD Cert.OutNormRefIdeal.τ).loc Cert.OutNormRefIdeal.main_arg2) = m' ((c.tc : Thread Cert.OutNormRefIdeal.nD Cert.OutNormRefIdeal.τ).loc Cert.OutNormRefIdeal.main_arg2)
          ∧ r.2.mem ((c.tc : Thread Cert.OutNormRefIdeal.nD Cert.OutNormRefIdeal.τ).loc Cert.OutNormRefIdeal.main_arg3) = m' ((c.tc : Thread Cert.OutNormRefIdeal.nD Cert.OutNormRefIdeal.τ).loc Cert.OutNormRefIdeal.main_arg3)
          ∧ r.2.mem ((c.tc : Thread Cert.OutNormRefIdeal.nD Cert.OutNormRefIdeal.τ).loc Cert.OutNormRefIdeal.main_arg4) = m' ((c.tc : Thread Cert.OutNormRefIdeal.nD Cert.OutNormRefIdeal.τ).loc Cert.OutNormRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v7) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_ProjQz_ProjQzIdeal : Prop :=
  True

def algebraic_ProjQzIdeal_ProjQzRefIdeal [hProjQzIdeal : Cert.ProjQzIdeal.Facts] [hProjQzRefIdeal : Cert.ProjQzRefIdeal.Facts] : Prop :=
  ∀ (m : (ℓ : Loc Cert.ProjQzIdeal.nD Cert.ProjQzIdeal.τ Cert.ProjQzIdeal.sig) → Buf (Elt Ideal) ℓ) (g : Dev Cert.ProjQzIdeal.nD → PrngReg)
    (m' : (ℓ : Loc Cert.ProjQzRefIdeal.nD Cert.ProjQzRefIdeal.τ Cert.ProjQzRefIdeal.sig) → Buf (Elt Ideal) ℓ) (g' : Dev Cert.ProjQzRefIdeal.nD → PrngReg), Pre_ProjQzIdeal m →
    (∀ c : Dev Cert.ProjQzIdeal.nD,
      m' ((c.tc : Thread Cert.ProjQzRefIdeal.nD Cert.ProjQzRefIdeal.τ).loc Cert.ProjQzRefIdeal.main_arg0) = m ((c.tc : Thread Cert.ProjQzIdeal.nD Cert.ProjQzIdeal.τ).loc Cert.ProjQzIdeal.main_arg0)
      ∧ m' ((c.tc : Thread Cert.ProjQzRefIdeal.nD Cert.ProjQzRefIdeal.τ).loc Cert.ProjQzRefIdeal.main_arg1) = m ((c.tc : Thread Cert.ProjQzIdeal.nD Cert.ProjQzIdeal.τ).loc Cert.ProjQzIdeal.main_arg1)
      ∧ m' ((c.tc : Thread Cert.ProjQzRefIdeal.nD Cert.ProjQzRefIdeal.τ).loc Cert.ProjQzRefIdeal.main_arg2) = m ((c.tc : Thread Cert.ProjQzIdeal.nD Cert.ProjQzIdeal.τ).loc Cert.ProjQzIdeal.main_arg2)
      ∧ m' ((c.tc : Thread Cert.ProjQzRefIdeal.nD Cert.ProjQzRefIdeal.τ).loc Cert.ProjQzRefIdeal.main_arg3) = m ((c.tc : Thread Cert.ProjQzIdeal.nD Cert.ProjQzIdeal.τ).loc Cert.ProjQzIdeal.main_arg3)
      ∧ m' ((c.tc : Thread Cert.ProjQzRefIdeal.nD Cert.ProjQzRefIdeal.τ).loc Cert.ProjQzRefIdeal.main_arg4) = m ((c.tc : Thread Cert.ProjQzIdeal.nD Cert.ProjQzIdeal.τ).loc Cert.ProjQzIdeal.main_arg4)) →
    ∃ (v0 : (c : Dev Cert.ProjQzIdeal.nD) → Buf (Elt Ideal) ((c.tc : Thread Cert.ProjQzIdeal.nD Cert.ProjQzIdeal.τ).loc Cert.ProjQzIdeal.main_v4)),
      θ_run (Cert.ProjQzIdeal.defs (F := Ideal)) (onTc (τ := Cert.ProjQzIdeal.τ) (Cert.ProjQzIdeal.main (F := Ideal))) ⟨m, fun _ => 0, g⟩ (fun r => ∀ c : Dev Cert.ProjQzIdeal.nD,
          r.2.mem ((c.tc : Thread Cert.ProjQzIdeal.nD Cert.ProjQzIdeal.τ).loc Cert.ProjQzIdeal.main_v4) = v0 c
          ∧ r.2.mem ((c.tc : Thread Cert.ProjQzIdeal.nD Cert.ProjQzIdeal.τ).loc Cert.ProjQzIdeal.main_arg0) = m ((c.tc : Thread Cert.ProjQzIdeal.nD Cert.ProjQzIdeal.τ).loc Cert.ProjQzIdeal.main_arg0)
          ∧ r.2.mem ((c.tc : Thread Cert.ProjQzIdeal.nD Cert.ProjQzIdeal.τ).loc Cert.ProjQzIdeal.main_arg1) = m ((c.tc : Thread Cert.ProjQzIdeal.nD Cert.ProjQzIdeal.τ).loc Cert.ProjQzIdeal.main_arg1)
          ∧ r.2.mem ((c.tc : Thread Cert.ProjQzIdeal.nD Cert.ProjQzIdeal.τ).loc Cert.ProjQzIdeal.main_arg2) = m ((c.tc : Thread Cert.ProjQzIdeal.nD Cert.ProjQzIdeal.τ).loc Cert.ProjQzIdeal.main_arg2)
          ∧ r.2.mem ((c.tc : Thread Cert.ProjQzIdeal.nD Cert.ProjQzIdeal.τ).loc Cert.ProjQzIdeal.main_arg3) = m ((c.tc : Thread Cert.ProjQzIdeal.nD Cert.ProjQzIdeal.τ).loc Cert.ProjQzIdeal.main_arg3)
          ∧ r.2.mem ((c.tc : Thread Cert.ProjQzIdeal.nD Cert.ProjQzIdeal.τ).loc Cert.ProjQzIdeal.main_arg4) = m ((c.tc : Thread Cert.ProjQzIdeal.nD Cert.ProjQzIdeal.τ).loc Cert.ProjQzIdeal.main_arg4))
      ∧ θ_run (Cert.ProjQzRefIdeal.defs (F := Ideal)) (onTc (τ := Cert.ProjQzRefIdeal.τ) (Cert.ProjQzRefIdeal.main (F := Ideal))) ⟨m', fun _ => 0, g'⟩ (fun r => ∀ c : Dev Cert.ProjQzRefIdeal.nD,
          r.2.mem ((c.tc : Thread Cert.ProjQzRefIdeal.nD Cert.ProjQzRefIdeal.τ).loc Cert.ProjQzRefIdeal.main_v23) = v0 c
          ∧ r.2.mem ((c.tc : Thread Cert.ProjQzRefIdeal.nD Cert.ProjQzRefIdeal.τ).loc Cert.ProjQzRefIdeal.main_arg0) = m' ((c.tc : Thread Cert.ProjQzRefIdeal.nD Cert.ProjQzRefIdeal.τ).loc Cert.ProjQzRefIdeal.main_arg0)
          ∧ r.2.mem ((c.tc : Thread Cert.ProjQzRefIdeal.nD Cert.ProjQzRefIdeal.τ).loc Cert.ProjQzRefIdeal.main_arg1) = m' ((c.tc : Thread Cert.ProjQzRefIdeal.nD Cert.ProjQzRefIdeal.τ).loc Cert.ProjQzRefIdeal.main_arg1)
          ∧ r.2.mem ((c.tc : Thread Cert.ProjQzRefIdeal.nD Cert.ProjQzRefIdeal.τ).loc Cert.ProjQzRefIdeal.main_arg2) = m' ((c.tc : Thread Cert.ProjQzRefIdeal.nD Cert.ProjQzRefIdeal.τ).loc Cert.ProjQzRefIdeal.main_arg2)
          ∧ r.2.mem ((c.tc : Thread Cert.ProjQzRefIdeal.nD Cert.ProjQzRefIdeal.τ).loc Cert.ProjQzRefIdeal.main_arg3) = m' ((c.tc : Thread Cert.ProjQzRefIdeal.nD Cert.ProjQzRefIdeal.τ).loc Cert.ProjQzRefIdeal.main_arg3)
          ∧ r.2.mem ((c.tc : Thread Cert.ProjQzRefIdeal.nD Cert.ProjQzRefIdeal.τ).loc Cert.ProjQzRefIdeal.main_arg4) = m' ((c.tc : Thread Cert.ProjQzRefIdeal.nD Cert.ProjQzRefIdeal.τ).loc Cert.ProjQzRefIdeal.main_arg4))

def preserves_ProjKv_ProjKvIdeal : Prop :=
  True

def algebraic_ProjKvIdeal_ProjKvRefIdeal [hProjKvIdeal : Cert.ProjKvIdeal.Facts] [hProjKvRefIdeal : Cert.ProjKvRefIdeal.Facts] : Prop :=
  ∀ (m : (ℓ : Loc Cert.ProjKvIdeal.nD Cert.ProjKvIdeal.τ Cert.ProjKvIdeal.sig) → Buf (Elt Ideal) ℓ) (g : Dev Cert.ProjKvIdeal.nD → PrngReg)
    (m' : (ℓ : Loc Cert.ProjKvRefIdeal.nD Cert.ProjKvRefIdeal.τ Cert.ProjKvRefIdeal.sig) → Buf (Elt Ideal) ℓ) (g' : Dev Cert.ProjKvRefIdeal.nD → PrngReg), Pre_ProjKvIdeal m →
    (∀ c : Dev Cert.ProjKvIdeal.nD,
      m' ((c.tc : Thread Cert.ProjKvRefIdeal.nD Cert.ProjKvRefIdeal.τ).loc Cert.ProjKvRefIdeal.main_arg0) = m ((c.tc : Thread Cert.ProjKvIdeal.nD Cert.ProjKvIdeal.τ).loc Cert.ProjKvIdeal.main_arg0)
      ∧ m' ((c.tc : Thread Cert.ProjKvRefIdeal.nD Cert.ProjKvRefIdeal.τ).loc Cert.ProjKvRefIdeal.main_arg1) = m ((c.tc : Thread Cert.ProjKvIdeal.nD Cert.ProjKvIdeal.τ).loc Cert.ProjKvIdeal.main_arg1)
      ∧ m' ((c.tc : Thread Cert.ProjKvRefIdeal.nD Cert.ProjKvRefIdeal.τ).loc Cert.ProjKvRefIdeal.main_arg2) = m ((c.tc : Thread Cert.ProjKvIdeal.nD Cert.ProjKvIdeal.τ).loc Cert.ProjKvIdeal.main_arg2)
      ∧ m' ((c.tc : Thread Cert.ProjKvRefIdeal.nD Cert.ProjKvRefIdeal.τ).loc Cert.ProjKvRefIdeal.main_arg3) = m ((c.tc : Thread Cert.ProjKvIdeal.nD Cert.ProjKvIdeal.τ).loc Cert.ProjKvIdeal.main_arg3)
      ∧ m' ((c.tc : Thread Cert.ProjKvRefIdeal.nD Cert.ProjKvRefIdeal.τ).loc Cert.ProjKvRefIdeal.main_arg4) = m ((c.tc : Thread Cert.ProjKvIdeal.nD Cert.ProjKvIdeal.τ).loc Cert.ProjKvIdeal.main_arg4)) →
    ∃ (v0 : (c : Dev Cert.ProjKvIdeal.nD) → Buf (Elt Ideal) ((c.tc : Thread Cert.ProjKvIdeal.nD Cert.ProjKvIdeal.τ).loc Cert.ProjKvIdeal.main_v5)),
      θ_run (Cert.ProjKvIdeal.defs (F := Ideal)) (onTc (τ := Cert.ProjKvIdeal.τ) (Cert.ProjKvIdeal.main (F := Ideal))) ⟨m, fun _ => 0, g⟩ (fun r => ∀ c : Dev Cert.ProjKvIdeal.nD,
          r.2.mem ((c.tc : Thread Cert.ProjKvIdeal.nD Cert.ProjKvIdeal.τ).loc Cert.ProjKvIdeal.main_v5) = v0 c
          ∧ r.2.mem ((c.tc : Thread Cert.ProjKvIdeal.nD Cert.ProjKvIdeal.τ).loc Cert.ProjKvIdeal.main_arg0) = m ((c.tc : Thread Cert.ProjKvIdeal.nD Cert.ProjKvIdeal.τ).loc Cert.ProjKvIdeal.main_arg0)
          ∧ r.2.mem ((c.tc : Thread Cert.ProjKvIdeal.nD Cert.ProjKvIdeal.τ).loc Cert.ProjKvIdeal.main_arg1) = m ((c.tc : Thread Cert.ProjKvIdeal.nD Cert.ProjKvIdeal.τ).loc Cert.ProjKvIdeal.main_arg1)
          ∧ r.2.mem ((c.tc : Thread Cert.ProjKvIdeal.nD Cert.ProjKvIdeal.τ).loc Cert.ProjKvIdeal.main_arg2) = m ((c.tc : Thread Cert.ProjKvIdeal.nD Cert.ProjKvIdeal.τ).loc Cert.ProjKvIdeal.main_arg2)
          ∧ r.2.mem ((c.tc : Thread Cert.ProjKvIdeal.nD Cert.ProjKvIdeal.τ).loc Cert.ProjKvIdeal.main_arg3) = m ((c.tc : Thread Cert.ProjKvIdeal.nD Cert.ProjKvIdeal.τ).loc Cert.ProjKvIdeal.main_arg3)
          ∧ r.2.mem ((c.tc : Thread Cert.ProjKvIdeal.nD Cert.ProjKvIdeal.τ).loc Cert.ProjKvIdeal.main_arg4) = m ((c.tc : Thread Cert.ProjKvIdeal.nD Cert.ProjKvIdeal.τ).loc Cert.ProjKvIdeal.main_arg4))
      ∧ θ_run (Cert.ProjKvRefIdeal.defs (F := Ideal)) (onTc (τ := Cert.ProjKvRefIdeal.τ) (Cert.ProjKvRefIdeal.main (F := Ideal))) ⟨m', fun _ => 0, g'⟩ (fun r => ∀ c : Dev Cert.ProjKvRefIdeal.nD,
          r.2.mem ((c.tc : Thread Cert.ProjKvRefIdeal.nD Cert.ProjKvRefIdeal.τ).loc Cert.ProjKvRefIdeal.main_v21) = v0 c
          ∧ r.2.mem ((c.tc : Thread Cert.ProjKvRefIdeal.nD Cert.ProjKvRefIdeal.τ).loc Cert.ProjKvRefIdeal.main_arg0) = m' ((c.tc : Thread Cert.ProjKvRefIdeal.nD Cert.ProjKvRefIdeal.τ).loc Cert.ProjKvRefIdeal.main_arg0)
          ∧ r.2.mem ((c.tc : Thread Cert.ProjKvRefIdeal.nD Cert.ProjKvRefIdeal.τ).loc Cert.ProjKvRefIdeal.main_arg1) = m' ((c.tc : Thread Cert.ProjKvRefIdeal.nD Cert.ProjKvRefIdeal.τ).loc Cert.ProjKvRefIdeal.main_arg1)
          ∧ r.2.mem ((c.tc : Thread Cert.ProjKvRefIdeal.nD Cert.ProjKvRefIdeal.τ).loc Cert.ProjKvRefIdeal.main_arg2) = m' ((c.tc : Thread Cert.ProjKvRefIdeal.nD Cert.ProjKvRefIdeal.τ).loc Cert.ProjKvRefIdeal.main_arg2)
          ∧ r.2.mem ((c.tc : Thread Cert.ProjKvRefIdeal.nD Cert.ProjKvRefIdeal.τ).loc Cert.ProjKvRefIdeal.main_arg3) = m' ((c.tc : Thread Cert.ProjKvRefIdeal.nD Cert.ProjKvRefIdeal.τ).loc Cert.ProjKvRefIdeal.main_arg3)
          ∧ r.2.mem ((c.tc : Thread Cert.ProjKvRefIdeal.nD Cert.ProjKvRefIdeal.τ).loc Cert.ProjKvRefIdeal.main_arg4) = m' ((c.tc : Thread Cert.ProjKvRefIdeal.nD Cert.ProjKvRefIdeal.τ).loc Cert.ProjKvRefIdeal.main_arg4))

def preserves_ProjConv_ProjConvIdeal : Prop :=
  True

def algebraic_ProjConvIdeal_ProjConvRefIdeal [hProjConvIdeal : Cert.ProjConvIdeal.Facts] [hProjConvRefIdeal : Cert.ProjConvRefIdeal.Facts] : Prop :=
  ∀ (m : (ℓ : Loc Cert.ProjConvIdeal.nD Cert.ProjConvIdeal.τ Cert.ProjConvIdeal.sig) → Buf (Elt Ideal) ℓ) (g : Dev Cert.ProjConvIdeal.nD → PrngReg)
    (m' : (ℓ : Loc Cert.ProjConvRefIdeal.nD Cert.ProjConvRefIdeal.τ Cert.ProjConvRefIdeal.sig) → Buf (Elt Ideal) ℓ) (g' : Dev Cert.ProjConvRefIdeal.nD → PrngReg), Pre_ProjConvIdeal m →
    (∀ c : Dev Cert.ProjConvIdeal.nD,
      m' ((c.tc : Thread Cert.ProjConvRefIdeal.nD Cert.ProjConvRefIdeal.τ).loc Cert.ProjConvRefIdeal.main_arg0) = m ((c.tc : Thread Cert.ProjConvIdeal.nD Cert.ProjConvIdeal.τ).loc Cert.ProjConvIdeal.main_arg0)
      ∧ m' ((c.tc : Thread Cert.ProjConvRefIdeal.nD Cert.ProjConvRefIdeal.τ).loc Cert.ProjConvRefIdeal.main_arg1) = m ((c.tc : Thread Cert.ProjConvIdeal.nD Cert.ProjConvIdeal.τ).loc Cert.ProjConvIdeal.main_arg1)
      ∧ m' ((c.tc : Thread Cert.ProjConvRefIdeal.nD Cert.ProjConvRefIdeal.τ).loc Cert.ProjConvRefIdeal.main_arg2) = m ((c.tc : Thread Cert.ProjConvIdeal.nD Cert.ProjConvIdeal.τ).loc Cert.ProjConvIdeal.main_arg2)
      ∧ m' ((c.tc : Thread Cert.ProjConvRefIdeal.nD Cert.ProjConvRefIdeal.τ).loc Cert.ProjConvRefIdeal.main_arg3) = m ((c.tc : Thread Cert.ProjConvIdeal.nD Cert.ProjConvIdeal.τ).loc Cert.ProjConvIdeal.main_arg3)
      ∧ m' ((c.tc : Thread Cert.ProjConvRefIdeal.nD Cert.ProjConvRefIdeal.τ).loc Cert.ProjConvRefIdeal.main_arg4) = m ((c.tc : Thread Cert.ProjConvIdeal.nD Cert.ProjConvIdeal.τ).loc Cert.ProjConvIdeal.main_arg4)
      ∧ m' ((c.tc : Thread Cert.ProjConvRefIdeal.nD Cert.ProjConvRefIdeal.τ).loc Cert.ProjConvRefIdeal.main_arg5) = m ((c.tc : Thread Cert.ProjConvIdeal.nD Cert.ProjConvIdeal.τ).loc Cert.ProjConvIdeal.main_arg5)) →
    ∃ (v0 : (c : Dev Cert.ProjConvIdeal.nD) → Buf (Elt Ideal) ((c.tc : Thread Cert.ProjConvIdeal.nD Cert.ProjConvIdeal.τ).loc Cert.ProjConvIdeal.main_v6)),
      θ_run (Cert.ProjConvIdeal.defs (F := Ideal)) (onTc (τ := Cert.ProjConvIdeal.τ) (Cert.ProjConvIdeal.main (F := Ideal))) ⟨m, fun _ => 0, g⟩ (fun r => ∀ c : Dev Cert.ProjConvIdeal.nD,
          r.2.mem ((c.tc : Thread Cert.ProjConvIdeal.nD Cert.ProjConvIdeal.τ).loc Cert.ProjConvIdeal.main_v6) = v0 c
          ∧ r.2.mem ((c.tc : Thread Cert.ProjConvIdeal.nD Cert.ProjConvIdeal.τ).loc Cert.ProjConvIdeal.main_arg0) = m ((c.tc : Thread Cert.ProjConvIdeal.nD Cert.ProjConvIdeal.τ).loc Cert.ProjConvIdeal.main_arg0)
          ∧ r.2.mem ((c.tc : Thread Cert.ProjConvIdeal.nD Cert.ProjConvIdeal.τ).loc Cert.ProjConvIdeal.main_arg1) = m ((c.tc : Thread Cert.ProjConvIdeal.nD Cert.ProjConvIdeal.τ).loc Cert.ProjConvIdeal.main_arg1)
          ∧ r.2.mem ((c.tc : Thread Cert.ProjConvIdeal.nD Cert.ProjConvIdeal.τ).loc Cert.ProjConvIdeal.main_arg2) = m ((c.tc : Thread Cert.ProjConvIdeal.nD Cert.ProjConvIdeal.τ).loc Cert.ProjConvIdeal.main_arg2)
          ∧ r.2.mem ((c.tc : Thread Cert.ProjConvIdeal.nD Cert.ProjConvIdeal.τ).loc Cert.ProjConvIdeal.main_arg3) = m ((c.tc : Thread Cert.ProjConvIdeal.nD Cert.ProjConvIdeal.τ).loc Cert.ProjConvIdeal.main_arg3)
          ∧ r.2.mem ((c.tc : Thread Cert.ProjConvIdeal.nD Cert.ProjConvIdeal.τ).loc Cert.ProjConvIdeal.main_arg4) = m ((c.tc : Thread Cert.ProjConvIdeal.nD Cert.ProjConvIdeal.τ).loc Cert.ProjConvIdeal.main_arg4)
          ∧ r.2.mem ((c.tc : Thread Cert.ProjConvIdeal.nD Cert.ProjConvIdeal.τ).loc Cert.ProjConvIdeal.main_arg5) = m ((c.tc : Thread Cert.ProjConvIdeal.nD Cert.ProjConvIdeal.τ).loc Cert.ProjConvIdeal.main_arg5))
      ∧ θ_run (Cert.ProjConvRefIdeal.defs (F := Ideal)) (onTc (τ := Cert.ProjConvRefIdeal.τ) (Cert.ProjConvRefIdeal.main (F := Ideal))) ⟨m', fun _ => 0, g'⟩ (fun r => ∀ c : Dev Cert.ProjConvRefIdeal.nD,
          r.2.mem ((c.tc : Thread Cert.ProjConvRefIdeal.nD Cert.ProjConvRefIdeal.τ).loc Cert.ProjConvRefIdeal.main_v78) = v0 c
          ∧ r.2.mem ((c.tc : Thread Cert.ProjConvRefIdeal.nD Cert.ProjConvRefIdeal.τ).loc Cert.ProjConvRefIdeal.main_arg0) = m' ((c.tc : Thread Cert.ProjConvRefIdeal.nD Cert.ProjConvRefIdeal.τ).loc Cert.ProjConvRefIdeal.main_arg0)
          ∧ r.2.mem ((c.tc : Thread Cert.ProjConvRefIdeal.nD Cert.ProjConvRefIdeal.τ).loc Cert.ProjConvRefIdeal.main_arg1) = m' ((c.tc : Thread Cert.ProjConvRefIdeal.nD Cert.ProjConvRefIdeal.τ).loc Cert.ProjConvRefIdeal.main_arg1)
          ∧ r.2.mem ((c.tc : Thread Cert.ProjConvRefIdeal.nD Cert.ProjConvRefIdeal.τ).loc Cert.ProjConvRefIdeal.main_arg2) = m' ((c.tc : Thread Cert.ProjConvRefIdeal.nD Cert.ProjConvRefIdeal.τ).loc Cert.ProjConvRefIdeal.main_arg2)
          ∧ r.2.mem ((c.tc : Thread Cert.ProjConvRefIdeal.nD Cert.ProjConvRefIdeal.τ).loc Cert.ProjConvRefIdeal.main_arg3) = m' ((c.tc : Thread Cert.ProjConvRefIdeal.nD Cert.ProjConvRefIdeal.τ).loc Cert.ProjConvRefIdeal.main_arg3)
          ∧ r.2.mem ((c.tc : Thread Cert.ProjConvRefIdeal.nD Cert.ProjConvRefIdeal.τ).loc Cert.ProjConvRefIdeal.main_arg4) = m' ((c.tc : Thread Cert.ProjConvRefIdeal.nD Cert.ProjConvRefIdeal.τ).loc Cert.ProjConvRefIdeal.main_arg4)
          ∧ r.2.mem ((c.tc : Thread Cert.ProjConvRefIdeal.nD Cert.ProjConvRefIdeal.τ).loc Cert.ProjConvRefIdeal.main_arg5) = m' ((c.tc : Thread Cert.ProjConvRefIdeal.nD Cert.ProjConvRefIdeal.τ).loc Cert.ProjConvRefIdeal.main_arg5))

def preserves_OutProjB_OutProjBIdeal : Prop :=
  True

def algebraic_OutProjBIdeal_OutProjBRefIdeal [hOutProjBIdeal : Cert.OutProjBIdeal.Facts] [hOutProjBRefIdeal : Cert.OutProjBRefIdeal.Facts] : Prop :=
  ∀ (m : (ℓ : Loc Cert.OutProjBIdeal.nD Cert.OutProjBIdeal.τ Cert.OutProjBIdeal.sig) → Buf (Elt Ideal) ℓ) (g : Dev Cert.OutProjBIdeal.nD → PrngReg)
    (m' : (ℓ : Loc Cert.OutProjBRefIdeal.nD Cert.OutProjBRefIdeal.τ Cert.OutProjBRefIdeal.sig) → Buf (Elt Ideal) ℓ) (g' : Dev Cert.OutProjBRefIdeal.nD → PrngReg), Pre_OutProjBIdeal m →
    (∀ c : Dev Cert.OutProjBIdeal.nD,
      m' ((c.tc : Thread Cert.OutProjBRefIdeal.nD Cert.OutProjBRefIdeal.τ).loc Cert.OutProjBRefIdeal.main_arg0) = m ((c.tc : Thread Cert.OutProjBIdeal.nD Cert.OutProjBIdeal.τ).loc Cert.OutProjBIdeal.main_arg0)
      ∧ m' ((c.tc : Thread Cert.OutProjBRefIdeal.nD Cert.OutProjBRefIdeal.τ).loc Cert.OutProjBRefIdeal.main_arg1) = m ((c.tc : Thread Cert.OutProjBIdeal.nD Cert.OutProjBIdeal.τ).loc Cert.OutProjBIdeal.main_arg1)
      ∧ m' ((c.tc : Thread Cert.OutProjBRefIdeal.nD Cert.OutProjBRefIdeal.τ).loc Cert.OutProjBRefIdeal.main_arg2) = m ((c.tc : Thread Cert.OutProjBIdeal.nD Cert.OutProjBIdeal.τ).loc Cert.OutProjBIdeal.main_arg2)
      ∧ m' ((c.tc : Thread Cert.OutProjBRefIdeal.nD Cert.OutProjBRefIdeal.τ).loc Cert.OutProjBRefIdeal.main_arg3) = m ((c.tc : Thread Cert.OutProjBIdeal.nD Cert.OutProjBIdeal.τ).loc Cert.OutProjBIdeal.main_arg3)) →
    ∃ (v0 : (c : Dev Cert.OutProjBIdeal.nD) → Buf (Elt Ideal) ((c.tc : Thread Cert.OutProjBIdeal.nD Cert.OutProjBIdeal.τ).loc Cert.OutProjBIdeal.main_v2)),
      θ_run (Cert.OutProjBIdeal.defs (F := Ideal)) (onTc (τ := Cert.OutProjBIdeal.τ) (Cert.OutProjBIdeal.main (F := Ideal))) ⟨m, fun _ => 0, g⟩ (fun r => ∀ c : Dev Cert.OutProjBIdeal.nD,
          r.2.mem ((c.tc : Thread Cert.OutProjBIdeal.nD Cert.OutProjBIdeal.τ).loc Cert.OutProjBIdeal.main_v2) = v0 c
          ∧ r.2.mem ((c.tc : Thread Cert.OutProjBIdeal.nD Cert.OutProjBIdeal.τ).loc Cert.OutProjBIdeal.main_arg0) = m ((c.tc : Thread Cert.OutProjBIdeal.nD Cert.OutProjBIdeal.τ).loc Cert.OutProjBIdeal.main_arg0)
          ∧ r.2.mem ((c.tc : Thread Cert.OutProjBIdeal.nD Cert.OutProjBIdeal.τ).loc Cert.OutProjBIdeal.main_arg1) = m ((c.tc : Thread Cert.OutProjBIdeal.nD Cert.OutProjBIdeal.τ).loc Cert.OutProjBIdeal.main_arg1)
          ∧ r.2.mem ((c.tc : Thread Cert.OutProjBIdeal.nD Cert.OutProjBIdeal.τ).loc Cert.OutProjBIdeal.main_arg2) = m ((c.tc : Thread Cert.OutProjBIdeal.nD Cert.OutProjBIdeal.τ).loc Cert.OutProjBIdeal.main_arg2)
          ∧ r.2.mem ((c.tc : Thread Cert.OutProjBIdeal.nD Cert.OutProjBIdeal.τ).loc Cert.OutProjBIdeal.main_arg3) = m ((c.tc : Thread Cert.OutProjBIdeal.nD Cert.OutProjBIdeal.τ).loc Cert.OutProjBIdeal.main_arg3))
      ∧ θ_run (Cert.OutProjBRefIdeal.defs (F := Ideal)) (onTc (τ := Cert.OutProjBRefIdeal.τ) (Cert.OutProjBRefIdeal.main (F := Ideal))) ⟨m', fun _ => 0, g'⟩ (fun r => ∀ c : Dev Cert.OutProjBRefIdeal.nD,
          r.2.mem ((c.tc : Thread Cert.OutProjBRefIdeal.nD Cert.OutProjBRefIdeal.τ).loc Cert.OutProjBRefIdeal.main_v7) = v0 c
          ∧ r.2.mem ((c.tc : Thread Cert.OutProjBRefIdeal.nD Cert.OutProjBRefIdeal.τ).loc Cert.OutProjBRefIdeal.main_arg0) = m' ((c.tc : Thread Cert.OutProjBRefIdeal.nD Cert.OutProjBRefIdeal.τ).loc Cert.OutProjBRefIdeal.main_arg0)
          ∧ r.2.mem ((c.tc : Thread Cert.OutProjBRefIdeal.nD Cert.OutProjBRefIdeal.τ).loc Cert.OutProjBRefIdeal.main_arg1) = m' ((c.tc : Thread Cert.OutProjBRefIdeal.nD Cert.OutProjBRefIdeal.τ).loc Cert.OutProjBRefIdeal.main_arg1)
          ∧ r.2.mem ((c.tc : Thread Cert.OutProjBRefIdeal.nD Cert.OutProjBRefIdeal.τ).loc Cert.OutProjBRefIdeal.main_arg2) = m' ((c.tc : Thread Cert.OutProjBRefIdeal.nD Cert.OutProjBRefIdeal.τ).loc Cert.OutProjBRefIdeal.main_arg2)
          ∧ r.2.mem ((c.tc : Thread Cert.OutProjBRefIdeal.nD Cert.OutProjBRefIdeal.τ).loc Cert.OutProjBRefIdeal.main_arg3) = m' ((c.tc : Thread Cert.OutProjBRefIdeal.nD Cert.OutProjBRefIdeal.τ).loc Cert.OutProjBRefIdeal.main_arg3))

def preserves_ProjZba_ProjZbaIdeal : Prop :=
  True

def algebraic_ProjZbaIdeal_ProjZbaRefIdeal [hProjZbaIdeal : Cert.ProjZbaIdeal.Facts] [hProjZbaRefIdeal : Cert.ProjZbaRefIdeal.Facts] : Prop :=
  ∀ (m : (ℓ : Loc Cert.ProjZbaIdeal.nD Cert.ProjZbaIdeal.τ Cert.ProjZbaIdeal.sig) → Buf (Elt Ideal) ℓ) (g : Dev Cert.ProjZbaIdeal.nD → PrngReg)
    (m' : (ℓ : Loc Cert.ProjZbaRefIdeal.nD Cert.ProjZbaRefIdeal.τ Cert.ProjZbaRefIdeal.sig) → Buf (Elt Ideal) ℓ) (g' : Dev Cert.ProjZbaRefIdeal.nD → PrngReg), Pre_ProjZbaIdeal m →
    (∀ c : Dev Cert.ProjZbaIdeal.nD,
      m' ((c.tc : Thread Cert.ProjZbaRefIdeal.nD Cert.ProjZbaRefIdeal.τ).loc Cert.ProjZbaRefIdeal.main_arg0) = m ((c.tc : Thread Cert.ProjZbaIdeal.nD Cert.ProjZbaIdeal.τ).loc Cert.ProjZbaIdeal.main_arg0)
      ∧ m' ((c.tc : Thread Cert.ProjZbaRefIdeal.nD Cert.ProjZbaRefIdeal.τ).loc Cert.ProjZbaRefIdeal.main_arg1) = m ((c.tc : Thread Cert.ProjZbaIdeal.nD Cert.ProjZbaIdeal.τ).loc Cert.ProjZbaIdeal.main_arg1)
      ∧ m' ((c.tc : Thread Cert.ProjZbaRefIdeal.nD Cert.ProjZbaRefIdeal.τ).loc Cert.ProjZbaRefIdeal.main_arg2) = m ((c.tc : Thread Cert.ProjZbaIdeal.nD Cert.ProjZbaIdeal.τ).loc Cert.ProjZbaIdeal.main_arg2)
      ∧ m' ((c.tc : Thread Cert.ProjZbaRefIdeal.nD Cert.ProjZbaRefIdeal.τ).loc Cert.ProjZbaRefIdeal.main_arg3) = m ((c.tc : Thread Cert.ProjZbaIdeal.nD Cert.ProjZbaIdeal.τ).loc Cert.ProjZbaIdeal.main_arg3)
      ∧ m' ((c.tc : Thread Cert.ProjZbaRefIdeal.nD Cert.ProjZbaRefIdeal.τ).loc Cert.ProjZbaRefIdeal.main_arg4) = m ((c.tc : Thread Cert.ProjZbaIdeal.nD Cert.ProjZbaIdeal.τ).loc Cert.ProjZbaIdeal.main_arg4)) →
    ∃ (v0 : (c : Dev Cert.ProjZbaIdeal.nD) → Buf (Elt Ideal) ((c.tc : Thread Cert.ProjZbaIdeal.nD Cert.ProjZbaIdeal.τ).loc Cert.ProjZbaIdeal.main_v7_0)) (v1 : (c : Dev Cert.ProjZbaIdeal.nD) → Buf (Elt Ideal) ((c.tc : Thread Cert.ProjZbaIdeal.nD Cert.ProjZbaIdeal.τ).loc Cert.ProjZbaIdeal.main_v7_1)),
      θ_run (Cert.ProjZbaIdeal.defs (F := Ideal)) (onTc (τ := Cert.ProjZbaIdeal.τ) (Cert.ProjZbaIdeal.main (F := Ideal))) ⟨m, fun _ => 0, g⟩ (fun r => ∀ c : Dev Cert.ProjZbaIdeal.nD,
          r.2.mem ((c.tc : Thread Cert.ProjZbaIdeal.nD Cert.ProjZbaIdeal.τ).loc Cert.ProjZbaIdeal.main_v7_0) = v0 c
          ∧ r.2.mem ((c.tc : Thread Cert.ProjZbaIdeal.nD Cert.ProjZbaIdeal.τ).loc Cert.ProjZbaIdeal.main_v7_1) = v1 c
          ∧ r.2.mem ((c.tc : Thread Cert.ProjZbaIdeal.nD Cert.ProjZbaIdeal.τ).loc Cert.ProjZbaIdeal.main_arg0) = m ((c.tc : Thread Cert.ProjZbaIdeal.nD Cert.ProjZbaIdeal.τ).loc Cert.ProjZbaIdeal.main_arg0)
          ∧ r.2.mem ((c.tc : Thread Cert.ProjZbaIdeal.nD Cert.ProjZbaIdeal.τ).loc Cert.ProjZbaIdeal.main_arg1) = m ((c.tc : Thread Cert.ProjZbaIdeal.nD Cert.ProjZbaIdeal.τ).loc Cert.ProjZbaIdeal.main_arg1)
          ∧ r.2.mem ((c.tc : Thread Cert.ProjZbaIdeal.nD Cert.ProjZbaIdeal.τ).loc Cert.ProjZbaIdeal.main_arg2) = m ((c.tc : Thread Cert.ProjZbaIdeal.nD Cert.ProjZbaIdeal.τ).loc Cert.ProjZbaIdeal.main_arg2)
          ∧ r.2.mem ((c.tc : Thread Cert.ProjZbaIdeal.nD Cert.ProjZbaIdeal.τ).loc Cert.ProjZbaIdeal.main_arg3) = m ((c.tc : Thread Cert.ProjZbaIdeal.nD Cert.ProjZbaIdeal.τ).loc Cert.ProjZbaIdeal.main_arg3)
          ∧ r.2.mem ((c.tc : Thread Cert.ProjZbaIdeal.nD Cert.ProjZbaIdeal.τ).loc Cert.ProjZbaIdeal.main_arg4) = m ((c.tc : Thread Cert.ProjZbaIdeal.nD Cert.ProjZbaIdeal.τ).loc Cert.ProjZbaIdeal.main_arg4))
      ∧ θ_run (Cert.ProjZbaRefIdeal.defs (F := Ideal)) (onTc (τ := Cert.ProjZbaRefIdeal.τ) (Cert.ProjZbaRefIdeal.main (F := Ideal))) ⟨m', fun _ => 0, g'⟩ (fun r => ∀ c : Dev Cert.ProjZbaRefIdeal.nD,
          r.2.mem ((c.tc : Thread Cert.ProjZbaRefIdeal.nD Cert.ProjZbaRefIdeal.τ).loc Cert.ProjZbaRefIdeal.main_v24) = v0 c
          ∧ r.2.mem ((c.tc : Thread Cert.ProjZbaRefIdeal.nD Cert.ProjZbaRefIdeal.τ).loc Cert.ProjZbaRefIdeal.main_v26) = v1 c
          ∧ r.2.mem ((c.tc : Thread Cert.ProjZbaRefIdeal.nD Cert.ProjZbaRefIdeal.τ).loc Cert.ProjZbaRefIdeal.main_arg0) = m' ((c.tc : Thread Cert.ProjZbaRefIdeal.nD Cert.ProjZbaRefIdeal.τ).loc Cert.ProjZbaRefIdeal.main_arg0)
          ∧ r.2.mem ((c.tc : Thread Cert.ProjZbaRefIdeal.nD Cert.ProjZbaRefIdeal.τ).loc Cert.ProjZbaRefIdeal.main_arg1) = m' ((c.tc : Thread Cert.ProjZbaRefIdeal.nD Cert.ProjZbaRefIdeal.τ).loc Cert.ProjZbaRefIdeal.main_arg1)
          ∧ r.2.mem ((c.tc : Thread Cert.ProjZbaRefIdeal.nD Cert.ProjZbaRefIdeal.τ).loc Cert.ProjZbaRefIdeal.main_arg2) = m' ((c.tc : Thread Cert.ProjZbaRefIdeal.nD Cert.ProjZbaRefIdeal.τ).loc Cert.ProjZbaRefIdeal.main_arg2)
          ∧ r.2.mem ((c.tc : Thread Cert.ProjZbaRefIdeal.nD Cert.ProjZbaRefIdeal.τ).loc Cert.ProjZbaRefIdeal.main_arg3) = m' ((c.tc : Thread Cert.ProjZbaRefIdeal.nD Cert.ProjZbaRefIdeal.τ).loc Cert.ProjZbaRefIdeal.main_arg3)
          ∧ r.2.mem ((c.tc : Thread Cert.ProjZbaRefIdeal.nD Cert.ProjZbaRefIdeal.τ).loc Cert.ProjZbaRefIdeal.main_arg4) = m' ((c.tc : Thread Cert.ProjZbaRefIdeal.nD Cert.ProjZbaRefIdeal.τ).loc Cert.ProjZbaRefIdeal.main_arg4))

def preserves_Unpermute_UnpermuteIdeal : Prop :=
  True

def algebraic_UnpermuteIdeal_UnpermuteRefIdeal [hUnpermuteIdeal : Cert.UnpermuteIdeal.Facts] [hUnpermuteRefIdeal : Cert.UnpermuteRefIdeal.Facts] : Prop :=
  ∀ (m : (ℓ : Loc Cert.UnpermuteIdeal.nD Cert.UnpermuteIdeal.τ Cert.UnpermuteIdeal.sig) → Buf (Elt Ideal) ℓ) (g : Dev Cert.UnpermuteIdeal.nD → PrngReg)
    (m' : (ℓ : Loc Cert.UnpermuteRefIdeal.nD Cert.UnpermuteRefIdeal.τ Cert.UnpermuteRefIdeal.sig) → Buf (Elt Ideal) ℓ) (g' : Dev Cert.UnpermuteRefIdeal.nD → PrngReg), Pre_UnpermuteIdeal m →
    (∀ c : Dev Cert.UnpermuteIdeal.nD,
      m' ((c.tc : Thread Cert.UnpermuteRefIdeal.nD Cert.UnpermuteRefIdeal.τ).loc Cert.UnpermuteRefIdeal.main_arg0) = m ((c.tc : Thread Cert.UnpermuteIdeal.nD Cert.UnpermuteIdeal.τ).loc Cert.UnpermuteIdeal.main_arg0)) →
    ∃ (v0 : (c : Dev Cert.UnpermuteIdeal.nD) → Buf (Elt Ideal) ((c.tc : Thread Cert.UnpermuteIdeal.nD Cert.UnpermuteIdeal.τ).loc Cert.UnpermuteIdeal.main_v0)),
      θ_run (Cert.UnpermuteIdeal.defs (F := Ideal)) (onTc (τ := Cert.UnpermuteIdeal.τ) (Cert.UnpermuteIdeal.main (F := Ideal))) ⟨m, fun _ => 0, g⟩ (fun r => ∀ c : Dev Cert.UnpermuteIdeal.nD,
          r.2.mem ((c.tc : Thread Cert.UnpermuteIdeal.nD Cert.UnpermuteIdeal.τ).loc Cert.UnpermuteIdeal.main_v0) = v0 c
          ∧ r.2.mem ((c.tc : Thread Cert.UnpermuteIdeal.nD Cert.UnpermuteIdeal.τ).loc Cert.UnpermuteIdeal.main_arg0) = m ((c.tc : Thread Cert.UnpermuteIdeal.nD Cert.UnpermuteIdeal.τ).loc Cert.UnpermuteIdeal.main_arg0))
      ∧ θ_run (Cert.UnpermuteRefIdeal.defs (F := Ideal)) (onTc (τ := Cert.UnpermuteRefIdeal.τ) (Cert.UnpermuteRefIdeal.main (F := Ideal))) ⟨m', fun _ => 0, g'⟩ (fun r => ∀ c : Dev Cert.UnpermuteRefIdeal.nD,
          r.2.mem ((c.tc : Thread Cert.UnpermuteRefIdeal.nD Cert.UnpermuteRefIdeal.τ).loc Cert.UnpermuteRefIdeal.main_v2) = v0 c
          ∧ r.2.mem ((c.tc : Thread Cert.UnpermuteRefIdeal.nD Cert.UnpermuteRefIdeal.τ).loc Cert.UnpermuteRefIdeal.main_arg0) = m' ((c.tc : Thread Cert.UnpermuteRefIdeal.nD Cert.UnpermuteRefIdeal.τ).loc Cert.UnpermuteRefIdeal.main_arg0))

def preserves_Permute_PermuteIdeal : Prop :=
  True

def algebraic_PermuteIdeal_PermuteRefIdeal [hPermuteIdeal : Cert.PermuteIdeal.Facts] [hPermuteRefIdeal : Cert.PermuteRefIdeal.Facts] : Prop :=
  ∀ (m : (ℓ : Loc Cert.PermuteIdeal.nD Cert.PermuteIdeal.τ Cert.PermuteIdeal.sig) → Buf (Elt Ideal) ℓ) (g : Dev Cert.PermuteIdeal.nD → PrngReg)
    (m' : (ℓ : Loc Cert.PermuteRefIdeal.nD Cert.PermuteRefIdeal.τ Cert.PermuteRefIdeal.sig) → Buf (Elt Ideal) ℓ) (g' : Dev Cert.PermuteRefIdeal.nD → PrngReg), Pre_PermuteIdeal m →
    (∀ c : Dev Cert.PermuteIdeal.nD,
      m' ((c.tc : Thread Cert.PermuteRefIdeal.nD Cert.PermuteRefIdeal.τ).loc Cert.PermuteRefIdeal.main_arg0) = m ((c.tc : Thread Cert.PermuteIdeal.nD Cert.PermuteIdeal.τ).loc Cert.PermuteIdeal.main_arg0)) →
    ∃ (v0 : (c : Dev Cert.PermuteIdeal.nD) → Buf (Elt Ideal) ((c.tc : Thread Cert.PermuteIdeal.nD Cert.PermuteIdeal.τ).loc Cert.PermuteIdeal.main_v0)),
      θ_run (Cert.PermuteIdeal.defs (F := Ideal)) (onTc (τ := Cert.PermuteIdeal.τ) (Cert.PermuteIdeal.main (F := Ideal))) ⟨m, fun _ => 0, g⟩ (fun r => ∀ c : Dev Cert.PermuteIdeal.nD,
          r.2.mem ((c.tc : Thread Cert.PermuteIdeal.nD Cert.PermuteIdeal.τ).loc Cert.PermuteIdeal.main_v0) = v0 c
          ∧ r.2.mem ((c.tc : Thread Cert.PermuteIdeal.nD Cert.PermuteIdeal.τ).loc Cert.PermuteIdeal.main_arg0) = m ((c.tc : Thread Cert.PermuteIdeal.nD Cert.PermuteIdeal.τ).loc Cert.PermuteIdeal.main_arg0))
      ∧ θ_run (Cert.PermuteRefIdeal.defs (F := Ideal)) (onTc (τ := Cert.PermuteRefIdeal.τ) (Cert.PermuteRefIdeal.main (F := Ideal))) ⟨m', fun _ => 0, g'⟩ (fun r => ∀ c : Dev Cert.PermuteRefIdeal.nD,
          r.2.mem ((c.tc : Thread Cert.PermuteRefIdeal.nD Cert.PermuteRefIdeal.τ).loc Cert.PermuteRefIdeal.main_v2) = v0 c
          ∧ r.2.mem ((c.tc : Thread Cert.PermuteRefIdeal.nD Cert.PermuteRefIdeal.τ).loc Cert.PermuteRefIdeal.main_arg0) = m' ((c.tc : Thread Cert.PermuteRefIdeal.nD Cert.PermuteRefIdeal.τ).loc Cert.PermuteRefIdeal.main_arg0))

def preserves_ModProj_ModProjIdeal : Prop :=
  True

def algebraic_ModProjIdeal_ModProjRefIdeal_pre_finite [hModProjIdeal : Cert.ModProjIdeal.Facts] [hModProjRefIdeal : Cert.ModProjRefIdeal.Facts] [hPre_finite : Cert.Pre_finite.Facts] : Prop :=
  ∀ (m : (ℓ : Loc Cert.ModProjIdeal.nD Cert.ModProjIdeal.τ Cert.ModProjIdeal.sig) → Buf (Elt Ideal) ℓ) (g : Dev Cert.ModProjIdeal.nD → PrngReg)
    (m' : (ℓ : Loc Cert.ModProjRefIdeal.nD Cert.ModProjRefIdeal.τ Cert.ModProjRefIdeal.sig) → Buf (Elt Ideal) ℓ) (g' : Dev Cert.ModProjRefIdeal.nD → PrngReg), Pre_ModProjIdeal_finite m →
    (∀ c : Dev Cert.ModProjIdeal.nD,
      m' ((c.tc : Thread Cert.ModProjRefIdeal.nD Cert.ModProjRefIdeal.τ).loc Cert.ModProjRefIdeal.main_arg0) = m ((c.tc : Thread Cert.ModProjIdeal.nD Cert.ModProjIdeal.τ).loc Cert.ModProjIdeal.main_arg0)
      ∧ m' ((c.tc : Thread Cert.ModProjRefIdeal.nD Cert.ModProjRefIdeal.τ).loc Cert.ModProjRefIdeal.main_arg1) = m ((c.tc : Thread Cert.ModProjIdeal.nD Cert.ModProjIdeal.τ).loc Cert.ModProjIdeal.main_arg1)
      ∧ m' ((c.tc : Thread Cert.ModProjRefIdeal.nD Cert.ModProjRefIdeal.τ).loc Cert.ModProjRefIdeal.main_arg2) = m ((c.tc : Thread Cert.ModProjIdeal.nD Cert.ModProjIdeal.τ).loc Cert.ModProjIdeal.main_arg2)) →
    ∃ (v0 : (c : Dev Cert.ModProjIdeal.nD) → Buf (Elt Ideal) ((c.tc : Thread Cert.ModProjIdeal.nD Cert.ModProjIdeal.τ).loc Cert.ModProjIdeal.main_v3)),
      θ_run (Cert.ModProjIdeal.defs (F := Ideal)) (onTc (τ := Cert.ModProjIdeal.τ) (Cert.ModProjIdeal.main (F := Ideal))) ⟨m, fun _ => 0, g⟩ (fun r => ∀ c : Dev Cert.ModProjIdeal.nD,
          r.2.mem ((c.tc : Thread Cert.ModProjIdeal.nD Cert.ModProjIdeal.τ).loc Cert.ModProjIdeal.main_v3) = v0 c
          ∧ r.2.mem ((c.tc : Thread Cert.ModProjIdeal.nD Cert.ModProjIdeal.τ).loc Cert.ModProjIdeal.main_arg0) = m ((c.tc : Thread Cert.ModProjIdeal.nD Cert.ModProjIdeal.τ).loc Cert.ModProjIdeal.main_arg0)
          ∧ r.2.mem ((c.tc : Thread Cert.ModProjIdeal.nD Cert.ModProjIdeal.τ).loc Cert.ModProjIdeal.main_arg1) = m ((c.tc : Thread Cert.ModProjIdeal.nD Cert.ModProjIdeal.τ).loc Cert.ModProjIdeal.main_arg1)
          ∧ r.2.mem ((c.tc : Thread Cert.ModProjIdeal.nD Cert.ModProjIdeal.τ).loc Cert.ModProjIdeal.main_arg2) = m ((c.tc : Thread Cert.ModProjIdeal.nD Cert.ModProjIdeal.τ).loc Cert.ModProjIdeal.main_arg2))
      ∧ θ_run (Cert.ModProjRefIdeal.defs (F := Ideal)) (onTc (τ := Cert.ModProjRefIdeal.τ) (Cert.ModProjRefIdeal.main (F := Ideal))) ⟨m', fun _ => 0, g'⟩ (fun r => ∀ c : Dev Cert.ModProjRefIdeal.nD,
          r.2.mem ((c.tc : Thread Cert.ModProjRefIdeal.nD Cert.ModProjRefIdeal.τ).loc Cert.ModProjRefIdeal.main_v5) = v0 c
          ∧ r.2.mem ((c.tc : Thread Cert.ModProjRefIdeal.nD Cert.ModProjRefIdeal.τ).loc Cert.ModProjRefIdeal.main_arg0) = m' ((c.tc : Thread Cert.ModProjRefIdeal.nD Cert.ModProjRefIdeal.τ).loc Cert.ModProjRefIdeal.main_arg0)
          ∧ r.2.mem ((c.tc : Thread Cert.ModProjRefIdeal.nD Cert.ModProjRefIdeal.τ).loc Cert.ModProjRefIdeal.main_arg1) = m' ((c.tc : Thread Cert.ModProjRefIdeal.nD Cert.ModProjRefIdeal.τ).loc Cert.ModProjRefIdeal.main_arg1)
          ∧ r.2.mem ((c.tc : Thread Cert.ModProjRefIdeal.nD Cert.ModProjRefIdeal.τ).loc Cert.ModProjRefIdeal.main_arg2) = m' ((c.tc : Thread Cert.ModProjRefIdeal.nD Cert.ModProjRefIdeal.τ).loc Cert.ModProjRefIdeal.main_arg2))

def Claim : Prop :=
  ∃ (hOutNorm : Cert.OutNorm.Facts) (hOutNormIdeal : Cert.OutNormIdeal.Facts) (hOutNormRefIdeal : Cert.OutNormRefIdeal.Facts) (hOutProj : Cert.OutProj.Facts) (hOutProjIdeal : Cert.OutProjIdeal.Facts) (hOutProjRefIdeal : Cert.OutProjRefIdeal.Facts) (hProjQz : Cert.ProjQz.Facts) (hProjQzIdeal : Cert.ProjQzIdeal.Facts) (hProjQzRefIdeal : Cert.ProjQzRefIdeal.Facts) (hProjKv : Cert.ProjKv.Facts) (hProjKvIdeal : Cert.ProjKvIdeal.Facts) (hProjKvRefIdeal : Cert.ProjKvRefIdeal.Facts) (hProjConv : Cert.ProjConv.Facts) (hProjConvIdeal : Cert.ProjConvIdeal.Facts) (hProjConvRefIdeal : Cert.ProjConvRefIdeal.Facts) (hOutProjB : Cert.OutProjB.Facts) (hOutProjBIdeal : Cert.OutProjBIdeal.Facts) (hOutProjBRefIdeal : Cert.OutProjBRefIdeal.Facts) (hProjZba : Cert.ProjZba.Facts) (hProjZbaIdeal : Cert.ProjZbaIdeal.Facts) (hProjZbaRefIdeal : Cert.ProjZbaRefIdeal.Facts) (hUnpermute : Cert.Unpermute.Facts) (hUnpermuteIdeal : Cert.UnpermuteIdeal.Facts) (hUnpermuteRefIdeal : Cert.UnpermuteRefIdeal.Facts) (hPermute : Cert.Permute.Facts) (hPermuteIdeal : Cert.PermuteIdeal.Facts) (hPermuteRefIdeal : Cert.PermuteRefIdeal.Facts) (hModProj : Cert.ModProj.Facts) (hModProjIdeal : Cert.ModProjIdeal.Facts) (hModProjRefIdeal : Cert.ModProjRefIdeal.Facts) (hPre_finite : Cert.Pre_finite.Facts),
    quiescent_OutNorm (hOutNorm := hOutNorm)
    ∧ quiescent_OutNormIdeal (hOutNormIdeal := hOutNormIdeal)
    ∧ quiescent_OutNormRefIdeal (hOutNormRefIdeal := hOutNormRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_ProjQz (hProjQz := hProjQz)
    ∧ quiescent_ProjQzIdeal (hProjQzIdeal := hProjQzIdeal)
    ∧ quiescent_ProjQzRefIdeal (hProjQzRefIdeal := hProjQzRefIdeal)
    ∧ quiescent_ProjKv (hProjKv := hProjKv)
    ∧ quiescent_ProjKvIdeal (hProjKvIdeal := hProjKvIdeal)
    ∧ quiescent_ProjKvRefIdeal (hProjKvRefIdeal := hProjKvRefIdeal)
    ∧ quiescent_ProjConv (hProjConv := hProjConv)
    ∧ quiescent_ProjConvIdeal (hProjConvIdeal := hProjConvIdeal)
    ∧ quiescent_ProjConvRefIdeal (hProjConvRefIdeal := hProjConvRefIdeal)
    ∧ quiescent_OutProjB (hOutProjB := hOutProjB)
    ∧ quiescent_OutProjBIdeal (hOutProjBIdeal := hOutProjBIdeal)
    ∧ quiescent_OutProjBRefIdeal (hOutProjBRefIdeal := hOutProjBRefIdeal)
    ∧ quiescent_ProjZba (hProjZba := hProjZba)
    ∧ quiescent_ProjZbaIdeal (hProjZbaIdeal := hProjZbaIdeal)
    ∧ quiescent_ProjZbaRefIdeal (hProjZbaRefIdeal := hProjZbaRefIdeal)
    ∧ quiescent_Unpermute (hUnpermute := hUnpermute)
    ∧ quiescent_UnpermuteIdeal (hUnpermuteIdeal := hUnpermuteIdeal)
    ∧ quiescent_UnpermuteRefIdeal (hUnpermuteRefIdeal := hUnpermuteRefIdeal)
    ∧ quiescent_Permute (hPermute := hPermute)
    ∧ quiescent_PermuteIdeal (hPermuteIdeal := hPermuteIdeal)
    ∧ quiescent_PermuteRefIdeal (hPermuteRefIdeal := hPermuteRefIdeal)
    ∧ quiescent_ModProj (hModProj := hModProj)
    ∧ quiescent_ModProjIdeal (hModProjIdeal := hModProjIdeal)
    ∧ quiescent_ModProjIdeal_pre_finite (hModProjIdeal := hModProjIdeal) (hPre_finite := hPre_finite)
    ∧ quiescent_ModProjRefIdeal (hModProjRefIdeal := hModProjRefIdeal)
    ∧ quiescent_ModProjRefIdeal_pre_finite (hModProjRefIdeal := hModProjRefIdeal) (hPre_finite := hPre_finite)
    ∧ preserves_OutNorm_OutNormIdeal
    ∧ algebraic_OutNormIdeal_OutNormRefIdeal (hOutNormIdeal := hOutNormIdeal) (hOutNormRefIdeal := hOutNormRefIdeal)
    ∧ preserves_OutProj_OutProjIdeal
    ∧ algebraic_OutProjIdeal_OutProjRefIdeal (hOutProjIdeal := hOutProjIdeal) (hOutProjRefIdeal := hOutProjRefIdeal)
    ∧ preserves_ProjQz_ProjQzIdeal
    ∧ algebraic_ProjQzIdeal_ProjQzRefIdeal (hProjQzIdeal := hProjQzIdeal) (hProjQzRefIdeal := hProjQzRefIdeal)
    ∧ preserves_ProjKv_ProjKvIdeal
    ∧ algebraic_ProjKvIdeal_ProjKvRefIdeal (hProjKvIdeal := hProjKvIdeal) (hProjKvRefIdeal := hProjKvRefIdeal)
    ∧ preserves_ProjConv_ProjConvIdeal
    ∧ algebraic_ProjConvIdeal_ProjConvRefIdeal (hProjConvIdeal := hProjConvIdeal) (hProjConvRefIdeal := hProjConvRefIdeal)
    ∧ preserves_OutProjB_OutProjBIdeal
    ∧ algebraic_OutProjBIdeal_OutProjBRefIdeal (hOutProjBIdeal := hOutProjBIdeal) (hOutProjBRefIdeal := hOutProjBRefIdeal)
    ∧ preserves_ProjZba_ProjZbaIdeal
    ∧ algebraic_ProjZbaIdeal_ProjZbaRefIdeal (hProjZbaIdeal := hProjZbaIdeal) (hProjZbaRefIdeal := hProjZbaRefIdeal)
    ∧ preserves_Unpermute_UnpermuteIdeal
    ∧ algebraic_UnpermuteIdeal_UnpermuteRefIdeal (hUnpermuteIdeal := hUnpermuteIdeal) (hUnpermuteRefIdeal := hUnpermuteRefIdeal)
    ∧ preserves_Permute_PermuteIdeal
    ∧ algebraic_PermuteIdeal_PermuteRefIdeal (hPermuteIdeal := hPermuteIdeal) (hPermuteRefIdeal := hPermuteRefIdeal)
    ∧ preserves_ModProj_ModProjIdeal
    ∧ algebraic_ModProjIdeal_ModProjRefIdeal_pre_finite (hModProjIdeal := hModProjIdeal) (hModProjRefIdeal := hModProjRefIdeal) (hPre_finite := hPre_finite)
-- ==== Pre_finite.lean ====
abbrev S4x2048 : Shape := ⟨2, ![4, 2048]⟩
abbrev S4x2048x6144 : Shape := ⟨3, ![4, 2048, 6144]⟩
abbrev S4x6144 : Shape := ⟨2, ![4, 6144]⟩
abbrev S_ : Shape := ⟨0, ![]⟩

class Facts : Prop where
  bcast_S_S4x2048 : S_.BroadcastsInDim S4x2048 (![] : Fin 0 → Fin S4x2048.rank)
  reducesTo_S4x2048_S_d0_1 : S4x2048.ReducesTo [0, 1] S_
  h_S_ : 0 < S_.numel
  bcast_S_S4x2048x6144 : S_.BroadcastsInDim S4x2048x6144 (![] : Fin 0 → Fin S4x2048x6144.rank)
  reducesTo_S4x2048x6144_S_d0_1_2 : S4x2048x6144.ReducesTo [0, 1, 2] S_

variable [Facts]

def fn {F : FTy → Type} [FloatOps F] (main_arg0 : FVec F S4x2048 .f32) (main_arg1 : FVec F S4x2048x6144 .f32) (main_arg2 : FVec F S4x6144 .f32) : IVec S_ 1 :=
  let main_v0 : FVec F S4x2048 .f32 := Host.absf main_arg0
  let main_cst : FVec F S_ .f32 := constant S_ .f32 0x7F800000#32
  let main_v1 : FVec F S4x2048 .f32 := broadcastInDim S4x2048 ![] bcast_S_S4x2048 main_cst
  let main_v2 : IVec S4x2048 1 := cmpf .olt main_v0 main_v1
  let main_c : IVec S_ 1 := constantI S_ 1 1#1
  let main_v3 : IVec S_ 1 := (fun x v => Host.reduce IntOp.andi x v reducesTo_S4x2048_S_d0_1 h_S_) main_v2 main_c
  let main_v4 : FVec F S4x2048x6144 .f32 := Host.absf main_arg1
  let main_cst_0 : FVec F S_ .f32 := constant S_ .f32 0x7F800000#32
  let main_v5 : FVec F S4x2048x6144 .f32 := broadcastInDim S4x2048x6144 ![] bcast_S_S4x2048x6144 main_cst_0
  let main_v6 : IVec S4x2048x6144 1 := cmpf .olt main_v4 main_v5
  let main_c_1 : IVec S_ 1 := constantI S_ 1 1#1
  let main_v7 : IVec S_ 1 := (fun x v => Host.reduce IntOp.andi x v reducesTo_S4x2048x6144_S_d0_1_2 h_S_) main_v6 main_c_1
  let main_v8 : IVec S_ 1 := andi main_v3 main_v7
  main_v8
-- ==== OutNorm.lean ====
abbrev S4x4096x2048 : Shape := ⟨3, ![4, 4096, 2048]⟩
abbrev S2x2048x2048 : Shape := ⟨3, ![2, 2048, 2048]⟩
abbrev S4x2048 : Shape := ⟨2, ![4, 2048]⟩
abbrev S2048 : Shape := ⟨1, ![2048]⟩
abbrev S4x1x2048 : Shape := ⟨3, ![4, 1, 2048]⟩
abbrev S1x2048 : Shape := ⟨2, ![1, 2048]⟩
abbrev S1x512x2048 : Shape := ⟨3, ![1, 512, 2048]⟩
abbrev S1x2048x2048 : Shape := ⟨3, ![1, 2048, 2048]⟩
abbrev S1x1x2048 : Shape := ⟨3, ![1, 1, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S4x4096x2048, .bf16⟩
  | .hbm, ⟨1, _⟩ => ⟨S2x2048x2048, .f32⟩
  | .hbm, ⟨2, _⟩ => ⟨S4x4096x2048, .f32⟩
  | .hbm, ⟨3, _⟩ => ⟨S4x2048, .f32⟩
  | .hbm, ⟨4, _⟩ => ⟨S2048, .f32⟩
  | .hbm, ⟨5, _⟩ => ⟨S2x2048x2048, .bf16⟩
  | .hbm, ⟨6, _⟩ => ⟨S4x1x2048, .f32⟩
  | .hbm, ⟨7, _⟩ => ⟨S1x2048, .f32⟩
  | .hbm, ⟨8, _⟩ => ⟨S4x4096x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2048x2048, .bf16⟩
  | .local _ .vmem, ⟨3, _⟩ => ⟨S1x512x2048, .f32⟩
  | .local _ .vmem, ⟨4, _⟩ => ⟨S1x512x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x512x2048, .f32⟩
  | .local _ .vmem, ⟨9, _⟩ => ⟨S1x512x2048, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== OutNormRefIdeal.lean ====
abbrev S4x4096x2048 : Shape := ⟨3, ![4, 4096, 2048]⟩
abbrev S2x2048x2048 : Shape := ⟨3, ![2, 2048, 2048]⟩
abbrev S4x2048 : Shape := ⟨2, ![4, 2048]⟩
abbrev S2048 : Shape := ⟨1, ![2048]⟩
abbrev S4x1x2048 : Shape := ⟨3, ![4, 1, 2048]⟩
abbrev S1x2048x2048 : Shape := ⟨3, ![1, 2048, 2048]⟩
abbrev S2048x2048 : Shape := ⟨2, ![2048, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S2x2048x2048, .f32⟩
  | .hbm, ⟨2, _⟩ => ⟨S4x4096x2048, .f32⟩
  | .hbm, ⟨3, _⟩ => ⟨S4x2048, .f32⟩
  | .hbm, ⟨4, _⟩ => ⟨S2048, .f32⟩
  | .hbm, ⟨5, _⟩ => ⟨S4x1x2048, .f32⟩
  | .hbm, ⟨6, _⟩ => ⟨S4x4096x2048, .f32⟩
  | .hbm, ⟨7, _⟩ => ⟨S1x2048x2048, .f32⟩
  | .hbm, ⟨8, _⟩ => ⟨S2048x2048, .f32⟩
  | .hbm, ⟨9, _⟩ => ⟨S4x4096x2048, .f32⟩
  | .hbm, ⟨10, _⟩ => ⟨S4x4096x2048, .f32⟩
  | .hbm, ⟨11, _⟩ => ⟨S4x4096x2048, .f32⟩
  | .hbm, ⟨12, _⟩ => ⟨S4x4096x2048, .f32⟩
  | .hbm, ⟨13, _⟩ => ⟨S4x4096x2048, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x2048, .f32⟩
  | .hbm, ⟨25, _⟩ => ⟨S4x4096x2048, .f32⟩
  | .hbm, ⟨26, _⟩ => ⟨S1x1x2048, .f32⟩
  | .hbm, ⟨27, _⟩ => ⟨S4x4096x2048, .f32⟩
  | .hbm, ⟨28, _⟩ => ⟨S4x4096x2048, .f32⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== OutProj.lean ====
abbrev S4x4096x4096 : Shape := ⟨3, ![4, 4096, 4096]⟩
abbrev S2x4096x2048 : Shape := ⟨3, ![2, 4096, 2048]⟩
abbrev S4x4096x2048 : Shape := ⟨3, ![4, 4096, 2048]⟩
abbrev S4x2048 : Shape := ⟨2, ![4, 2048]⟩
abbrev S4x1x2048 : Shape := ⟨3, ![4, 1, 2048]⟩
abbrev S1x1024x4096 : Shape := ⟨3, ![1, 1024, 4096]⟩
abbrev S1x4096x512 : Shape := ⟨3, ![1, 4096, 512]⟩
abbrev S1x1024x512 : Shape := ⟨3, ![1, 1024, 512]⟩
abbrev S1x1x512 : Shape := ⟨3, ![1, 1, 512]⟩
abbrev S1024x512 : Shape := ⟨2, ![1024, 512]⟩
abbrev S1x512 : Shape := ⟨2, ![1, 512]⟩
abbrev S1024x4096 : Shape := ⟨2, ![1024, 4096]⟩
abbrev S4096x512 : Shape := ⟨2, ![4096, 512]⟩

abbrev nBuf : Space → Nat
  | .hbm => 7
  | .vmem => 10
  | .smem => 0
  | _ => 0

abbrev bufTy : (tb : Table) → Fin (tcTables nBuf tb) → BufTy
  | .hbm, ⟨0, _⟩ => ⟨S4x4096x4096, .bf16⟩
  | .hbm, ⟨1, _⟩ => ⟨S2x4096x2048, .f32⟩
  | .hbm, ⟨2, _⟩ => ⟨S4x4096x2048, .f32⟩
  | .hbm, ⟨3, _⟩ => ⟨S4x2048, .f32⟩
  | .hbm, ⟨4, _⟩ => ⟨S2x4096x2048, .bf16⟩
  | .hbm, ⟨5, _⟩ => ⟨S4x1x2048, .f32⟩
  | .hbm, ⟨6, _⟩ => ⟨S4x4096x2048, .f32⟩
  | .local _ .vmem, ⟨0, _⟩ => ⟨S1x1024x4096, .bf16⟩
  | .local _ .vmem, ⟨1, _⟩ => ⟨S1x1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x1024x512, .f32⟩
  | .local _ .vmem, ⟨5, _⟩ => ⟨S1x1024x512, .f32⟩
  | .local _ .vmem, ⟨6, _⟩ => ⟨S1x1x512, .f32⟩
  | .local _ .vmem, ⟨7, _⟩ => ⟨S1x1x512, .f32⟩
  | .local _ .vmem, ⟨8, _⟩ => ⟨S1x1024x512, .f32⟩
  | .local _ .vmem, ⟨9, _⟩ => ⟨S1x1024x512, .f32⟩
  | _, _ => ⟨S4x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== OutProjRefIdeal.lean ====
abbrev S4x4096x4096 : Shape := ⟨3, ![4, 4096, 4096]⟩
abbrev S2x4096x2048 : Shape := ⟨3, ![2, 4096, 2048]⟩
abbrev S4x4096x2048 : Shape := ⟨3, ![4, 4096, 2048]⟩
abbrev S4x2048 : Shape := ⟨2, ![4, 2048]⟩
abbrev S4x1x2048 : Shape := ⟨3, ![4, 1, 2048]⟩
abbrev S1x4096x2048 : Shape := ⟨3, ![1, 4096, 2048]⟩
abbrev S4096x2048 : Shape := ⟨2, ![4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x4096, .bf16⟩
  | .hbm, ⟨1, _⟩ => ⟨S2x4096x2048, .f32⟩
  | .hbm, ⟨2, _⟩ => ⟨S4x4096x2048, .f32⟩
  | .hbm, ⟨3, _⟩ => ⟨S4x2048, .f32⟩
  | .hbm, ⟨4, _⟩ => ⟨S4x1x2048, .f32⟩
  | .hbm, ⟨5, _⟩ => ⟨S4x4096x4096, .f32⟩
  | .hbm, ⟨6, _⟩ => ⟨S1x4096x2048, .f32⟩
  | .hbm, ⟨7, _⟩ => ⟨S4096x2048, .f32⟩
  | .hbm, ⟨8, _⟩ => ⟨S4x4096x2048, .f32⟩
  | .hbm, ⟨9, _⟩ => ⟨S4x4096x2048, .f32⟩
  | .hbm, ⟨10, _⟩ => ⟨S4x4096x2048, .f32⟩
  | .hbm, ⟨11, _⟩ => ⟨S4x4096x2048, .f32⟩
  | _, _ => ⟨S4x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== ProjQz.lean ====
abbrev S4x4096x2048 : Shape := ⟨3, ![4, 4096, 2048]⟩
abbrev S2048 : Shape := ⟨1, ![2048]⟩
abbrev S4x2048 : Shape := ⟨2, ![4, 2048]⟩
abbrev S2x2048x8192 : Shape := ⟨3, ![2, 2048, 8192]⟩
abbrev S1x2048 : Shape := ⟨2, ![1, 2048]⟩
abbrev S4x1x2048 : Shape := ⟨3, ![4, 1, 2048]⟩
abbrev S4x4096x8192 : Shape := ⟨3, ![4, 4096, 8192]⟩
abbrev S1x1024x2048 : Shape := ⟨3, ![1, 1024, 2048]⟩
abbrev S1x1x2048 : Shape := ⟨3, ![1, 1, 2048]⟩
abbrev S1x2048x1024 : Shape := ⟨3, ![1, 2048, 1024]⟩
abbrev S1x1024x1024 : Shape := ⟨3, ![1, 1024, 1024]⟩
abbrev S1024x2048 : Shape := ⟨2, ![1024, 2048]⟩
abbrev S1024 : Shape := ⟨1, ![1024]⟩
abbrev S1024x1 : Shape := ⟨2, ![1024, 1]⟩
abbrev S2048x1024 : Shape := ⟨2, ![2048, 1024]⟩
abbrev S1024x1024 : Shape := ⟨2, ![1024, 1024]⟩

abbrev nBuf : Space → Nat
  | .hbm => 10
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2x2048x8192, .f32⟩
  | .hbm, ⟨5, _⟩ => ⟨S2x2048x8192, .bf16⟩
  | .hbm, ⟨6, _⟩ => ⟨S1x2048, .f32⟩
  | .hbm, ⟨7, _⟩ => ⟨S4x1x2048, .f32⟩
  | .hbm, ⟨8, _⟩ => ⟨S4x1x2048, .f32⟩
  | .hbm, ⟨9, _⟩ => ⟨S4x4096x8192, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048x1024, .bf16⟩
  | .local _ .vmem, ⟨8, _⟩ => ⟨S1x2048x1024, .bf16⟩
  | .local _ .vmem, ⟨9, _⟩ => ⟨S1x1024x1024, .f32⟩
  | .local _ .vmem, ⟨10, _⟩ => ⟨S1x1024x1024, .f32⟩
  | .local _ .vmem, ⟨11, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  let c0_i32_2 : BitVec 32 := 0#32
  ![c0_i32_0.toNat, c0_i32_1.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ProjQzRefIdeal.lean ====
abbrev S4x4096x2048 : Shape := ⟨3, ![4, 4096, 2048]⟩
abbrev S2048 : Shape := ⟨1, ![2048]⟩
abbrev S4x2048 : Shape := ⟨2, ![4, 2048]⟩
abbrev S2x2048x8192 : Shape := ⟨3, ![2, 2048, 8192]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S1x2048x8192 : Shape := ⟨3, ![1, 2048, 8192]⟩
abbrev S2048x8192 : Shape := ⟨2, ![2048, 8192]⟩
abbrev S4x4096x8192 : Shape := ⟨3, ![4, 4096, 8192]⟩

abbrev nBuf : Space → Nat
  | .hbm => 33
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2x2048x8192, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S4x1x2048, .f32⟩
  | .hbm, ⟨22, _⟩ => ⟨S_, .f32⟩
  | .hbm, ⟨23, _⟩ => ⟨S4x1x2048, .f32⟩
  | .hbm, ⟨24, _⟩ => ⟨S4x1x2048, .f32⟩
  | .hbm, ⟨25, _⟩ => ⟨S4x4096x2048, .f32⟩
  | .hbm, ⟨26, _⟩ => ⟨S4x4096x2048, .f32⟩
  | .hbm, ⟨27, _⟩ => ⟨S4x1x2048, .f32⟩
  | .hbm, ⟨28, _⟩ => ⟨S4x4096x2048, .f32⟩
  | .hbm, ⟨29, _⟩ => ⟨S4x4096x2048, .f32⟩
  | .hbm, ⟨30, _⟩ => ⟨S1x2048x8192, .f32⟩
  | .hbm, ⟨31, _⟩ => ⟨S2048x8192, .f32⟩
  | .hbm, ⟨32, _⟩ => ⟨S4x4096x8192, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== ProjKv.lean ====
abbrev S4x4096x2048 : Shape := ⟨3, ![4, 4096, 2048]⟩
abbrev S2048 : Shape := ⟨1, ![2048]⟩
abbrev S4x2048 : Shape := ⟨2, ![4, 2048]⟩
abbrev S2048x4096 : Shape := ⟨2, ![2048, 4096]⟩
abbrev S1x2048x4096 : Shape := ⟨3, ![1, 2048, 4096]⟩
abbrev S1x2048 : Shape := ⟨2, ![1, 2048]⟩
abbrev S4x1x2048 : Shape := ⟨3, ![4, 1, 2048]⟩
abbrev S4x4096x4096 : Shape := ⟨3, ![4, 4096, 4096]⟩
abbrev S1x1024x2048 : Shape := ⟨3, ![1, 1024, 2048]⟩
abbrev S1x1x2048 : Shape := ⟨3, ![1, 1, 2048]⟩
abbrev S1x2048x1024 : Shape := ⟨3, ![1, 2048, 1024]⟩
abbrev S1x1024x1024 : Shape := ⟨3, ![1, 1024, 1024]⟩
abbrev S1024x2048 : Shape := ⟨2, ![1024, 2048]⟩
abbrev S1024 : Shape := ⟨1, ![1024]⟩
abbrev S1024x1 : Shape := ⟨2, ![1024, 1]⟩
abbrev S2048x1024 : Shape := ⟨2, ![2048, 1024]⟩
abbrev S1024x1024 : Shape := ⟨2, ![1024, 1024]⟩

abbrev nBuf : Space → Nat
  | .hbm => 11
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048x4096, .f32⟩
  | .hbm, ⟨5, _⟩ => ⟨S2048x4096, .bf16⟩
  | .hbm, ⟨6, _⟩ => ⟨S1x2048x4096, .bf16⟩
  | .hbm, ⟨7, _⟩ => ⟨S1x2048, .f32⟩
  | .hbm, ⟨8, _⟩ => ⟨S4x1x2048, .f32⟩
  | .hbm, ⟨9, _⟩ => ⟨S4x1x2048, .f32⟩
  | .hbm, ⟨10, _⟩ => ⟨S4x4096x4096, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048x1024, .bf16⟩
  | .local _ .vmem, ⟨8, _⟩ => ⟨S1x2048x1024, .bf16⟩
  | .local _ .vmem, ⟨9, _⟩ => ⟨S1x1024x1024, .f32⟩
  | .local _ .vmem, ⟨10, _⟩ => ⟨S1x1024x1024, .f32⟩
  | .local _ .vmem, ⟨11, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  let c0_i32_2 : BitVec 32 := 0#32
  ![c0_i32_0.toNat, c0_i32_1.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ProjKvRefIdeal.lean ====
abbrev S4x4096x2048 : Shape := ⟨3, ![4, 4096, 2048]⟩
abbrev S2048 : Shape := ⟨1, ![2048]⟩
abbrev S4x2048 : Shape := ⟨2, ![4, 2048]⟩
abbrev S2048x4096 : Shape := ⟨2, ![2048, 4096]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S4x4096x4096 : Shape := ⟨3, ![4, 4096, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048x4096, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S4x1x2048, .f32⟩
  | .hbm, ⟨22, _⟩ => ⟨S_, .f32⟩
  | .hbm, ⟨23, _⟩ => ⟨S4x1x2048, .f32⟩
  | .hbm, ⟨24, _⟩ => ⟨S4x1x2048, .f32⟩
  | .hbm, ⟨25, _⟩ => ⟨S4x4096x2048, .f32⟩
  | .hbm, ⟨26, _⟩ => ⟨S4x4096x2048, .f32⟩
  | .hbm, ⟨27, _⟩ => ⟨S4x1x2048, .f32⟩
  | .hbm, ⟨28, _⟩ => ⟨S4x4096x2048, .f32⟩
  | .hbm, ⟨29, _⟩ => ⟨S4x4096x2048, .f32⟩
  | .hbm, ⟨30, _⟩ => ⟨S4x4096x4096, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== ProjConv.lean ====
abbrev S4x4096x2048 : Shape := ⟨3, ![4, 4096, 2048]⟩
abbrev S2048 : Shape := ⟨1, ![2048]⟩
abbrev S4x2048 : Shape := ⟨2, ![4, 2048]⟩
abbrev S2x2048x12352 : Shape := ⟨3, ![2, 2048, 12352]⟩
abbrev S2x4x8192 : Shape := ⟨3, ![2, 4, 8192]⟩
abbrev S1x4x8192 : Shape := ⟨3, ![1, 4, 8192]⟩
abbrev S4x8192 : Shape := ⟨2, ![4, 8192]⟩
abbrev S1x2048 : Shape := ⟨2, ![1, 2048]⟩
abbrev S4x1x2048 : Shape := ⟨3, ![4, 1, 2048]⟩
abbrev S4x4096x8192 : Shape := ⟨3, ![4, 4096, 8192]⟩
abbrev S1x1024x2048 : Shape := ⟨3, ![1, 1024, 2048]⟩
abbrev S1x1x2048 : Shape := ⟨3, ![1, 1, 2048]⟩
abbrev S1x2048x512 : Shape := ⟨3, ![1, 2048, 512]⟩
abbrev S4x512 : Shape := ⟨2, ![4, 512]⟩
abbrev S1x1024x512 : Shape := ⟨3, ![1, 1024, 512]⟩
abbrev S1024x2048 : Shape := ⟨2, ![1024, 2048]⟩
abbrev S16x8x512 : Shape := ⟨3, ![16, 8, 512]⟩
abbrev S1032x512 : Shape := ⟨2, ![1032, 512]⟩
abbrev S1024 : Shape := ⟨1, ![1024]⟩
abbrev S1024x1 : Shape := ⟨2, ![1024, 1]⟩
abbrev S1x8x512 : Shape := ⟨3, ![1, 8, 512]⟩
abbrev S8x512 : Shape := ⟨2, ![8, 512]⟩
abbrev S1024x512 : Shape := ⟨2, ![1024, 512]⟩
abbrev S1x512 : Shape := ⟨2, ![1, 512]⟩
abbrev S1024x128 : Shape := ⟨2, ![1024, 128]⟩
abbrev S1x1024x128 : Shape := ⟨3, ![1, 1024, 128]⟩
abbrev S2048x512 : Shape := ⟨2, ![2048, 512]⟩

abbrev nBuf : Space → Nat
  | .hbm => 13
  | .vmem => 17
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2x2048x12352, .f32⟩
  | .hbm, ⟨5, _⟩ => ⟨S2x4x8192, .f32⟩
  | .hbm, ⟨6, _⟩ => ⟨S2x2048x12352, .bf16⟩
  | .hbm, ⟨7, _⟩ => ⟨S1x4x8192, .f32⟩
  | .hbm, ⟨8, _⟩ => ⟨S4x8192, .f32⟩
  | .hbm, ⟨9, _⟩ => ⟨S1x2048, .f32⟩
  | .hbm, ⟨10, _⟩ => ⟨S4x1x2048, .f32⟩
  | .hbm, ⟨11, _⟩ => ⟨S4x1x2048, .f32⟩
  | .hbm, ⟨12, _⟩ => ⟨S4x4096x8192, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048x512, .bf16⟩
  | .local _ .vmem, ⟨8, _⟩ => ⟨S1x2048x512, .bf16⟩
  | .local _ .vmem, ⟨9, _⟩ => ⟨S4x512, .f32⟩
  | .local _ .vmem, ⟨10, _⟩ => ⟨S4x512, .f32⟩
  | .local _ .vmem, ⟨11, _⟩ => ⟨S1x1024x512, .f32⟩
  | .local _ .vmem, ⟨12, _⟩ => ⟨S1x1024x512, .f32⟩
  | .local _ .vmem, ⟨13, _⟩ => ⟨S1024x2048, .bf16⟩
  | .local _ .vmem, ⟨14, _⟩ => ⟨S16x8x512, .f32⟩
  | .local _ .vmem, ⟨15, _⟩ => ⟨S1032x512, .f32⟩
  | .local _ .vmem, ⟨16, _⟩ => ⟨S1032x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 65], ![false, false]⟩

def k0_cond3 (i : grid0.Coords) : BitVec 1 :=
  let arg1 : BitVec 32 := BitVec.ofNat 32 (i 1).val
  let c2_i32 : BitVec 32 := 2#32
  let c0_i32_15 : BitVec 32 := 0#32
  let v30 : BitVec 1 := Scalar.cmpi .eq c2_i32 c0_i32_15
  let c1_i32_16 : BitVec 32 := 1#32
  let v31 : BitVec 32 := Scalar.select v30 c1_i32_16 c2_i32
  let v32 : BitVec 32 := Scalar.remsi arg1 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c0_i32_20 : BitVec 32 := 0#32
  let v40 : BitVec 1 := Scalar.cmpi .eq v39 c0_i32_20
  let v41 : BitVec 32 := Scalar.extui v40
  let c0_i32_21 : BitVec 32 := 0#32
  let v42 : BitVec 1 := Scalar.cmpi .ne v41 c0_i32_21
  v42

def k0_off1 (i : grid0.Coords) : Fin 3 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c16_i32 : BitVec 32 := 16#32
  let c0_i32_0 : BitVec 32 := 0#32
  let v2 : BitVec 1 := Scalar.cmpi .eq c16_i32 c0_i32_0
  let c1_i32_1 : BitVec 32 := 1#32
  let v3 : BitVec 32 := Scalar.select v2 c1_i32_1 c16_i32
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let v56 : Index := Scalar.indexCast v11
  let c0 : Index := 0#32
  let c0_30 : Index := 0#32
  ![v56.toNat, 0, 0]
def k0_cond4 (i : grid0.Coords) : BitVec 1 :=
  let arg1 : BitVec 32 := BitVec.ofNat 32 (i 1).val
  let c2_i32_22 : BitVec 32 := 2#32
  let c0_i32_23 : BitVec 32 := 0#32
  let v43 : BitVec 1 := Scalar.cmpi .eq c2_i32_22 c0_i32_23
  let c1_i32_24 : BitVec 32 := 1#32
  let v44 : BitVec 32 := Scalar.select v43 c1_i32_24 c2_i32_22
  let v45 : BitVec 32 := Scalar.remsi arg1 v44
  let c0_i32_26 : BitVec 32 := 0#32
  let v47 : BitVec 1 := Scalar.cmpi .slt v45 c0_i32_26
  let c0_i32_27 : BitVec 32 := 0#32
  let v48 : BitVec 1 := Scalar.cmpi .slt v44 c0_i32_27
  let v49 : BitVec 1 := Scalar.xori v47 v48
  let c0_i32_25 : BitVec 32 := 0#32
  let v46 : BitVec 1 := Scalar.cmpi .ne v45 c0_i32_25
  let v50 : BitVec 1 := Scalar.andi v49 v46
  let v51 : BitVec 32 := Scalar.addi v45 v44
  let v52 : BitVec 32 := Scalar.select v50 v51 v45
  let c1_i32_28 : BitVec 32 := 1#32
  let v53 : BitVec 1 := Scalar.cmpi .eq v52 c1_i32_28
  let v54 : BitVec 32 := Scalar.extui v53
  let c0_i32_29 : BitVec 32 := 0#32
  let v55 : BitVec 1 := Scalar.cmpi .ne v54 c0_i32_29
  v55

def k0_off2 (i : grid0.Coords) : Fin 3 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c16_i32 : BitVec 32 := 16#32
  let c0_i32_0 : BitVec 32 := 0#32
  let v2 : BitVec 1 := Scalar.cmpi .eq c16_i32 c0_i32_0
  let c1_i32_1 : BitVec 32 := 1#32
  let v3 : BitVec 32 := Scalar.select v2 c1_i32_1 c16_i32
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let v56 : Index := Scalar.indexCast v11
  let c0 : Index := 0#32
  let c0_30 : Index := 0#32
  ![v56.toNat, 0, 0]
def cc0_transform_0 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.minsi arg1 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![arg0.toNat, v17.toNat, c0_i32_4.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.minsi arg1 c63_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  let c0_i32_5 : BitVec 32 := 0#32
  ![c0_i32_3.toNat, c0_i32_4.toNat, v10.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c16_i32 : BitVec 32 := 16#32
  let c0_i32_0 : BitVec 32 := 0#32
  let v2 : BitVec 1 := Scalar.cmpi .eq c16_i32 c0_i32_0
  let c1_i32_1 : BitVec 32 := 1#32
  let v3 : BitVec 32 := Scalar.select v2 c1_i32_1 c16_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![c0_i32_5.toNat, v11.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg1 c1_i32_6
  let c0_i32_7 : BitVec 32 := 0#32
  let v20 : BitVec 32 := Scalar.maxsi v19 c0_i32_7
  let c16_i32_8 : BitVec 32 := 16#32
  let c0_i32_9 : BitVec 32 := 0#32
  let v21 : BitVec 1 := Scalar.cmpi .eq c16_i32_8 c0_i32_9
  let c1_i32_10 : BitVec 32 := 1#32
  let v22 : BitVec 32 := Scalar.select v21 c1_i32_10 c16_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![arg0.toNat, v18.toNat, v30.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ProjConvRefIdeal.lean ====
abbrev S4x4096x2048 : Shape := ⟨3, ![4, 4096, 2048]⟩
abbrev S2048 : Shape := ⟨1, ![2048]⟩
abbrev S4x2048 : Shape := ⟨2, ![4, 2048]⟩
abbrev S2x2048x12352 : Shape := ⟨3, ![2, 2048, 12352]⟩
abbrev S2x4x8192 : Shape := ⟨3, ![2, 4, 8192]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S1x2048x8192 : Shape := ⟨3, ![1, 2048, 8192]⟩
abbrev S2048x8192 : Shape := ⟨2, ![2048, 8192]⟩
abbrev S4x4096x8192 : Shape := ⟨3, ![4, 4096, 8192]⟩
abbrev S4x4099x8192 : Shape := ⟨3, ![4, 4099, 8192]⟩
abbrev S1x1x8192 : Shape := ⟨3, ![1, 1, 8192]⟩
abbrev S8192 : Shape := ⟨1, ![8192]⟩
abbrev S4x4096x4096 : Shape := ⟨3, ![4, 4096, 4096]⟩
abbrev S4x4096x16x128 : Shape := ⟨4, ![4, 4096, 16, 128]⟩
abbrev S4x4096x16 : Shape := ⟨3, ![4, 4096, 16]⟩
abbrev S4x4096x16x1 : Shape := ⟨4, ![4, 4096, 16, 1]⟩

abbrev nBuf : Space → Nat
  | .hbm => 104
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2x2048x12352, .f32⟩
  | .hbm, ⟨5, _⟩ => ⟨S2x4x8192, .f32⟩
  | .hbm, ⟨6, _⟩ => ⟨S4x4096x2048, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x2048, .f32⟩
  | .hbm, ⟨18, _⟩ => ⟨S4x4096x2048, .f32⟩
  | .hbm, ⟨19, _⟩ => ⟨S1x1x2048, .f32⟩
  | .hbm, ⟨20, _⟩ => ⟨S4x4096x2048, .f32⟩
  | .hbm, ⟨21, _⟩ => ⟨S4x4096x2048, .f32⟩
  | .hbm, ⟨22, _⟩ => ⟨S4x1x2048, .f32⟩
  | .hbm, ⟨23, _⟩ => ⟨S_, .f32⟩
  | .hbm, ⟨24, _⟩ => ⟨S4x1x2048, .f32⟩
  | .hbm, ⟨25, _⟩ => ⟨S4x1x2048, .f32⟩
  | .hbm, ⟨26, _⟩ => ⟨S4x4096x2048, .f32⟩
  | .hbm, ⟨27, _⟩ => ⟨S4x4096x2048, .f32⟩
  | .hbm, ⟨28, _⟩ => ⟨S4x1x2048, .f32⟩
  | .hbm, ⟨29, _⟩ => ⟨S4x4096x2048, .f32⟩
  | .hbm, ⟨30, _⟩ => ⟨S4x4096x2048, .f32⟩
  | .hbm, ⟨31, _⟩ => ⟨S1x2048x8192, .f32⟩
  | .hbm, ⟨32, _⟩ => ⟨S2048x8192, .f32⟩
  | .hbm, ⟨33, _⟩ => ⟨S4x4096x8192, .f32⟩
  | .hbm, ⟨34, _⟩ => ⟨S_, .i32⟩
  | .hbm, ⟨35, _⟩ => ⟨S_, .f32⟩
  | .hbm, ⟨36, _⟩ => ⟨S4x4099x8192, .f32⟩
  | .hbm, ⟨37, _⟩ => ⟨S1x1x8192, .f32⟩
  | .hbm, ⟨38, _⟩ => ⟨S8192, .f32⟩
  | .hbm, ⟨39, _⟩ => ⟨S4x4096x8192, .f32⟩
  | .hbm, ⟨40, _⟩ => ⟨S1x1x8192, .f32⟩
  | .hbm, ⟨41, _⟩ => ⟨S4x4096x8192, .f32⟩
  | .hbm, ⟨42, _⟩ => ⟨S4x4096x8192, .f32⟩
  | .hbm, ⟨43, _⟩ => ⟨S1x1x8192, .f32⟩
  | .hbm, ⟨44, _⟩ => ⟨S8192, .f32⟩
  | .hbm, ⟨45, _⟩ => ⟨S4x4096x8192, .f32⟩
  | .hbm, ⟨46, _⟩ => ⟨S1x1x8192, .f32⟩
  | .hbm, ⟨47, _⟩ => ⟨S4x4096x8192, .f32⟩
  | .hbm, ⟨48, _⟩ => ⟨S4x4096x8192, .f32⟩
  | .hbm, ⟨49, _⟩ => ⟨S4x4096x8192, .f32⟩
  | .hbm, ⟨50, _⟩ => ⟨S1x1x8192, .f32⟩
  | .hbm, ⟨51, _⟩ => ⟨S8192, .f32⟩
  | .hbm, ⟨52, _⟩ => ⟨S4x4096x8192, .f32⟩
  | .hbm, ⟨53, _⟩ => ⟨S1x1x8192, .f32⟩
  | .hbm, ⟨54, _⟩ => ⟨S4x4096x8192, .f32⟩
  | .hbm, ⟨55, _⟩ => ⟨S4x4096x8192, .f32⟩
  | .hbm, ⟨56, _⟩ => ⟨S4x4096x8192, .f32⟩
  | .hbm, ⟨57, _⟩ => ⟨S1x1x8192, .f32⟩
  | .hbm, ⟨58, _⟩ => ⟨S8192, .f32⟩
  | .hbm, ⟨59, _⟩ => ⟨S4x4096x8192, .f32⟩
  | .hbm, ⟨60, _⟩ => ⟨S1x1x8192, .f32⟩
  | .hbm, ⟨61, _⟩ => ⟨S4x4096x8192, .f32⟩
  | .hbm, ⟨62, _⟩ => ⟨S4x4096x8192, .f32⟩
  | .hbm, ⟨63, _⟩ => ⟨S4x4096x8192, .f32⟩
  | .hbm, ⟨64, _⟩ => ⟨S4x4096x8192, .f32⟩
  | .hbm, ⟨65, _⟩ => ⟨S4x4096x8192, .f32⟩
  | .hbm, ⟨66, _⟩ => ⟨S_, .f32⟩
  | .hbm, ⟨67, _⟩ => ⟨S4x4096x8192, .f32⟩
  | .hbm, ⟨68, _⟩ => ⟨S4x4096x8192, .f32⟩
  | .hbm, ⟨69, _⟩ => ⟨S_, .f32⟩
  | .hbm, ⟨70, _⟩ => ⟨S4x4096x8192, .f32⟩
  | .hbm, ⟨71, _⟩ => ⟨S4x4096x8192, .f32⟩
  | .hbm, ⟨72, _⟩ => ⟨S4x4096x8192, .f32⟩
  | .hbm, ⟨73, _⟩ => ⟨S4x4096x2048, .f32⟩
  | .hbm, ⟨74, _⟩ => ⟨S4x4096x2048, .f32⟩
  | .hbm, ⟨75, _⟩ => ⟨S4x4096x4096, .f32⟩
  | .hbm, ⟨76, _⟩ => ⟨S4x4096x16x128, .f32⟩
  | .hbm, ⟨77, _⟩ => ⟨S4x4096x16x128, .f32⟩
  | .hbm, ⟨78, _⟩ => ⟨S_, .f32⟩
  | .hbm, ⟨79, _⟩ => ⟨S4x4096x16, .f32⟩
  | .hbm, ⟨80, _⟩ => ⟨S4x4096x16x1, .f32⟩
  | .hbm, ⟨81, _⟩ => ⟨S_, .f32⟩
  | .hbm, ⟨82, _⟩ => ⟨S4x4096x16x1, .f32⟩
  | .hbm, ⟨83, _⟩ => ⟨S4x4096x16x1, .f32⟩
  | .hbm, ⟨84, _⟩ => ⟨S4x4096x16x1, .f32⟩
  | .hbm, ⟨85, _⟩ => ⟨S4x4096x16x128, .f32⟩
  | .hbm, ⟨86, _⟩ => ⟨S4x4096x16x128, .f32⟩
  | .hbm, ⟨87, _⟩ => ⟨S_, .f32⟩
  | .hbm, ⟨88, _⟩ => ⟨S4x4096x16x128, .f32⟩
  | .hbm, ⟨89, _⟩ => ⟨S4x4096x16x128, .f32⟩
  | .hbm, ⟨90, _⟩ => ⟨S4x4096x16x128, .f32⟩
  | .hbm, ⟨91, _⟩ => ⟨S4x4096x16x128, .f32⟩
  | .hbm, ⟨92, _⟩ => ⟨S_, .f32⟩
  | .hbm, ⟨93, _⟩ => ⟨S4x4096x16, .f32⟩
  | .hbm, ⟨94, _⟩ => ⟨S4x4096x16x1, .f32⟩
  | .hbm, ⟨95, _⟩ => ⟨S_, .f32⟩
  | .hbm, ⟨96, _⟩ => ⟨S4x4096x16x1, .f32⟩
  | .hbm, ⟨97, _⟩ => ⟨S4x4096x16x1, .f32⟩
  | .hbm, ⟨98, _⟩ => ⟨S4x4096x16x1, .f32⟩
  | .hbm, ⟨99, _⟩ => ⟨S4x4096x16x128, .f32⟩
  | .hbm, ⟨100, _⟩ => ⟨S4x4096x16x128, .f32⟩
  | .hbm, ⟨101, _⟩ => ⟨S4x4096x2048, .f32⟩
  | .hbm, ⟨102, _⟩ => ⟨S4x4096x2048, .f32⟩
  | .hbm, ⟨103, _⟩ => ⟨S4x4096x8192, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_call0_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_3 : Ref sig .tc := ⟨.hbm, 78, rfl⟩
abbrev main_v58 : Ref sig .tc := ⟨.hbm, 79, rfl⟩
abbrev main_v59 : Ref sig .tc := ⟨.hbm, 80, rfl⟩
abbrev main_cst_4 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_5 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_6 : Ref sig .tc := ⟨.hbm, 92, rfl⟩
abbrev main_v69 : Ref sig .tc := ⟨.hbm, 93, rfl⟩
abbrev main_v70 : Ref sig .tc := ⟨.hbm, 94, rfl⟩
abbrev main_cst_7 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩

abbrev nD : Nat := 1
abbrev τ : Topo := Topo.v7x

variable {F : FTy → Type} [FloatOps F]
-- ==== OutProjB.lean ====
abbrev S4x4096x2048 : Shape := ⟨3, ![4, 4096, 2048]⟩
abbrev S2x2048x2048 : Shape := ⟨3, ![2, 2048, 2048]⟩
abbrev S4x2048 : Shape := ⟨2, ![4, 2048]⟩
abbrev S4x1x2048 : Shape := ⟨3, ![4, 1, 2048]⟩
abbrev S1x1024x2048 : Shape := ⟨3, ![1, 1024, 2048]⟩
abbrev S1x2048x512 : Shape := ⟨3, ![1, 2048, 512]⟩
abbrev S1x1024x512 : Shape := ⟨3, ![1, 1024, 512]⟩
abbrev S1x1x512 : Shape := ⟨3, ![1, 1, 512]⟩
abbrev S1024x512 : Shape := ⟨2, ![1024, 512]⟩
abbrev S1x512 : Shape := ⟨2, ![1, 512]⟩
abbrev S1024x2048 : Shape := ⟨2, ![1024, 2048]⟩
abbrev S2048x512 : Shape := ⟨2, ![2048, 512]⟩

abbrev nBuf : Space → Nat
  | .hbm => 7
  | .vmem => 10
  | .smem => 0
  | _ => 0

abbrev bufTy : (tb : Table) → Fin (tcTables nBuf tb) → BufTy
  | .hbm, ⟨0, _⟩ => ⟨S4x4096x2048, .bf16⟩
  | .hbm, ⟨1, _⟩ => ⟨S2x2048x2048, .f32⟩
  | .hbm, ⟨2, _⟩ => ⟨S4x4096x2048, .f32⟩
  | .hbm, ⟨3, _⟩ => ⟨S4x2048, .f32⟩
  | .hbm, ⟨4, _⟩ => ⟨S2x2048x2048, .bf16⟩
  | .hbm, ⟨5, _⟩ => ⟨S4x1x2048, .f32⟩
  | .hbm, ⟨6, _⟩ => ⟨S4x4096x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x1024x512, .f32⟩
  | .local _ .vmem, ⟨5, _⟩ => ⟨S1x1024x512, .f32⟩
  | .local _ .vmem, ⟨6, _⟩ => ⟨S1x1x512, .f32⟩
  | .local _ .vmem, ⟨7, _⟩ => ⟨S1x1x512, .f32⟩
  | .local _ .vmem, ⟨8, _⟩ => ⟨S1x1024x512, .f32⟩
  | .local _ .vmem, ⟨9, _⟩ => ⟨S1x1024x512, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== OutProjBRefIdeal.lean ====
abbrev S4x4096x2048 : Shape := ⟨3, ![4, 4096, 2048]⟩
abbrev S2x2048x2048 : Shape := ⟨3, ![2, 2048, 2048]⟩
abbrev S4x2048 : Shape := ⟨2, ![4, 2048]⟩
abbrev S4x1x2048 : Shape := ⟨3, ![4, 1, 2048]⟩
abbrev S1x2048x2048 : Shape := ⟨3, ![1, 2048, 2048]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S2x2048x2048, .f32⟩
  | .hbm, ⟨2, _⟩ => ⟨S4x4096x2048, .f32⟩
  | .hbm, ⟨3, _⟩ => ⟨S4x2048, .f32⟩
  | .hbm, ⟨4, _⟩ => ⟨S4x1x2048, .f32⟩
  | .hbm, ⟨5, _⟩ => ⟨S4x4096x2048, .f32⟩
  | .hbm, ⟨6, _⟩ => ⟨S1x2048x2048, .f32⟩
  | .hbm, ⟨7, _⟩ => ⟨S2048x2048, .f32⟩
  | .hbm, ⟨8, _⟩ => ⟨S4x4096x2048, .f32⟩
  | .hbm, ⟨9, _⟩ => ⟨S4x4096x2048, .f32⟩
  | .hbm, ⟨10, _⟩ => ⟨S4x4096x2048, .f32⟩
  | .hbm, ⟨11, _⟩ => ⟨S4x4096x2048, .f32⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== ProjZba.lean ====
abbrev S4x4096x2048 : Shape := ⟨3, ![4, 4096, 2048]⟩
abbrev S2048 : Shape := ⟨1, ![2048]⟩
abbrev S4x2048 : Shape := ⟨2, ![4, 2048]⟩
abbrev S2x2048x12352 : Shape := ⟨3, ![2, 2048, 12352]⟩
abbrev S2x2048x64 : Shape := ⟨3, ![2, 2048, 64]⟩
abbrev S_ : Shape := ⟨0, ![]⟩
abbrev S2x2048x128 : Shape := ⟨3, ![2, 2048, 128]⟩
abbrev S1x2048 : Shape := ⟨2, ![1, 2048]⟩
abbrev S4x1x2048 : Shape := ⟨3, ![4, 1, 2048]⟩
abbrev S4x4096x4096 : Shape := ⟨3, ![4, 4096, 4096]⟩
abbrev S4x4096x128 : Shape := ⟨3, ![4, 4096, 128]⟩
abbrev S1x1024x2048 : Shape := ⟨3, ![1, 1024, 2048]⟩
abbrev S1x1x2048 : Shape := ⟨3, ![1, 1, 2048]⟩
abbrev S1x2048x1024 : Shape := ⟨3, ![1, 2048, 1024]⟩
abbrev S1x2048x128 : Shape := ⟨3, ![1, 2048, 128]⟩
abbrev S1x1024x1024 : Shape := ⟨3, ![1, 1024, 1024]⟩
abbrev S1x1024x128 : Shape := ⟨3, ![1, 1024, 128]⟩
abbrev S1024x2048 : Shape := ⟨2, ![1024, 2048]⟩
abbrev S1024 : Shape := ⟨1, ![1024]⟩
abbrev S1024x1 : Shape := ⟨2, ![1024, 1]⟩
abbrev S2048x128 : Shape := ⟨2, ![2048, 128]⟩
abbrev S1024x128 : Shape := ⟨2, ![1024, 128]⟩
abbrev S2048x1024 : Shape := ⟨2, ![2048, 1024]⟩
abbrev S1024x1024 : Shape := ⟨2, ![1024, 1024]⟩

abbrev nBuf : Space → Nat
  | .hbm => 16
  | .vmem => 15
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2x2048x12352, .f32⟩
  | .hbm, ⟨5, _⟩ => ⟨S2x2048x64, .f32⟩
  | .hbm, ⟨6, _⟩ => ⟨S2x2048x64, .bf16⟩
  | .hbm, ⟨7, _⟩ => ⟨S_, .i32⟩
  | .hbm, ⟨8, _⟩ => ⟨S_, .bf16⟩
  | .hbm, ⟨9, _⟩ => ⟨S2x2048x128, .bf16⟩
  | .hbm, ⟨10, _⟩ => ⟨S2x2048x12352, .bf16⟩
  | .hbm, ⟨11, _⟩ => ⟨S1x2048, .f32⟩
  | .hbm, ⟨12, _⟩ => ⟨S4x1x2048, .f32⟩
  | .hbm, ⟨13, _⟩ => ⟨S4x1x2048, .f32⟩
  | .hbm, ⟨14, _⟩ => ⟨S4x4096x4096, .f32⟩
  | .hbm, ⟨15, _⟩ => ⟨S4x4096x128, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048x1024, .bf16⟩
  | .local _ .vmem, ⟨8, _⟩ => ⟨S1x2048x1024, .bf16⟩
  | .local _ .vmem, ⟨9, _⟩ => ⟨S1x2048x128, .bf16⟩
  | .local _ .vmem, ⟨10, _⟩ => ⟨S1x1024x1024, .f32⟩
  | .local _ .vmem, ⟨11, _⟩ => ⟨S1x1024x1024, .f32⟩
  | .local _ .vmem, ⟨12, _⟩ => ⟨S1x1024x128, .f32⟩
  | .local _ .vmem, ⟨13, _⟩ => ⟨S1x1024x128, .f32⟩
  | .local _ .vmem, ⟨14, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S1x2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== ProjZbaRefIdeal.lean ====
abbrev S4x4096x2048 : Shape := ⟨3, ![4, 4096, 2048]⟩
abbrev S2048 : Shape := ⟨1, ![2048]⟩
abbrev S4x2048 : Shape := ⟨2, ![4, 2048]⟩
abbrev S2x2048x12352 : Shape := ⟨3, ![2, 2048, 12352]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S1x2048x12352 : Shape := ⟨3, ![1, 2048, 12352]⟩
abbrev S2048x12352 : Shape := ⟨2, ![2048, 12352]⟩
abbrev S4x4096x12352 : Shape := ⟨3, ![4, 4096, 12352]⟩
abbrev S4x4096x4096 : Shape := ⟨3, ![4, 4096, 4096]⟩
abbrev S4x4096x64 : Shape := ⟨3, ![4, 4096, 64]⟩
abbrev S4x4096x128 : Shape := ⟨3, ![4, 4096, 128]⟩

abbrev nBuf : Space → Nat
  | .hbm => 38
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2x2048x12352, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S4x1x2048, .f32⟩
  | .hbm, ⟨22, _⟩ => ⟨S_, .f32⟩
  | .hbm, ⟨23, _⟩ => ⟨S4x1x2048, .f32⟩
  | .hbm, ⟨24, _⟩ => ⟨S4x1x2048, .f32⟩
  | .hbm, ⟨25, _⟩ => ⟨S4x4096x2048, .f32⟩
  | .hbm, ⟨26, _⟩ => ⟨S4x4096x2048, .f32⟩
  | .hbm, ⟨27, _⟩ => ⟨S4x1x2048, .f32⟩
  | .hbm, ⟨28, _⟩ => ⟨S4x4096x2048, .f32⟩
  | .hbm, ⟨29, _⟩ => ⟨S4x4096x2048, .f32⟩
  | .hbm, ⟨30, _⟩ => ⟨S1x2048x12352, .f32⟩
  | .hbm, ⟨31, _⟩ => ⟨S2048x12352, .f32⟩
  | .hbm, ⟨32, _⟩ => ⟨S4x4096x12352, .f32⟩
  | .hbm, ⟨33, _⟩ => ⟨S4x4096x4096, .f32⟩
  | .hbm, ⟨34, _⟩ => ⟨S4x4096x64, .f32⟩
  | .hbm, ⟨35, _⟩ => ⟨S_, .i32⟩
  | .hbm, ⟨36, _⟩ => ⟨S_, .f32⟩
  | .hbm, ⟨37, _⟩ => ⟨S4x4096x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c : Ref sig .tc := ⟨.hbm, 35, rfl⟩
abbrev main_call0_v0 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Unpermute.lean ====
abbrev S4x4096x2048 : Shape := ⟨3, ![4, 4096, 2048]⟩
abbrev S1x2048x128 : Shape := ⟨3, ![1, 2048, 128]⟩
abbrev S1x128x128 : Shape := ⟨3, ![1, 128, 128]⟩
abbrev S128x128 : Shape := ⟨2, ![128, 128]⟩

abbrev nBuf : Space → Nat
  | .hbm => 2
  | .vmem => 4
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![4, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]
-- ==== UnpermuteRefIdeal.lean ====
abbrev S4x4096x2048 : Shape := ⟨3, ![4, 4096, 2048]⟩
abbrev S4x2x16x128x2048 : Shape := ⟨5, ![4, 2, 16, 128, 2048]⟩
abbrev S4x2x128x16x2048 : Shape := ⟨5, ![4, 2, 128, 16, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x2x16x128x2048, .f32⟩
  | .hbm, ⟨2, _⟩ => ⟨S4x2x128x16x2048, .f32⟩
  | .hbm, ⟨3, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Permute.lean ====
abbrev S4x4096x2048 : Shape := ⟨3, ![4, 4096, 2048]⟩
abbrev S1x2048x128 : Shape := ⟨3, ![1, 2048, 128]⟩
abbrev S1x128x128 : Shape := ⟨3, ![1, 128, 128]⟩
abbrev S128x128 : Shape := ⟨2, ![128, 128]⟩

abbrev nBuf : Space → Nat
  | .hbm => 2
  | .vmem => 4
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![4, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]
-- ==== PermuteRefIdeal.lean ====
abbrev S4x4096x2048 : Shape := ⟨3, ![4, 4096, 2048]⟩
abbrev S4x2x128x16x2048 : Shape := ⟨5, ![4, 2, 128, 16, 2048]⟩
abbrev S4x2x16x128x2048 : Shape := ⟨5, ![4, 2, 16, 128, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x2x128x16x2048, .f32⟩
  | .hbm, ⟨2, _⟩ => ⟨S4x2x16x128x2048, .f32⟩
  | .hbm, ⟨3, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== ModProj.lean ====
abbrev S4x2048 : Shape := ⟨2, ![4, 2048]⟩
abbrev S4x2048x6144 : Shape := ⟨3, ![4, 2048, 6144]⟩
abbrev S4x6144 : Shape := ⟨2, ![4, 6144]⟩
abbrev S_ : Shape := ⟨0, ![]⟩
abbrev S16x2048 : Shape := ⟨2, ![16, 2048]⟩
abbrev S4x1x6144 : Shape := ⟨3, ![4, 1, 6144]⟩
abbrev S4x16x6144 : Shape := ⟨3, ![4, 16, 6144]⟩
abbrev S1x2048x512 : Shape := ⟨3, ![1, 2048, 512]⟩
abbrev S1x1x512 : Shape := ⟨3, ![1, 1, 512]⟩
abbrev S1x16x512 : Shape := ⟨3, ![1, 16, 512]⟩
abbrev S2048x512 : Shape := ⟨2, ![2048, 512]⟩
abbrev S16x512 : Shape := ⟨2, ![16, 512]⟩
abbrev S1x512 : Shape := ⟨2, ![1, 512]⟩
abbrev S4x4x6144 : Shape := ⟨3, ![4, 4, 6144]⟩

abbrev nBuf : Space → Nat
  | .hbm => 9
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048x6144, .f32⟩
  | .hbm, ⟨2, _⟩ => ⟨S4x6144, .f32⟩
  | .hbm, ⟨3, _⟩ => ⟨S_, .i32⟩
  | .hbm, ⟨4, _⟩ => ⟨S_, .f32⟩
  | .hbm, ⟨5, _⟩ => ⟨S16x2048, .f32⟩
  | .hbm, ⟨6, _⟩ => ⟨S4x1x6144, .f32⟩
  | .hbm, ⟨7, _⟩ => ⟨S4x16x6144, .f32⟩
  | .hbm, ⟨8, _⟩ => ⟨S4x4x6144, .f32⟩
  | .local _ .vmem, ⟨0, _⟩ => ⟨S16x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x1x512, .f32⟩
  | .local _ .vmem, ⟨4, _⟩ => ⟨S1x1x512, .f32⟩
  | .local _ .vmem, ⟨5, _⟩ => ⟨S1x16x512, .f32⟩
  | .local _ .vmem, ⟨6, _⟩ => ⟨S1x16x512, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModProjRefIdeal.lean ====
abbrev S4x2048 : Shape := ⟨2, ![4, 2048]⟩
abbrev S4x2048x6144 : Shape := ⟨3, ![4, 2048, 6144]⟩
abbrev S4x6144 : Shape := ⟨2, ![4, 6144]⟩
abbrev S_ : Shape := ⟨0, ![]⟩
abbrev S4x6144x4 : Shape := ⟨3, ![4, 6144, 4]⟩
abbrev S4x4x6144 : Shape := ⟨3, ![4, 4, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048x6144, .f32⟩
  | .hbm, ⟨2, _⟩ => ⟨S4x6144, .f32⟩
  | .hbm, ⟨3, _⟩ => ⟨S4x2048, .f32⟩
  | .hbm, ⟨4, _⟩ => ⟨S4x2048, .f32⟩
  | .hbm, ⟨5, _⟩ => ⟨S_, .f32⟩
  | .hbm, ⟨6, _⟩ => ⟨S4x2048, .f32⟩
  | .hbm, ⟨7, _⟩ => ⟨S4x2048, .f32⟩
  | .hbm, ⟨8, _⟩ => ⟨S_, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x6144x4, .f32⟩
  | .hbm, ⟨13, _⟩ => ⟨S4x4x6144, .f32⟩
  | .hbm, ⟨14, _⟩ => ⟨S4x1x6144, .f32⟩
  | .hbm, ⟨15, _⟩ => ⟨S4x4x6144, .f32⟩
  | .hbm, ⟨16, _⟩ => ⟨S4x4x6144, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.OutNormValue.lean ====
/-
  THE VALUE of the last output projection with the final norm fused in: the tiled kernel leaves the RMS norm, times the final gain,
  of `x + gate * (y @ w)`. A grid point's block is 512 whole rows, so the row's mean square is inside the block.
-/
module

public import proofs.«01_k».proof.Defs
public import proofs.«01_k».proof.Proof.Gen.OutNormIdeal.Value
public import proofs.«01_k».proof.Proof.Gen.OutNormRefIdeal.Run
public import proofs.«01_k».proof.Proof.Gen.OutNormRefIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutNormIdeal.RefValue

open Cert.OutNormIdeal Cert.OutNormIdeal.Gen
open Cert.OutNormRefIdeal.Read (val_main_v0 val_main_v1 val_main_v2 val_main_v3 val_main_v4 val_main_v5 val_main_v6 val_main_v7 val_main_v8 val_main_v9 val_main_v10 val_main_v11 val_main_v12 val_main_v13 val_main_v14 val_main_v15 val_main_v16 val_main_v17 val_main_v18 val_main_v19 val_main_v20 val_main_cst val_main_cst_0 val_main_cst_1)

variable (m : (ℓ : Loc nD τ sig) → Buf (Elt Ideal) ℓ) (ρ : Dev nD → PrngReg)

/-- What the result array is shown to hold: the reference's last value of the argument arrays. -/
abbrev result (c : Dev nD) : FVec Ideal S4x4096x2048 .f32 :=
  val_main_v20 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The block every window takes at a grid point, decided over the points. -/
theorem idx : ∀ t : Fin cfg0.N, win0_0.index t = ![(grid0.coords t 0).val, (grid0.coords t 1).val, 0]
    ∧ win0_1.index t = ![1, 0, 0]
    ∧ win0_2.index t = ![(grid0.coords t 0).val, (grid0.coords t 1).val, 0]
    ∧ win0_3.index t = ![(grid0.coords t 0).val, 0, 0]
    ∧ win0_4.index t = ![0, 0]
    ∧ win0_5.index t = ![(grid0.coords t 0).val, (grid0.coords t 1).val, 0] :=
  (by decide +kernel : ∀ t : Fin grid0.N, _)

/-- What the body stores at an index of its block is the reference at the array index the block's element sits at. -/
theorem point (c : Dev nD) (t : Fin cfg0.N) (y) :
    k0_pay1 (iblk m c 2 t) (iblk m c 3 t) (iblk m c 0 t) (iblk m c 1 t) (iblk m c 4 t) y = result m c (((cfg0.win 5).blk t).view.emb y) := by
  pointwise [k0_pay1, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_cst, val_main_cst_0, val_main_cst_1, dot_S512x2048_S2048x2048_S512x2048_1_0_0_1_n_n]
  blk_point [iblk, V, idx t]

/-- So the result array ends holding the reference's value: the blocks tile it. -/
theorem final (c : Dev nD) : (dats m 0 c).arrAt 5 (cfgs 0).N = result m c := by
  refine (dats m 0 c).arrAt_eq_of_covers 5 _ (by decide +kernel) fun t _ y => ?_
  blk_simp
  rw [after0_5]; frame_out
  exact point m c t y

end Cert.OutNormIdeal.RefValue

namespace Cert.Proof

/-- The kernel and the reference end with the same result array whenever their arguments agree. -/
theorem outNorm_algebraic : Cert.algebraic_OutNormIdeal_OutNormRefIdeal := by
  intro m ρ m' ρ' _ hagree
  refine ⟨fun c => Cert.OutNormIdeal.RefValue.result m c, ?_, ?_⟩
  · exact (θ_run Cert.OutNormIdeal.defs _ _).mono
      (fun _ h c => ⟨((h c).1).trans (Cert.OutNormIdeal.RefValue.final m c), (h c).2⟩)
      (Cert.OutNormIdeal.Value.run_blocks (F := Ideal) m ρ)
  · refine (θ_run Cert.OutNormRefIdeal.defs _ _).mono (fun _ h c => ⟨(h c).1.trans ?_, (h c).2⟩)
      (Cert.OutNormRefIdeal.Value.run (F := Ideal) m' ρ')
    rw [Cert.OutNormRefIdeal.Read.val_main_v20_eq, (hagree c).1, (hagree c).2.1, (hagree c).2.2.1, (hagree c).2.2.2.1, (hagree c).2.2.2.2]

end Cert.Proof

end
-- ==== Proof.OutProjValue.lean ====
/-
  THE VALUE of the output projection of a DeltaNet layer: the tiled kernel leaves `x + gate * (y @ w)` of the whole arrays, which
  is what the reference computes. Each grid point writes one [1, 1024, 512] block; the block's element is the reference's element
  at the block's place in the array, the contraction running whole inside the block.
-/
module

public import proofs.«01_k».proof.Defs
public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutProjIdeal.RefValue

open Cert.OutProjIdeal Cert.OutProjIdeal.Gen
open Cert.OutProjRefIdeal.Read (val_main_v0 val_main_v1 val_main_v2 val_main_v3 val_main_v4 val_main_v5 val_main_v6 val_main_v7)

variable (m : (ℓ : Loc nD τ sig) → Buf (Elt Ideal) ℓ) (ρ : Dev nD → PrngReg)

/-- What the result array is shown to hold: the reference's last value of the argument arrays. -/
abbrev result (c : Dev nD) : FVec Ideal S4x4096x2048 .f32 :=
  val_main_v7 (F := Ideal) (m ((c : Thread nD τ).loc main_arg0)) (m ((c : Thread nD τ).loc main_arg1))
    (m ((c : Thread nD τ).loc main_arg2)) (m ((c : Thread nD τ).loc main_arg3))

/-- The block every window takes at a grid point, decided over the points. -/
theorem idx : ∀ t : Fin cfg0.N,
    win0_0.index t = ![(grid0.coords t 0).val, (grid0.coords t 1).val, 0] ∧ win0_1.index t = ![0, 0, (grid0.coords t 2).val]
    ∧ win0_2.index t = ![(grid0.coords t 0).val, (grid0.coords t 1).val, (grid0.coords t 2).val]
    ∧ win0_3.index t = ![(grid0.coords t 0).val, 0, (grid0.coords t 2).val]
    ∧ win0_4.index t = ![(grid0.coords t 0).val, (grid0.coords t 1).val, (grid0.coords t 2).val] :=
  (by decide +kernel : ∀ t : Fin grid0.N, _)

/-- What the body stores at an index of its block is the reference at the array index the block's element sits at. -/
theorem point (c : Dev nD) (t : Fin cfg0.N) (y) :
    k0_pay1 (iblk m c 2 t) (iblk m c 3 t) (iblk m c 0 t) (iblk m c 1 t) y = result m c (((cfg0.win 4).blk t).view.emb y) := by
  pointwise [k0_pay1, val_main_v0, val_main_v1, val_main_v2, val_main_v3, val_main_v4, val_main_v5, val_main_v6, val_main_v7, dot_S1024x4096_S4096x512_S1024x512_1_0_0_1_n_n]
  blk_point [iblk, V, idx t]

/-- So the result array ends holding the reference's value: the blocks tile it. -/
theorem final (c : Dev nD) : (dats m 0 c).arrAt 4 (cfgs 0).N = result m c := by
  refine (dats m 0 c).arrAt_eq_of_covers 4 _ (by decide +kernel) fun t _ y => ?_
  blk_simp
  rw [after0_4]; frame_out
  exact point m c t y

end Cert.OutProjIdeal.RefValue

namespace Cert.Proof

/-- The kernel and the reference end with the same result array whenever their arguments agree. -/
theorem outProj_algebraic : Cert.algebraic_OutProjIdeal_OutProjRefIdeal := by
  intro m ρ m' ρ' _ hagree
  refine ⟨fun c => Cert.OutProjIdeal.RefValue.result m c, ?_, ?_⟩
  · exact (θ_run Cert.OutProjIdeal.defs _ _).mono
      (fun _ h c => ⟨((h c).1).trans (Cert.OutProjIdeal.RefValue.final m c), (h c).2⟩)
      (Cert.OutProjIdeal.Value.run_blocks (F := Ideal) m ρ)
  · refine (θ_run Cert.OutProjRefIdeal.defs _ _).mono (fun _ h c => ⟨(h c).1.trans ?_, (h c).2⟩)
      (Cert.OutProjRefIdeal.Value.run (F := Ideal) m' ρ')
    rw [Cert.OutProjRefIdeal.Read.val_main_v7_eq, (hagree c).1, (hagree c).2.1, (hagree c).2.2.1, (hagree c).2.2.2]

end Cert.Proof

end
-- ==== Proof.ProjQzValue.lean ====
/-
  THE VALUE of the fused norm and projection: the first point of each row tile writes the modulated RMS norm of its rows into
  the kept scratch, the eight points of the row tile multiply it by their column tile of the weights. By induction over the
  points the scratch holds the norm of the CURRENT point's rows, so every point's block is the reference's.
-/
module

public import proofs.«01_k».proof.Defs
public import proofs.«01_k».proof.Proof.Gen.ProjQzIdeal.Value
public import proofs.«01_k».proof.Proof.Gen.ProjQzRefIdeal.Run
public import proofs.«01_k».proof.Proof.Gen.ProjQzRefIdeal.Read
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ProjQzIdeal.RefValue

open Cert.ProjQzIdeal Cert.ProjQzIdeal.Gen
open Cert.ProjQzRefIdeal.Read (val_main_v0 val_main_v1 val_main_v2 val_main_v3 val_main_v4 val_main_v5 val_main_v6 val_main_v7 val_main_v8 val_main_v9 val_main_v10 val_main_v11 val_main_v12 val_main_v13 val_main_v14 val_main_v15 val_main_v16 val_main_v17 val_main_v18 val_main_v19 val_main_v20 val_main_v21 val_main_v22 val_main_v23 val_main_cst val_main_cst_0 val_main_cst_1 val_main_cst_2)

variable (m : (ℓ : Loc nD τ sig) → Buf (Elt Ideal) ℓ) (ρ : Dev nD → PrngReg)

/-- What the result array is shown to hold: the reference's last value of the argument arrays. -/
abbrev result (c : Dev nD) : FVec Ideal S4x4096x8192 .f32 :=
  val_main_v23 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The block every window takes at a grid point, decided over the points: the row tile is `t / 8`, the column tile `t % 8`. -/
theorem idx : ∀ t : Fin cfg0.N, win0_0.index t = ![t.val / 32, t.val / 8 % 4, 0]
    ∧ win0_1.index t = ![0, 0]
    ∧ win0_2.index t = ![t.val / 32, 0, 0]
    ∧ win0_3.index t = ![t.val / 32, 0, 0]
    ∧ win0_4.index t = ![0, 0, t.val % 8]
    ∧ win0_5.index t = ![t.val / 32, t.val / 8 % 4, t.val % 8] :=
  (by decide +kernel : ∀ t : Fin grid0.N, _)

/-- The modulated norm of a point's rows, as the first column tile's point stores it. -/
abbrev normed (c : Dev nD) (t : Fin cfg0.N) : FVec Ideal S1024x2048 .bf16 :=
  k0_pay1 (iblk m c 0 t) (iblk m c 1 t) (iblk m c 2 t) (iblk m c 3 t)

/-- A later column tile's point stages the same rows, shift and scale as the point before it. -/
theorem normed_pred (c : Dev nD) (t : Fin cfg0.N) (h : ¬t.val % 8 = 0) :
    normed m c ⟨t.val - 1, Nat.lt_of_le_of_lt (Nat.sub_le _ _) t.isLt⟩ = normed m c t := by
  have e := idx t
  have e' := idx ⟨t.val - 1, Nat.lt_of_le_of_lt (Nat.sub_le _ _) t.isLt⟩
  have hN := lt_of_lt_of_eq t.isLt (show cfg0.N = 128 from N_0)
  have d1 : (t.val - 1) / 32 = t.val / 32 := by omega
  have d2 : (t.val - 1) / 8 % 4 = t.val / 8 % 4 := by omega
  have e0 : iblk m c 0 ⟨t.val - 1, Nat.lt_of_le_of_lt (Nat.sub_le _ _) t.isLt⟩ = iblk m c 0 t := by
    funext y; blk_point [iblk, V, e, e', d1, d2]
  have e1 : iblk m c 1 ⟨t.val - 1, Nat.lt_of_le_of_lt (Nat.sub_le _ _) t.isLt⟩ = iblk m c 1 t := by
    funext y; blk_point [iblk, V, e, e', d1, d2]
  have e2 : iblk m c 2 ⟨t.val - 1, Nat.lt_of_le_of_lt (Nat.sub_le _ _) t.isLt⟩ = iblk m c 2 t := by
    funext y; blk_point [iblk, V, e, e', d1, d2]
  have e3 : iblk m c 3 ⟨t.val - 1, Nat.lt_of_le_of_lt (Nat.sub_le _ _) t.isLt⟩ = iblk m c 3 t := by
    funext y; blk_point [iblk, V, e, e', d1, d2]
  unfold normed
  rw [e0, e1, e2, e3]

/-- THE KEPT SCRATCH: after every point it holds the modulated norm of that point's rows. -/
theorem kept (c : Dev nD) : ∀ (n : ℕ) (h : n < cfg0.N), (outsAt0 m c n h).2 = normed m c ⟨n, h⟩
  | 0, h => by
    rw [outsAt0_A m c ⟨0, h⟩ (Nat.zero_mod _)]; frame_out
  | n + 1, h => by
    by_cases h0 : (n + 1) % 8 = 0
    · rw [outsAt0_A m c ⟨n + 1, h⟩ h0]; frame_out
    · rw [outsAt0_B m c ⟨n + 1, h⟩ h0]
      exact (kept c n (Nat.lt_of_succ_lt h)).trans (normed_pred m c ⟨n + 1, h⟩ h0)

/-- What a point's product is at an index of its block: the reference at the array index the element sits at. -/
theorem point (c : Dev nD) (t : Fin cfg0.N) (y) :
    k0_pay2 (normed m c t) (iblk m c 4 t) y = result m c (((cfg0.win 5).blk t).view.emb y) := by
  pointwise [k0_pay1, k0_pay2, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, dot_S1024x2048_S2048x1024_S1024x1024_1_0_0_1_n_n]
  simp only [← mul_assoc]
  blk_point [iblk, V, idx t]

/-- So the result array ends holding the reference's value: the blocks tile it. -/
theorem final (c : Dev nD) : (dats m 0 c).arrAt 5 (cfgs 0).N = result m c := by
  refine (dats m 0 c).arrAt_eq_of_covers 5 _ (by decide +kernel) fun t _ y => ?_
  blk_simp
  rw [after0_5]
  by_cases h0 : t.val % 8 = 0
  · rw [outsAt0_A m c t h0]; frame_out
    exact point m c t y
  · rw [outsAt0_B m c t h0, kept m c (t.val - 1), normed_pred m c t h0]; frame_out
    rw [read_unread_whole]
    exact point m c t y

end Cert.ProjQzIdeal.RefValue

namespace Cert.Proof

/-- The kernel and the reference end with the same result array whenever their arguments agree. -/
theorem projQz_algebraic : Cert.algebraic_ProjQzIdeal_ProjQzRefIdeal := by
  intro m ρ m' ρ' _ hagree
  refine ⟨fun c => Cert.ProjQzIdeal.RefValue.result m c, ?_, ?_⟩
  · exact (θ_run Cert.ProjQzIdeal.defs _ _).mono
      (fun _ h c => ⟨((h c).1).trans (Cert.ProjQzIdeal.RefValue.final m c), (h c).2⟩)
      (Cert.ProjQzIdeal.Value.run_blocks (F := Ideal) m ρ)
  · refine (θ_run Cert.ProjQzRefIdeal.defs _ _).mono (fun _ h c => ⟨(h c).1.trans ?_, (h c).2⟩)
      (Cert.ProjQzRefIdeal.Value.run (F := Ideal) m' ρ')
    rw [Cert.ProjQzRefIdeal.Read.val_main_v23_eq, (hagree c).1, (hagree c).2.1, (hagree c).2.2.1, (hagree c).2.2.2.1, (hagree c).2.2.2.2]

end Cert.Proof

end
-- ==== Proof.ProjKvValue.lean ====
/-
  THE VALUE of the shared keys and values, a fused norm and projection: the first point of each row tile writes the modulated RMS norm of its rows into
  the kept scratch, the four points of the row tile multiply it by their column tile of the weights. By induction over the
  points the scratch holds the norm of the CURRENT point's rows, so every point's block is the reference's.
-/
module

public import proofs.«01_k».proof.Defs
public import proofs.«01_k».proof.Proof.Gen.ProjKvIdeal.Value
public import proofs.«01_k».proof.Proof.Gen.ProjKvRefIdeal.Run
public import proofs.«01_k».proof.Proof.Gen.ProjKvRefIdeal.Read
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ProjKvIdeal.RefValue

open Cert.ProjKvIdeal Cert.ProjKvIdeal.Gen
open Cert.ProjKvRefIdeal.Read (val_main_v0 val_main_v1 val_main_v2 val_main_v3 val_main_v4 val_main_v5 val_main_v6 val_main_v7 val_main_v8 val_main_v9 val_main_v10 val_main_v11 val_main_v12 val_main_v13 val_main_v14 val_main_v15 val_main_v16 val_main_v17 val_main_v18 val_main_v19 val_main_v20 val_main_v21 val_main_cst val_main_cst_0 val_main_cst_1 val_main_cst_2)

variable (m : (ℓ : Loc nD τ sig) → Buf (Elt Ideal) ℓ) (ρ : Dev nD → PrngReg)

/-- What the result array is shown to hold: the reference's last value of the argument arrays. -/
abbrev result (c : Dev nD) : FVec Ideal S4x4096x4096 .f32 :=
  val_main_v21 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The block every window takes at a grid point, decided over the points: the row tile is `t / 4`, the column tile `t % 4`. -/
theorem idx : ∀ t : Fin cfg0.N, win0_0.index t = ![t.val / 16, t.val / 4 % 4, 0]
    ∧ win0_1.index t = ![0, 0]
    ∧ win0_2.index t = ![t.val / 16, 0, 0]
    ∧ win0_3.index t = ![t.val / 16, 0, 0]
    ∧ win0_4.index t = ![0, 0, t.val % 4]
    ∧ win0_5.index t = ![t.val / 16, t.val / 4 % 4, t.val % 4] :=
  (by decide +kernel : ∀ t : Fin grid0.N, _)

/-- The modulated norm of a point's rows, as the first column tile's point stores it. -/
abbrev normed (c : Dev nD) (t : Fin cfg0.N) : FVec Ideal S1024x2048 .bf16 :=
  k0_pay1 (iblk m c 0 t) (iblk m c 1 t) (iblk m c 2 t) (iblk m c 3 t)

/-- A later column tile's point stages the same rows, shift and scale as the point before it. -/
theorem normed_pred (c : Dev nD) (t : Fin cfg0.N) (h : ¬t.val % 4 = 0) :
    normed m c ⟨t.val - 1, Nat.lt_of_le_of_lt (Nat.sub_le _ _) t.isLt⟩ = normed m c t := by
  have e := idx t
  have e' := idx ⟨t.val - 1, Nat.lt_of_le_of_lt (Nat.sub_le _ _) t.isLt⟩
  have hN := lt_of_lt_of_eq t.isLt (show cfg0.N = 64 from N_0)
  have d1 : (t.val - 1) / 16 = t.val / 16 := by omega
  have d2 : (t.val - 1) / 4 % 4 = t.val / 4 % 4 := by omega
  have e0 : iblk m c 0 ⟨t.val - 1, Nat.lt_of_le_of_lt (Nat.sub_le _ _) t.isLt⟩ = iblk m c 0 t := by
    funext y; blk_point [iblk, V, e, e', d1, d2]
  have e1 : iblk m c 1 ⟨t.val - 1, Nat.lt_of_le_of_lt (Nat.sub_le _ _) t.isLt⟩ = iblk m c 1 t := by
    funext y; blk_point [iblk, V, e, e', d1, d2]
  have e2 : iblk m c 2 ⟨t.val - 1, Nat.lt_of_le_of_lt (Nat.sub_le _ _) t.isLt⟩ = iblk m c 2 t := by
    funext y; blk_point [iblk, V, e, e', d1, d2]
  have e3 : iblk m c 3 ⟨t.val - 1, Nat.lt_of_le_of_lt (Nat.sub_le _ _) t.isLt⟩ = iblk m c 3 t := by
    funext y; blk_point [iblk, V, e, e', d1, d2]
  unfold normed
  rw [e0, e1, e2, e3]

/-- THE KEPT SCRATCH: after every point it holds the modulated norm of that point's rows. -/
theorem kept (c : Dev nD) : ∀ (n : ℕ) (h : n < cfg0.N), (outsAt0 m c n h).2 = normed m c ⟨n, h⟩
  | 0, h => by
    rw [outsAt0_A m c ⟨0, h⟩ (Nat.zero_mod _)]; frame_out
  | n + 1, h => by
    by_cases h0 : (n + 1) % 4 = 0
    · rw [outsAt0_A m c ⟨n + 1, h⟩ h0]; frame_out
    · rw [outsAt0_B m c ⟨n + 1, h⟩ h0]
      exact (kept c n (Nat.lt_of_succ_lt h)).trans (normed_pred m c ⟨n + 1, h⟩ h0)

/-- What a point's product is at an index of its block: the reference at the array index the element sits at. -/
theorem point (c : Dev nD) (t : Fin cfg0.N) (y) :
    k0_pay2 (normed m c t) (iblk m c 4 t) y = result m c (((cfg0.win 5).blk t).view.emb y) := by
  pointwise [k0_pay1, k0_pay2, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_cst, val_main_cst_0, val_main_cst_1, val_main_cst_2, dot_S1024x2048_S2048x1024_S1024x1024_1_0_0_1_n_n]
  simp only [← mul_assoc]
  blk_point [iblk, V, idx t]

/-- So the result array ends holding the reference's value: the blocks tile it. -/
theorem final (c : Dev nD) : (dats m 0 c).arrAt 5 (cfgs 0).N = result m c := by
  refine (dats m 0 c).arrAt_eq_of_covers 5 _ (by decide +kernel) fun t _ y => ?_
  blk_simp
  rw [after0_5]
  by_cases h0 : t.val % 4 = 0
  · rw [outsAt0_A m c t h0]; frame_out
    exact point m c t y
  · rw [outsAt0_B m c t h0, kept m c (t.val - 1), normed_pred m c t h0]; frame_out
    rw [read_unread_whole]
    exact point m c t y

end Cert.ProjKvIdeal.RefValue

namespace Cert.Proof

/-- The kernel and the reference end with the same result array whenever their arguments agree. -/
theorem projKv_algebraic : Cert.algebraic_ProjKvIdeal_ProjKvRefIdeal := by
  intro m ρ m' ρ' _ hagree
  refine ⟨fun c => Cert.ProjKvIdeal.RefValue.result m c, ?_, ?_⟩
  · exact (θ_run Cert.ProjKvIdeal.defs _ _).mono
      (fun _ h c => ⟨((h c).1).trans (Cert.ProjKvIdeal.RefValue.final m c), (h c).2⟩)
      (Cert.ProjKvIdeal.Value.run_blocks (F := Ideal) m ρ)
  · refine (θ_run Cert.ProjKvRefIdeal.defs _ _).mono (fun _ h c => ⟨(h c).1.trans ?_, (h c).2⟩)
      (Cert.ProjKvRefIdeal.Value.run (F := Ideal) m' ρ')
    rw [Cert.ProjKvRefIdeal.Read.val_main_v21_eq, (hagree c).1, (hagree c).2.1, (hagree c).2.2.1, (hagree c).2.2.2.1, (hagree c).2.2.2.2]

end Cert.Proof

end
-- ==== Proof.ConvIdealSteps.lean ====
/-
  The fused normalisation, product and convolution call (of the program read at the extended reals): what one step of its grid computes, as plain functions of
  the vectors it finds in its buffers. A step finishes the tile whose product the step before left (it lays the eight rows kept
  from the tile above over it, convolves, applies the gate and normalises the heads) and leaves the product of the next tile.
-/
module

public import proofs.«01_k».proof.Proof.Gen.ProjConvIdeal.Frame
public import proofs.«01_k».proof.Proof.Gen.ProjConvIdeal.Skeleton
public import proofs.«01_k».proof.Proof.Gen.ProjConvIdeal.Points
public import proofs.«01_k».proof.Proof.Gen.ProjConvIdeal.Launch
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.ProjConvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Sixteen, as the body computes the divisor of its remainders. -/
abbrev w16 : BitVec 32 := Scalar.select (Scalar.cmpi .eq 16#32 0#32) 1#32 16#32
/-- The remainder of the step by sixteen, before the sign is put right. -/
abbrev stepRem (i : grid0.Coords) : BitVec 32 := Scalar.remsi (BitVec.ofNat 32 (i 1).val) w16
/-- The remainder of the step by sixteen. -/
abbrev stepMod (i : grid0.Coords) : BitVec 32 :=
  Scalar.select (Scalar.andi (Scalar.xori (Scalar.cmpi .slt (stepRem i) 0#32) (Scalar.cmpi .slt w16 0#32)) (Scalar.cmpi .ne (stepRem i) 0#32)) (Scalar.addi (stepRem i) w16) (stepRem i)
/-- The step begins a new tile of rows. -/
abbrev condH1 (i : grid0.Coords) : Prop :=
  Scalar.cmpi .ne (Scalar.extui (Scalar.andi (Scalar.cmpi .eq (stepMod i) 0#32) (Scalar.cmpi .slt (BitVec.ofNat 32 (i 1).val) 64#32))) 0#32 = 1#1
/-- The step is the first of its batch entry. -/
abbrev condH2 (i : grid0.Coords) : Prop :=
  Scalar.cmpi .ne (Scalar.extui (Scalar.cmpi .eq (BitVec.ofNat 32 (i 1).val) 0#32)) 0#32 = 1#1
/-- The remainder by sixteen of the step before, before the sign is put right. -/
abbrev lastRem (i : grid0.Coords) : BitVec 32 := Scalar.remsi (Scalar.maxsi (Scalar.subi (BitVec.ofNat 32 (i 1).val) 1#32) 0#32) w16
/-- The column tile that the step finishes, as the body computes it. -/
abbrev jtWord (i : grid0.Coords) : BitVec 32 :=
  Scalar.select (Scalar.andi (Scalar.xori (Scalar.cmpi .slt (lastRem i) 0#32) (Scalar.cmpi .slt w16 0#32)) (Scalar.cmpi .ne (lastRem i) 0#32)) (Scalar.addi (lastRem i) w16) (lastRem i)

/-- The assertions of the frame: over this program's resources. -/
abbrev Res (F : FTy → Type) [FloatOps F] := MT nD τ sig Unit (Elt F) ℕ (UR sig nD τ) ℕ

/-- The column tile that step `s` finishes. -/
abbrev tileOf (s : ℕ) : ℕ := (s - 1) % 16
theorem tileOf_lt (s : ℕ) : tileOf s < 16 := Nat.mod_lt _ (by decide)

/-- Row group `j` lies in the sixteen kept. -/
theorem row_inb {j : ℕ} (hj : j < 16) : ∀ a, (![j, 0, 0] : Fin 3 → ℕ) a + S1x8x512.size a ≤ S16x8x512.size a := by
  intro a
  match a with
  | ⟨0, _⟩ => show j + 1 ≤ 16; omega
  | ⟨1, _⟩ => show 0 + 8 ≤ 8; omega
  | ⟨2, _⟩ => show 0 + 512 ≤ 512; omega

/-- The eight rows kept for the column tile that step `s` finishes. -/
def haloRow (H : Vec F S16x8x512 .f32) (s : ℕ) : Vec F S1x8x512 .f32 :=
  VecWindow.window H ![tileOf s, 0, 0] S1x8x512.size (row_inb (tileOf_lt s))
/-- The kept rows with those of the column tile that step `s` finishes replaced. -/
def withRow (H : Vec F S16x8x512 .f32) (s : ℕ) (R : Vec F S1x8x512 .f32) : Vec F S16x8x512 .f32 :=
  VecWindow.put H ![tileOf s, 0, 0] S1x8x512.size R
/-- The 1024 rows of a tile's buffer from row 8 on: the tile itself. -/
def tailOf (D : Vec F S1032x512 .f32) : Vec F S1024x512 .f32 :=
  VecWindow.window D ![8, 0] S1024x512.size inb_S1032x512_S1024x512_8_0
/-- The tile one row earlier. -/
def tapA (D : Vec F S1032x512 .f32) : Vec F S1024x512 .f32 :=
  VecWindow.window D ![7, 0] S1024x512.size inb_S1032x512_S1024x512_7_0
/-- The tile two rows earlier. -/
def tapB (D : Vec F S1032x512 .f32) : Vec F S1024x512 .f32 :=
  VecWindow.window D ![6, 0] S1024x512.size inb_S1032x512_S1024x512_6_0
/-- The tile three rows earlier. -/
def tapC (D : Vec F S1032x512 .f32) : Vec F S1024x512 .f32 :=
  VecWindow.window D ![5, 0] S1024x512.size inb_S1032x512_S1024x512_5_0
/-- A tile's buffer with its first eight rows replaced. -/
def withHead (D : Vec F S1032x512 .f32) (R : Vec F S1x8x512 .f32) : Vec F S1032x512 .f32 :=
  VecWindow.put D ![0, 0] S8x512.size (k0_pay2 R)
/-- A tile's buffer with its rows from row 8 on replaced. -/
def withTail (D : Vec F S1032x512 .f32) (P : Vec F S1024x512 .f32) : Vec F S1032x512 .f32 :=
  VecWindow.put D ![8, 0] S1024x512.size P

/-- The convolution of a tile: from the tile, the taps and the buffer with the kept rows laid over. -/
def convOf (P : Vec F S1024x512 .f32) (x5 : Vec F S4x512 .f32) (D : Vec F S1032x512 .f32) : FVec F S1024x512 .f32 :=
  k0_pay4 P x5 (tapA D) (tapB D) (tapC D)
/-- One plus the exponential of the convolution's negative. -/
def gateOf (P : Vec F S1024x512 .f32) (x5 : Vec F S4x512 .f32) (D : Vec F S1032x512 .f32) : FVec F S1024x512 .f32 :=
  k0_pay5 P x5 (tapA D) (tapB D) (tapC D)

/-- The four heads of the output block as the step stores them, the last first. -/
def outPieces (w : BitVec 32) (Y E : FVec F S1024x512 .f32) : List (View.Piece (Elt F) S1x1024x512 .f32) :=
  [⟨Rect.unit ![0, 0, 384] S1x1024x128.size inb_S1x1024x512_S1x1024x128_0_0_384, k0_pay13 (k0_pay6 Y E) (Scalar.cmpi .slt w 8#32) (k0_pay7 w)⟩,
   ⟨Rect.unit ![0, 0, 256] S1x1024x128.size inb_S1x1024x512_S1x1024x128_0_0_256, k0_pay12 (Scalar.cmpi .slt w 8#32) (k0_pay7 w) (k0_pay10 Y E) (k0_pay11 Y E)⟩,
   ⟨Rect.unit ![0, 0, 128] S1x1024x128.size inb_S1x1024x512_S1x1024x128_0_0_128, k0_pay9 w Y E⟩,
   ⟨Rect.unit ![0, 0, 0] S1x1024x128.size inb_S1x1024x512_S1x1024x128_0_0_0, k0_pay8 w Y E⟩]
/-- They fill the block. -/
theorem outCover (w : BitVec 32) (Y E : FVec F S1024x512 .f32) (y : S1x1024x512.Idx) : ∃ p ∈ outPieces w Y E, y ∈ p.1.set :=
  View.cover_of_tiledL (outPieces w Y E) S1x1024x128.size (by sl_kernel_rfl) y
/-- The output block. -/
def outOf (w : BitVec 32) (P : Vec F S1024x512 .f32) (x5 : Vec F S4x512 .f32) (D : Vec F S1032x512 .f32) : Vec F S1x1024x512 .f32 :=
  View.canon (outPieces w (convOf P x5 D) (gateOf P x5 D))

/-- Replacing the first eight rows leaves the tile. -/
theorem tailOf_withHead (D : Vec F S1032x512 .f32) (R : Vec F S1x8x512 .f32) : tailOf (withHead D R) = tailOf D :=
  VecWindow.window_put_of_disjoint D _ _ _ _ _ _ (0 : Fin 2) (.inr (by decide))
/-- The tile just put is the tile. -/
theorem tailOf_withTail (D : Vec F S1032x512 .f32) (P : Vec F S1024x512 .f32) : tailOf (withTail D P) = P :=
  VecWindow.window_put_same D _ _ _ P
/-- With the first eight rows replaced the buffer depends on the tile alone. -/
theorem withHead_congr {D D' : Vec F S1032x512 .f32} (h : tailOf D = tailOf D') (R : Vec F S1x8x512 .f32) : withHead D R = withHead D' R := by
  funext y
  unfold withHead VecWindow.put
  split
  · rfl
  · rename_i hy
    have h8 : 8 ≤ (y 0).val := by
      by_contra h8
      refine hy fun a => ?_
      match a with
      | ⟨0, _⟩ => exact ⟨Nat.zero_le _, show (y 0).val < 0 + 8 by omega⟩
      | ⟨1, _⟩ => exact ⟨Nat.zero_le _, show (y 1).val < 0 + 512 from by have := (y 1).isLt; simpa using this⟩
    have hlt : (y 0).val < 1032 := (y 0).isLt
    have hx : ∀ D : Vec F S1032x512 .f32, D y = tailOf D ((fun a => match a with | ⟨0, _⟩ => ⟨(y 0).val - 8, show (y 0).val - 8 < 1024 by omega⟩ | ⟨1, _⟩ => ⟨(y 1).val, (y 1).isLt⟩) : S1024x512.Idx) := by
      intro D
      unfold tailOf VecWindow.window
      refine congrArg D (funext fun a => Fin.ext ?_)
      match a with
      | ⟨0, _⟩ => show (y 0).val = 8 + 1 * ((y 0).val - 8); omega
      | ⟨1, _⟩ => show (y 1).val = 0 + 1 * (y 1).val; omega
    rw [hx D, hx D', h]

end Cert.ProjConvIdeal.Gen

end
-- ==== Proof.ConvIdealReads.lean ====
/-
  The fused normalisation, product and convolution call (of the program read at the extended reals): what the loads of its body read after its stores, stated of
  the vectors its buffers hold.
-/
module

public import proofs.«01_k».proof.Proof.ConvIdealSteps

@[expose] public section

set_option maxRecDepth 16384

noncomputable section

namespace Cert.ProjConvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What the body's loads read -/

section Reads

variable {sg : RefSig} {κ : Kind} {sp : Space}

/-- A load of a whole buffer reads its contents. -/
theorem rd_full {S : Shape} {e : EltTy} (m : Memref sg κ sp S e) (hm : m.IsWhole) (x : Vec F S e) {off : Fin S.rank → ℕ} (inb : ∀ a, off a + S.size a ≤ S.size a) :
    View.readAt (Elt F) m.view (Rect.unit off S.size inb).toLoadRect (hm.unread x) = x := by
  rw [View.readAt_full, hm.read_unread]

/-- The load of the kept rows reads those of the step's column tile. -/
theorem rd_row (m : Memref sg κ sp S16x8x512 .f32) (hm : m.IsWhole) (H : Vec F S16x8x512 .f32) (s : ℕ) {off : Fin 3 → ℕ} (h : off = ![tileOf s, 0, 0])
    (inb : ∀ a, off a + S1x8x512.size a ≤ S16x8x512.size a) :
    View.readAt (Elt F) m.view (Rect.unit (s := S16x8x512) off S1x8x512.size inb).toLoadRect (hm.unread H) = haloRow H s := by
  rw [View.readAt_unit _ _ _ h (row_inb (tileOf_lt s)), hm.read_unread]; rfl

variable (m : Memref sg κ sp S1032x512 .f32) (hm : m.IsWhole) (D : Vec F S1032x512 .f32)

/-- The load from row 8 reads the tile. -/
theorem rd_tail (inb : ∀ a, (![8, 0] : Fin 2 → ℕ) a + S1024x512.size a ≤ S1032x512.size a) :
    View.readAt (Elt F) m.view (Rect.unit (s := S1032x512) ![8, 0] S1024x512.size inb).toLoadRect (hm.unread D) = tailOf D := by
  rw [View.readAt_unit _ _ _ rfl inb, hm.read_unread]; rfl

variable (R : Vec F S1x8x512 .f32) (inb0 : ∀ a, (![0, 0] : Fin 2 → ℕ) a + S8x512.size a ≤ S1032x512.size a)

/-- After the kept rows are laid over, the buffer reads as the vector with its head replaced. -/
theorem rd_head : View.read (Elt F) m.view (m.view.writes (Elt F) (hm.unread D) [⟨Rect.unit (s := S1032x512) ![0, 0] S8x512.size inb0, k0_pay2 R⟩]) = withHead D R := by
  rw [View.read_writes_cons_put _ _ _ _ _ rfl, View.writes_nil, hm.read_unread]; rfl

/-- The load from row 7 then reads the tile one row earlier, -/
theorem rd_tapA (inb : ∀ a, (![7, 0] : Fin 2 → ℕ) a + S1024x512.size a ≤ S1032x512.size a) :
    View.readAt (Elt F) m.view (Rect.unit (s := S1032x512) ![7, 0] S1024x512.size inb).toLoadRect
      (m.view.writes (Elt F) (hm.unread D) [⟨Rect.unit (s := S1032x512) ![0, 0] S8x512.size inb0, k0_pay2 R⟩]) = tapA (withHead D R) := by
  rw [View.readAt_unit _ _ _ rfl inb, rd_head]; rfl
/-- from row 6 two rows earlier, -/
theorem rd_tapB (inb : ∀ a, (![6, 0] : Fin 2 → ℕ) a + S1024x512.size a ≤ S1032x512.size a) :
    View.readAt (Elt F) m.view (Rect.unit (s := S1032x512) ![6, 0] S1024x512.size inb).toLoadRect
      (m.view.writes (Elt F) (hm.unread D) [⟨Rect.unit (s := S1032x512) ![0, 0] S8x512.size inb0, k0_pay2 R⟩]) = tapB (withHead D R) := by
  rw [View.readAt_unit _ _ _ rfl inb, rd_head]; rfl
/-- and from row 5 three rows earlier. -/
theorem rd_tapC (inb : ∀ a, (![5, 0] : Fin 2 → ℕ) a + S1024x512.size a ≤ S1032x512.size a) :
    View.readAt (Elt F) m.view (Rect.unit (s := S1032x512) ![5, 0] S1024x512.size inb).toLoadRect
      (m.view.writes (Elt F) (hm.unread D) [⟨Rect.unit (s := S1032x512) ![0, 0] S8x512.size inb0, k0_pay2 R⟩]) = tapC (withHead D R) := by
  rw [View.readAt_unit _ _ _ rfl inb, rd_head]; rfl

/-- After the product is stored the buffer reads as the vector with its tile replaced. -/
theorem rd_next (P : Vec F S1024x512 .f32) (inb : ∀ a, (![8, 0] : Fin 2 → ℕ) a + S1024x512.size a ≤ S1032x512.size a) :
    View.read (Elt F) m.view (m.view.writes (Elt F) (hm.unread D) [⟨Rect.unit (s := S1032x512) ![8, 0] S1024x512.size inb, P⟩]) = withTail D P := by
  rw [View.read_writes_cons_put _ _ _ _ _ rfl, View.writes_nil, hm.read_unread]; rfl

/-- After the kept rows of the step's column tile are replaced. -/
theorem rd_kept (m : Memref sg κ sp S16x8x512 .f32) (hm : m.IsWhole) (H : Vec F S16x8x512 .f32) (s : ℕ) {off : Fin 3 → ℕ} (h : off = ![tileOf s, 0, 0])
    (inb : ∀ a, off a + S1x8x512.size a ≤ S16x8x512.size a) (R : Vec F S1x8x512 .f32) :
    View.read (Elt F) m.view (m.view.writes (Elt F) (hm.unread H) [⟨Rect.unit (s := S16x8x512) off S1x8x512.size inb, R⟩]) = withRow H s R := by
  rw [View.read_writes_cons_put _ _ _ _ _ h, View.writes_nil, hm.read_unread]; rfl

/-- The output block, whatever was there before. -/
theorem rd_out (m : Memref sg κ sp S1x1024x512 .f32) (f : m.view.ty.Contents (Elt F)) {w w' : BitVec 32} {Y Y' E E' : FVec F S1024x512 .f32} (hw : w = w') (hY : Y = Y') (hE : E = E') :
    View.read (Elt F) m.view (m.view.writes (Elt F) f (outPieces w Y E)) = View.canon (outPieces w' Y' E') := by
  subst hw; subst hY; subst hE
  exact View.read_writes_eq_canon _ _ _ (outCover _ _ _)

/-! The first step of a batch entry clears the kept rows and the buffer first. -/

/-- The cleared kept rows, read at the step's column tile. -/
theorem rz_row (m : Memref sg κ sp S16x8x512 .f32) (f : m.view.ty.Contents (Elt F)) (H : Vec F S16x8x512 .f32) (s : ℕ) {off : Fin 3 → ℕ} (h : off = ![tileOf s, 0, 0])
    (inb : ∀ a, off a + S1x8x512.size a ≤ S16x8x512.size a) (inbz : ∀ a, (![0, 0, 0] : Fin 3 → ℕ) a + S16x8x512.size a ≤ S16x8x512.size a) :
    View.readAt (Elt F) m.view (Rect.unit (s := S16x8x512) off S1x8x512.size inb).toLoadRect
      (m.view.writes (Elt F) f [⟨Rect.unit (s := S16x8x512) ![0, 0, 0] S16x8x512.size inbz, H⟩]) = haloRow H s := by
  rw [View.readAt_unit _ _ _ h (row_inb (tileOf_lt s)), View.read_writes_full]; rfl

/-- The kept rows with those of the step's column tile replaced. -/
theorem rz_kept (m : Memref sg κ sp S16x8x512 .f32) (f : m.view.ty.Contents (Elt F)) (H : Vec F S16x8x512 .f32) (s : ℕ) {off : Fin 3 → ℕ} (h : off = ![tileOf s, 0, 0])
    (inb : ∀ a, off a + S1x8x512.size a ≤ S16x8x512.size a) (inbz : ∀ a, (![0, 0, 0] : Fin 3 → ℕ) a + S16x8x512.size a ≤ S16x8x512.size a) (R : Vec F S1x8x512 .f32) :
    View.read (Elt F) m.view (m.view.writes (Elt F) f [⟨Rect.unit (s := S16x8x512) off S1x8x512.size inb, R⟩, ⟨Rect.unit (s := S16x8x512) ![0, 0, 0] S16x8x512.size inbz, H⟩]) = withRow H s R := by
  rw [View.read_writes_cons_put _ _ _ _ _ h, View.read_writes_full]; rfl

section Cleared

variable (m : Memref sg κ sp S1032x512 .f32) (f : m.view.ty.Contents (Elt F)) (D : Vec F S1032x512 .f32) (R : Vec F S1x8x512 .f32)
  (inb0 : ∀ a, (![0, 0] : Fin 2 → ℕ) a + S8x512.size a ≤ S1032x512.size a) (inbz : ∀ a, (![0, 0] : Fin 2 → ℕ) a + S1032x512.size a ≤ S1032x512.size a)

/-- The cleared buffer with its head replaced. -/
theorem rz_head : View.read (Elt F) m.view (m.view.writes (Elt F) f [⟨Rect.unit (s := S1032x512) ![0, 0] S8x512.size inb0, k0_pay2 R⟩, ⟨Rect.unit (s := S1032x512) ![0, 0] S1032x512.size inbz, D⟩]) = withHead D R := by
  rw [View.read_writes_cons_put _ _ _ _ _ rfl, View.read_writes_full]; rfl

/-- Its rows from row 8, -/
theorem rz_tail (inb : ∀ a, (![8, 0] : Fin 2 → ℕ) a + S1024x512.size a ≤ S1032x512.size a) :
    View.readAt (Elt F) m.view (Rect.unit (s := S1032x512) ![8, 0] S1024x512.size inb).toLoadRect
      (m.view.writes (Elt F) f [⟨Rect.unit (s := S1032x512) ![0, 0] S8x512.size inb0, k0_pay2 R⟩, ⟨Rect.unit (s := S1032x512) ![0, 0] S1032x512.size inbz, D⟩]) = tailOf D := by
  rw [View.readAt_unit _ _ _ rfl inb, rz_head]; exact tailOf_withHead D R
/-- from row 7, -/
theorem rz_tapA (inb : ∀ a, (![7, 0] : Fin 2 → ℕ) a + S1024x512.size a ≤ S1032x512.size a) :
    View.readAt (Elt F) m.view (Rect.unit (s := S1032x512) ![7, 0] S1024x512.size inb).toLoadRect
      (m.view.writes (Elt F) f [⟨Rect.unit (s := S1032x512) ![0, 0] S8x512.size inb0, k0_pay2 R⟩, ⟨Rect.unit (s := S1032x512) ![0, 0] S1032x512.size inbz, D⟩]) = tapA (withHead D R) := by
  rw [View.readAt_unit _ _ _ rfl inb, rz_head]; rfl
/-- from row 6 -/
theorem rz_tapB (inb : ∀ a, (![6, 0] : Fin 2 → ℕ) a + S1024x512.size a ≤ S1032x512.size a) :
    View.readAt (Elt F) m.view (Rect.unit (s := S1032x512) ![6, 0] S1024x512.size inb).toLoadRect
      (m.view.writes (Elt F) f [⟨Rect.unit (s := S1032x512) ![0, 0] S8x512.size inb0, k0_pay2 R⟩, ⟨Rect.unit (s := S1032x512) ![0, 0] S1032x512.size inbz, D⟩]) = tapB (withHead D R) := by
  rw [View.readAt_unit _ _ _ rfl inb, rz_head]; rfl
/-- and from row 5. -/
theorem rz_tapC (inb : ∀ a, (![5, 0] : Fin 2 → ℕ) a + S1024x512.size a ≤ S1032x512.size a) :
    View.readAt (Elt F) m.view (Rect.unit (s := S1032x512) ![5, 0] S1024x512.size inb).toLoadRect
      (m.view.writes (Elt F) f [⟨Rect.unit (s := S1032x512) ![0, 0] S8x512.size inb0, k0_pay2 R⟩, ⟨Rect.unit (s := S1032x512) ![0, 0] S1032x512.size inbz, D⟩]) = tapC (withHead D R) := by
  rw [View.readAt_unit _ _ _ rfl inb, rz_head]; rfl

end Cleared

end Reads

/-! The odd step's payloads are the even step's. -/

theorem pay16_eq : k0_pay16 (F := F) = k0_pay2 := rfl
theorem pay17_eq : k0_pay17 (F := F) = k0_pay3 := rfl
theorem pay18_eq : k0_pay18 (F := F) = k0_pay4 := rfl
theorem pay19_eq : k0_pay19 (F := F) = k0_pay5 := rfl
theorem pay20_eq : k0_pay20 (F := F) = k0_pay6 := rfl
theorem pay21_eq : k0_pay21 (F := F) = k0_pay7 := rfl
theorem pay22_eq : k0_pay22 (F := F) = k0_pay8 := rfl
theorem pay23_eq : k0_pay23 (F := F) = k0_pay9 := rfl
theorem pay24_eq : k0_pay24 (F := F) = k0_pay10 := rfl
theorem pay25_eq : k0_pay25 (F := F) = k0_pay11 := rfl
theorem pay26_eq : k0_pay26 (F := F) = k0_pay12 := rfl
theorem pay27_eq : k0_pay27 (F := F) = k0_pay13 := rfl
theorem pay28_eq : k0_pay28 (F := F) = k0_pay14 := rfl
theorem off2_eq : k0_off2 = k0_off1 := rfl

end Cert.ProjConvIdeal.Gen

end
-- ==== Proof.ConvIdealRunD.lean ====
/-
  The fused normalisation, product and convolution call (of the program read at the extended reals): its body run at an odd step.
-/
module

public import proofs.«01_k».proof.Proof.ConvIdealReads

@[expose] public section

set_option maxRecDepth 16384

noncomputable section

namespace Cert.ProjConvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 1000000 in
/-- The body at an odd step: on buffers that hold what is stated it runs to its end and leaves what is stated. -/
theorem runD (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x512 .bf16) (harg6 : arg6.IsWhole) (arg7 : Memref sig .tc .vmem S4x512 .f32) (harg7 : arg7.IsWhole) (arg8 : Memref sig .tc .vmem S1x1024x512 .f32) (harg8 : arg8.IsWhole) (arg9 : Memref sig .tc .vmem S1024x2048 .bf16) (harg9 : arg9.IsWhole) (arg10 : Memref sig .tc .vmem S16x8x512 .f32) (harg10 : arg10.IsWhole) (arg11 : Memref sig .tc .vmem S1032x512 .f32) (harg11 : arg11.IsWhole) (arg12 : Memref sig .tc .vmem S1032x512 .f32) (harg12 : arg12.IsWhole)
    (x0 : Vec F S1x1024x2048 .f32) (x1 : Vec F S1x2048 .f32) (x2 : Vec F S1x1x2048 .f32) (x3 : Vec F S1x1x2048 .f32) (x4 : Vec F S1x2048x512 .bf16) (x5 : Vec F S4x512 .f32) (xs0 : Vec F S1024x2048 .bf16) (xs1 : Vec F S16x8x512 .f32) (xs2 xs3 : Vec F S1032x512 .f32)
    (hc1 : ¬ condH1 i) (hc2 : ¬ condH2 i) (hc3 : ¬ k0_cond3 i = 1#1) (hc4 : k0_cond4 i = 1#1) (hoff : k0_off1 i = ![tileOf (i 1).val, 0, 0]) (hw : jtWord i = BitVec.ofNat 32 (tileOf (i 1).val))
    (E : Set ℕ) (K : PUnit → sProp (Res F)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outOf (BitVec.ofNat 32 (tileOf (i 1).val)) (tailOf xs2) x5 (withHead xs2 (haloRow xs1 (i 1).val))) ∗ owns (c : Thread nD τ) arg9 fullShare xs0 ∗ owns (c : Thread nD τ) arg10 fullShare (withRow xs1 (i 1).val (k0_pay3 (BitVec.ofNat 32 (i 1).val) (haloRow xs1 (i 1).val) (tailOf xs2))) ∗ owns (c : Thread nD τ) arg11 fullShare (withHead xs2 (haloRow xs1 (i 1).val)) ∗ owns (c : Thread nD τ) arg12 fullShare (withTail xs3 (k0_pay14 xs0 x4))) -∗ K ⟨⟩))
      ⊢ wp frame (wpE (defs₀ (F := F)) Variants.none c none) E (cc0_norm_matmul_conv i arg2 harg2 arg3 harg3 arg4 harg4 arg5 harg5 arg6 harg6 arg7 harg7 arg8 harg8 arg9 harg9 arg10 harg10 arg11 harg11 arg12 harg12) K := by
  simp only [cc0_norm_matmul_conv_eq_skeleton]; unfold cc0_norm_matmul_conv_skel
  simp only [k0_part7_eq_skeleton]; unfold k0_part7_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d5, %f6, -, H6⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2; obtain rfl := harg12.eq_unread hfs3
  skip
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    delta runD.sl.r_2 runD.sl.r_3 runD.sl.r_4 runD.sl.r_5 runD.sl.r runD.sl.r_1 runD.sl.v98 runD.sl.HS2_1 runD.sl.v62
    simp only [pay16_eq, pay17_eq, pay18_eq, pay19_eq, pay20_eq, pay21_eq, pay22_eq, pay23_eq, pay24_eq, pay25_eq, pay26_eq, pay27_eq, pay28_eq]
    rw [rd_tail, rd_full, rd_row _ _ _ _ (off2_eq ▸ hoff : k0_off2 i = _), rd_tapA, rd_tapB, rd_tapC]
    exact rd_out arg8 f6 hw rfl rfl
  isplitl [HS0]
  · iexists _; isplitr; swap; · iexact HS0
    ipureintro
    exact harg9.read_unread _
  isplitl [HS1]
  · iexists _; isplitr; swap; · iexact HS1
    ipureintro
    delta runD.sl.v62
    simp only [pay16_eq, pay17_eq, pay18_eq, pay19_eq, pay20_eq, pay21_eq, pay22_eq, pay23_eq, pay24_eq, pay25_eq, pay26_eq, pay27_eq, pay28_eq]
    rw [rd_tail, rd_row _ _ _ _ (off2_eq ▸ hoff : k0_off2 i = _)]
    exact rd_kept _ _ _ _ (off2_eq ▸ hoff : k0_off2 i = _) _ _
  isplitl [HS2]
  · iexists _; isplitr; swap; · iexact HS2
    ipureintro
    delta runD.sl.HS2_1
    simp only [pay16_eq, pay17_eq, pay18_eq, pay19_eq, pay20_eq, pay21_eq, pay22_eq, pay23_eq, pay24_eq, pay25_eq, pay26_eq, pay27_eq, pay28_eq]
    rw [rd_row _ _ _ _ (off2_eq ▸ hoff : k0_off2 i = _)]
    exact rd_head _ _ _ _ _
  iexists _; isplitr; swap; · iexact HS3
  ipureintro
  delta runD.sl.r_6
  simp only [pay16_eq, pay17_eq, pay18_eq, pay19_eq, pay20_eq, pay21_eq, pay22_eq, pay23_eq, pay24_eq, pay25_eq, pay26_eq, pay27_eq, pay28_eq]
  rw [rd_full, rd_full]
  exact rd_next _ _ _ _ _

end Cert.ProjConvIdeal.Gen

end
-- ==== Proof.ConvIdealRunC.lean ====
/-
  The fused normalisation, product and convolution call (of the program read at the extended reals): its body run at an even step inside a tile of rows.
-/
module

public import proofs.«01_k».proof.Proof.ConvIdealRunD

@[expose] public section

set_option maxRecDepth 16384

noncomputable section

namespace Cert.ProjConvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 1000000 in
/-- The body at an even step inside a tile of rows: on buffers that hold what is stated it runs to its end and leaves what is stated. -/
theorem runC (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x512 .bf16) (harg6 : arg6.IsWhole) (arg7 : Memref sig .tc .vmem S4x512 .f32) (harg7 : arg7.IsWhole) (arg8 : Memref sig .tc .vmem S1x1024x512 .f32) (harg8 : arg8.IsWhole) (arg9 : Memref sig .tc .vmem S1024x2048 .bf16) (harg9 : arg9.IsWhole) (arg10 : Memref sig .tc .vmem S16x8x512 .f32) (harg10 : arg10.IsWhole) (arg11 : Memref sig .tc .vmem S1032x512 .f32) (harg11 : arg11.IsWhole) (arg12 : Memref sig .tc .vmem S1032x512 .f32) (harg12 : arg12.IsWhole)
    (x0 : Vec F S1x1024x2048 .f32) (x1 : Vec F S1x2048 .f32) (x2 : Vec F S1x1x2048 .f32) (x3 : Vec F S1x1x2048 .f32) (x4 : Vec F S1x2048x512 .bf16) (x5 : Vec F S4x512 .f32) (xs0 : Vec F S1024x2048 .bf16) (xs1 : Vec F S16x8x512 .f32) (xs2 xs3 : Vec F S1032x512 .f32)
    (hc1 : ¬ condH1 i) (hc2 : ¬ condH2 i) (hc3 : k0_cond3 i = 1#1) (hc4 : ¬ k0_cond4 i = 1#1) (hoff : k0_off1 i = ![tileOf (i 1).val, 0, 0]) (hw : jtWord i = BitVec.ofNat 32 (tileOf (i 1).val))
    (E : Set ℕ) (K : PUnit → sProp (Res F)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outOf (BitVec.ofNat 32 (tileOf (i 1).val)) (tailOf xs3) x5 (withHead xs3 (haloRow xs1 (i 1).val))) ∗ owns (c : Thread nD τ) arg9 fullShare xs0 ∗ owns (c : Thread nD τ) arg10 fullShare (withRow xs1 (i 1).val (k0_pay3 (BitVec.ofNat 32 (i 1).val) (haloRow xs1 (i 1).val) (tailOf xs3))) ∗ owns (c : Thread nD τ) arg11 fullShare (withTail xs2 (k0_pay14 xs0 x4)) ∗ owns (c : Thread nD τ) arg12 fullShare (withHead xs3 (haloRow xs1 (i 1).val))) -∗ K ⟨⟩))
      ⊢ wp frame (wpE (defs₀ (F := F)) Variants.none c none) E (cc0_norm_matmul_conv i arg2 harg2 arg3 harg3 arg4 harg4 arg5 harg5 arg6 harg6 arg7 harg7 arg8 harg8 arg9 harg9 arg10 harg10 arg11 harg11 arg12 harg12) K := by
  simp only [cc0_norm_matmul_conv_eq_skeleton]; unfold cc0_norm_matmul_conv_skel
  simp only [k0_part7_eq_skeleton]; unfold k0_part7_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d5, %f6, -, H6⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2; obtain rfl := harg12.eq_unread hfs3
  skip
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    delta runC.sl.r_2 runC.sl.r_3 runC.sl.r_4 runC.sl.r_5 runC.sl.r runC.sl.r_1 runC.sl.v98 runC.sl.HS3_1 runC.sl.v62
    simp only [pay16_eq, pay17_eq, pay18_eq, pay19_eq, pay20_eq, pay21_eq, pay22_eq, pay23_eq, pay24_eq, pay25_eq, pay26_eq, pay27_eq, pay28_eq]
    rw [rd_tail, rd_full, rd_row _ _ _ _ hoff, rd_tapA, rd_tapB, rd_tapC]
    exact rd_out arg8 f6 hw rfl rfl
  isplitl [HS0]
  · iexists _; isplitr; swap; · iexact HS0
    ipureintro
    exact harg9.read_unread _
  isplitl [HS1]
  · iexists _; isplitr; swap; · iexact HS1
    ipureintro
    delta runC.sl.v62
    simp only [pay16_eq, pay17_eq, pay18_eq, pay19_eq, pay20_eq, pay21_eq, pay22_eq, pay23_eq, pay24_eq, pay25_eq, pay26_eq, pay27_eq, pay28_eq]
    rw [rd_tail, rd_row _ _ _ _ hoff]
    exact rd_kept _ _ _ _ hoff _ _
  isplitl [HS2]
  · iexists _; isplitr; swap; · iexact HS2
    ipureintro
    delta runC.sl.r_6
    simp only [pay16_eq, pay17_eq, pay18_eq, pay19_eq, pay20_eq, pay21_eq, pay22_eq, pay23_eq, pay24_eq, pay25_eq, pay26_eq, pay27_eq, pay28_eq]
    rw [rd_full, rd_full]
    exact rd_next _ _ _ _ _
  iexists _; isplitr; swap; · iexact HS3
  ipureintro
  delta runC.sl.HS3_1
  simp only [pay16_eq, pay17_eq, pay18_eq, pay19_eq, pay20_eq, pay21_eq, pay22_eq, pay23_eq, pay24_eq, pay25_eq, pay26_eq, pay27_eq, pay28_eq]
  rw [rd_row _ _ _ _ hoff]
  exact rd_head _ _ _ _ _

end Cert.ProjConvIdeal.Gen

end
-- ==== Proof.ConvIdealRunB.lean ====
/-
  The fused normalisation, product and convolution call (of the program read at the extended reals): its body run at a later step that begins a tile of rows.
-/
module

public import proofs.«01_k».proof.Proof.ConvIdealRunC

@[expose] public section

set_option maxRecDepth 16384

noncomputable section

namespace Cert.ProjConvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 1000000 in
/-- The body at a later step that begins a tile of rows: on buffers that hold what is stated it runs to its end and leaves what is stated. -/
theorem runB (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x512 .bf16) (harg6 : arg6.IsWhole) (arg7 : Memref sig .tc .vmem S4x512 .f32) (harg7 : arg7.IsWhole) (arg8 : Memref sig .tc .vmem S1x1024x512 .f32) (harg8 : arg8.IsWhole) (arg9 : Memref sig .tc .vmem S1024x2048 .bf16) (harg9 : arg9.IsWhole) (arg10 : Memref sig .tc .vmem S16x8x512 .f32) (harg10 : arg10.IsWhole) (arg11 : Memref sig .tc .vmem S1032x512 .f32) (harg11 : arg11.IsWhole) (arg12 : Memref sig .tc .vmem S1032x512 .f32) (harg12 : arg12.IsWhole)
    (x0 : Vec F S1x1024x2048 .f32) (x1 : Vec F S1x2048 .f32) (x2 : Vec F S1x1x2048 .f32) (x3 : Vec F S1x1x2048 .f32) (x4 : Vec F S1x2048x512 .bf16) (x5 : Vec F S4x512 .f32) (xs0 : Vec F S1024x2048 .bf16) (xs1 : Vec F S16x8x512 .f32) (xs2 xs3 : Vec F S1032x512 .f32)
    (hc1 : condH1 i) (hc2 : ¬ condH2 i) (hc3 : k0_cond3 i = 1#1) (hc4 : ¬ k0_cond4 i = 1#1) (hoff : k0_off1 i = ![tileOf (i 1).val, 0, 0]) (hw : jtWord i = BitVec.ofNat 32 (tileOf (i 1).val))
    (E : Set ℕ) (K : PUnit → sProp (Res F)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outOf (BitVec.ofNat 32 (tileOf (i 1).val)) (tailOf xs3) x5 (withHead xs3 (haloRow xs1 (i 1).val))) ∗ owns (c : Thread nD τ) arg9 fullShare (k0_pay29 x0 x1 x2 x3) ∗ owns (c : Thread nD τ) arg10 fullShare (withRow xs1 (i 1).val (k0_pay3 (BitVec.ofNat 32 (i 1).val) (haloRow xs1 (i 1).val) (tailOf xs3))) ∗ owns (c : Thread nD τ) arg11 fullShare (withTail xs2 (k0_pay14 (k0_pay29 x0 x1 x2 x3) x4)) ∗ owns (c : Thread nD τ) arg12 fullShare (withHead xs3 (haloRow xs1 (i 1).val))) -∗ K ⟨⟩))
      ⊢ wp frame (wpE (defs₀ (F := F)) Variants.none c none) E (cc0_norm_matmul_conv i arg2 harg2 arg3 harg3 arg4 harg4 arg5 harg5 arg6 harg6 arg7 harg7 arg8 harg8 arg9 harg9 arg10 harg10 arg11 harg11 arg12 harg12) K := by
  simp only [cc0_norm_matmul_conv_eq_skeleton]; unfold cc0_norm_matmul_conv_skel
  simp only [k0_part7_eq_skeleton]; unfold k0_part7_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d5, %f6, -, H6⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2; obtain rfl := harg12.eq_unread hfs3
  skip
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    delta runB.sl.r_2 runB.sl.r_3 runB.sl.r_4 runB.sl.r_5 runB.sl.r runB.sl.r_1 runB.sl.v98 runB.sl.HS3_1 runB.sl.v62
    simp only [pay16_eq, pay17_eq, pay18_eq, pay19_eq, pay20_eq, pay21_eq, pay22_eq, pay23_eq, pay24_eq, pay25_eq, pay26_eq, pay27_eq, pay28_eq]
    rw [rd_tail, rd_full, rd_row _ _ _ _ hoff, rd_tapA, rd_tapB, rd_tapC]
    exact rd_out arg8 f6 hw rfl rfl
  isplitl [HS0]
  · iexists _; isplitr; swap; · iexact HS0
    ipureintro
    delta runB.sl.HS0_1
    repeat rw [rd_full]
    exact View.read_writes_full _ _ _ _ _
  isplitl [HS1]
  · iexists _; isplitr; swap; · iexact HS1
    ipureintro
    delta runB.sl.v62
    simp only [pay16_eq, pay17_eq, pay18_eq, pay19_eq, pay20_eq, pay21_eq, pay22_eq, pay23_eq, pay24_eq, pay25_eq, pay26_eq, pay27_eq, pay28_eq]
    rw [rd_tail, rd_row _ _ _ _ hoff]
    exact rd_kept _ _ _ _ hoff _ _
  isplitl [HS2]
  · iexists _; isplitr; swap; · iexact HS2
    ipureintro
    delta runB.sl.r_6 runB.sl.v165 runB.sl.HS0_1
    simp only [pay16_eq, pay17_eq, pay18_eq, pay19_eq, pay20_eq, pay21_eq, pay22_eq, pay23_eq, pay24_eq, pay25_eq, pay26_eq, pay27_eq, pay28_eq]
    repeat rw [rd_full]
    rw [View.readCov_full]
    exact rd_next _ _ _ _ _
  iexists _; isplitr; swap; · iexact HS3
  ipureintro
  delta runB.sl.HS3_1
  simp only [pay16_eq, pay17_eq, pay18_eq, pay19_eq, pay20_eq, pay21_eq, pay22_eq, pay23_eq, pay24_eq, pay25_eq, pay26_eq, pay27_eq, pay28_eq]
  rw [rd_row _ _ _ _ hoff]
  exact rd_head _ _ _ _ _

end Cert.ProjConvIdeal.Gen

end
-- ==== Proof.ConvIdealRunA.lean ====
/-
  The fused normalisation, product and convolution call (of the program read at the extended reals): its body run at the first step of a batch entry.
-/
module

public import proofs.«01_k».proof.Proof.ConvIdealRunB

@[expose] public section

set_option maxRecDepth 16384

noncomputable section

namespace Cert.ProjConvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 1000000 in
/-- The body at the first step of a batch entry: on buffers that hold what is stated it runs to its end and leaves what is stated. -/
theorem runA (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x512 .bf16) (harg6 : arg6.IsWhole) (arg7 : Memref sig .tc .vmem S4x512 .f32) (harg7 : arg7.IsWhole) (arg8 : Memref sig .tc .vmem S1x1024x512 .f32) (harg8 : arg8.IsWhole) (arg9 : Memref sig .tc .vmem S1024x2048 .bf16) (harg9 : arg9.IsWhole) (arg10 : Memref sig .tc .vmem S16x8x512 .f32) (harg10 : arg10.IsWhole) (arg11 : Memref sig .tc .vmem S1032x512 .f32) (harg11 : arg11.IsWhole) (arg12 : Memref sig .tc .vmem S1032x512 .f32) (harg12 : arg12.IsWhole)
    (x0 : Vec F S1x1024x2048 .f32) (x1 : Vec F S1x2048 .f32) (x2 : Vec F S1x1x2048 .f32) (x3 : Vec F S1x1x2048 .f32) (x4 : Vec F S1x2048x512 .bf16) (x5 : Vec F S4x512 .f32) (xs0 : Vec F S1024x2048 .bf16) (xs1 : Vec F S16x8x512 .f32) (xs2 xs3 : Vec F S1032x512 .f32)
    (hc1 : condH1 i) (hc2 : condH2 i) (hc3 : k0_cond3 i = 1#1) (hc4 : ¬ k0_cond4 i = 1#1) (hoff : k0_off1 i = ![tileOf (i 1).val, 0, 0]) (hw : jtWord i = BitVec.ofNat 32 (tileOf (i 1).val))
    (E : Set ℕ) (K : PUnit → sProp (Res F)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outOf (BitVec.ofNat 32 (tileOf (i 1).val)) (tailOf k0_pay30) x5 (withHead k0_pay30 (haloRow k0_pay31 (i 1).val))) ∗ owns (c : Thread nD τ) arg9 fullShare (k0_pay29 x0 x1 x2 x3) ∗ owns (c : Thread nD τ) arg10 fullShare (withRow k0_pay31 (i 1).val (k0_pay3 (BitVec.ofNat 32 (i 1).val) (haloRow k0_pay31 (i 1).val) (tailOf k0_pay30))) ∗ owns (c : Thread nD τ) arg11 fullShare (withTail xs2 (k0_pay14 (k0_pay29 x0 x1 x2 x3) x4)) ∗ owns (c : Thread nD τ) arg12 fullShare (withHead k0_pay30 (haloRow k0_pay31 (i 1).val))) -∗ K ⟨⟩))
      ⊢ wp frame (wpE (defs₀ (F := F)) Variants.none c none) E (cc0_norm_matmul_conv i arg2 harg2 arg3 harg3 arg4 harg4 arg5 harg5 arg6 harg6 arg7 harg7 arg8 harg8 arg9 harg9 arg10 harg10 arg11 harg11 arg12 harg12) K := by
  simp only [cc0_norm_matmul_conv_eq_skeleton]; unfold cc0_norm_matmul_conv_skel
  simp only [k0_part7_eq_skeleton]; unfold k0_part7_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d5, %f6, -, H6⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2; obtain rfl := harg12.eq_unread hfs3
  letI : ClosedOff (k0_off1 i) := ⟨![tileOf (i 1).val, 0, 0], hoff⟩
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    delta runA.sl.r_2 runA.sl.r_3 runA.sl.r_4 runA.sl.r_5 runA.sl.r runA.sl.r_1 runA.sl.v98 runA.sl.v62 runA.sl.v76 runA.sl.v81 runA.sl.v86
    delta runA.sl.HS3_2 runA.sl.v57 runA.sl.HS1_1 View.readCov
    simp only [pay16_eq, pay17_eq, pay18_eq, pay19_eq, pay20_eq, pay21_eq, pay22_eq, pay23_eq, pay24_eq, pay25_eq, pay26_eq, pay27_eq, pay28_eq]
    rw [rz_row _ _ _ _ hoff, rz_tail, rd_full, rz_tapA, rz_tapB, rz_tapC]
    exact rd_out arg8 f6 hw rfl rfl
  isplitl [HS0]
  · iexists _; isplitr; swap; · iexact HS0
    ipureintro
    delta runA.sl.HS0_1
    repeat rw [rd_full]
    exact View.read_writes_full _ _ _ _ _
  isplitl [HS1]
  · iexists _; isplitr; swap; · iexact HS1
    ipureintro
    delta runA.sl.v62 runA.sl.v57 runA.sl.HS1_1 View.readCov
    delta runA.sl.HS3_2 runA.sl.v57 runA.sl.HS1_1
    simp only [pay16_eq, pay17_eq, pay18_eq, pay19_eq, pay20_eq, pay21_eq, pay22_eq, pay23_eq, pay24_eq, pay25_eq, pay26_eq, pay27_eq, pay28_eq]
    rw [rz_row _ _ _ _ hoff, rz_tail]
    exact rz_kept _ _ _ _ hoff _ _ _
  isplitl [HS2]
  · iexists _; isplitr; swap; · iexact HS2
    ipureintro
    delta runA.sl.r_6 runA.sl.v165 runA.sl.HS0_1
    simp only [pay16_eq, pay17_eq, pay18_eq, pay19_eq, pay20_eq, pay21_eq, pay22_eq, pay23_eq, pay24_eq, pay25_eq, pay26_eq, pay27_eq, pay28_eq]
    repeat rw [rd_full]
    rw [View.readCov_full]
    exact rd_next _ _ _ _ _
  iexists _; isplitr; swap; · iexact HS3
  ipureintro
  delta runA.sl.HS3_2
  delta runA.sl.v57 runA.sl.HS1_1
  simp only [pay16_eq, pay17_eq, pay18_eq, pay19_eq, pay20_eq, pay21_eq, pay22_eq, pay23_eq, pay24_eq, pay25_eq, pay26_eq, pay27_eq, pay28_eq]
  rw [rz_row _ _ _ _ hoff]
  exact rz_head _ _ _ _ _ _

end Cert.ProjConvIdeal.Gen

end
-- ==== Proof.ConvIdealState.lean ====
/-
  The fused normalisation, product and convolution call (of the program read at the extended reals): what its buffers hold from point to point.
-/
module

public import proofs.«01_k».proof.Proof.ConvIdealRunA
public import Idealize.ShloMosaic.Lib.Claim

@[expose] public section

set_option maxRecDepth 16384

noncomputable section

namespace Cert.ProjConvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## Where a point stands -/

theorem step_lt (t : Fin cfg0.N) : t.val % 65 < 65 := Nat.mod_lt _ (by decide)
/-- The step of a point within its batch entry. -/
theorem step_eq (t : Fin cfg0.N) : (grid0.coords t 1).val = t.val % 65 :=
  (show (grid0.coords t 1).val = t.val / 1 % 65 from Pipeline.Grid.coords_val t 1 (by decide) rfl).trans (by rw [Nat.div_one])

/-- A new tile of rows begins at every sixteenth step but the last. -/
theorem condH1_iff : ∀ t : Fin cfg0.N, condH1 (grid0.coords t) ↔ t.val % 65 % 16 = 0 ∧ t.val % 65 < 64 :=
  (by decide +kernel : ∀ t : Fin grid0.N, condH1 (grid0.coords t) ↔ t.val % 65 % 16 = 0 ∧ t.val % 65 < 64)
/-- A batch entry begins at step 0. -/
theorem condH2_iff : ∀ t : Fin cfg0.N, condH2 (grid0.coords t) ↔ t.val % 65 = 0 :=
  (by decide +kernel : ∀ t : Fin grid0.N, condH2 (grid0.coords t) ↔ t.val % 65 = 0)
/-- The even steps, -/
theorem cond3_iff : ∀ t : Fin cfg0.N, k0_cond3 (grid0.coords t) = 1#1 ↔ t.val % 65 % 2 = 0 :=
  (by decide +kernel : ∀ t : Fin grid0.N, k0_cond3 (grid0.coords t) = 1#1 ↔ t.val % 65 % 2 = 0)
/-- and the odd ones. -/
theorem cond4_iff : ∀ t : Fin cfg0.N, k0_cond4 (grid0.coords t) = 1#1 ↔ t.val % 65 % 2 = 1 :=
  (by decide +kernel : ∀ t : Fin grid0.N, k0_cond4 (grid0.coords t) = 1#1 ↔ t.val % 65 % 2 = 1)
/-- Where the kept rows of the step's column tile lie. -/
theorem off1_at : ∀ t : Fin cfg0.N, k0_off1 (grid0.coords t) = ![tileOf (grid0.coords t 1).val, 0, 0] :=
  (by decide +kernel : ∀ t : Fin grid0.N, k0_off1 (grid0.coords t) = ![tileOf (grid0.coords t 1).val, 0, 0])
/-- The column tile the step finishes, as a word. -/
theorem word_at : ∀ t : Fin cfg0.N, jtWord (grid0.coords t) = BitVec.ofNat 32 (tileOf (grid0.coords t 1).val) :=
  (by decide +kernel : ∀ t : Fin grid0.N, jtWord (grid0.coords t) = BitVec.ofNat 32 (tileOf (grid0.coords t 1).val))

/-! ## What the body's buffers hold after a point -/

/-- The normalised rows after point `n`: computed when a tile of rows begins, kept until the next begins. -/
def normF (c : Dev nD) : (n : ℕ) → n < cfg0.N → Vec F S1024x2048 .bf16
  | 0, h => k0_pay29 (iblk m c 0 ⟨0, h⟩) (iblk m c 1 ⟨0, h⟩) (iblk m c 2 ⟨0, h⟩) (iblk m c 3 ⟨0, h⟩)
  | n + 1, h =>
    if (n + 1) % 65 % 16 = 0 ∧ (n + 1) % 65 < 64 then
      k0_pay29 (iblk m c 0 ⟨n + 1, h⟩) (iblk m c 1 ⟨n + 1, h⟩) (iblk m c 2 ⟨n + 1, h⟩) (iblk m c 3 ⟨n + 1, h⟩)
    else normF c n (Nat.lt_of_succ_lt h)
/-- The product computed at point `n`. -/
def prodF (c : Dev nD) (n : ℕ) (h : n < cfg0.N) : Vec F S1024x512 .f32 := k0_pay14 (normF m c n h) (X0_4 m c ⟨n, h⟩)
/-- The product that point `n` convolves: the point before's, nothing at the first step of a batch entry. -/
def lastF (c : Dev nD) : (n : ℕ) → n < cfg0.N → Vec F S1024x512 .f32
  | 0, _ => tailOf k0_pay30
  | n + 1, h => if (n + 1) % 65 = 0 then tailOf k0_pay30 else prodF m c n (Nat.lt_of_succ_lt h)
/-- The kept rows after point `n`. -/
def haloF (c : Dev nD) : (n : ℕ) → n < cfg0.N → Vec F S16x8x512 .f32
  | 0, h => withRow k0_pay31 0 (k0_pay3 (BitVec.ofNat 32 0) (haloRow k0_pay31 0) (lastF m c 0 h))
  | n + 1, h =>
    withRow (if (n + 1) % 65 = 0 then k0_pay31 else haloF c n (Nat.lt_of_succ_lt h)) ((n + 1) % 65)
      (k0_pay3 (BitVec.ofNat 32 ((n + 1) % 65)) (haloRow (if (n + 1) % 65 = 0 then k0_pay31 else haloF c n (Nat.lt_of_succ_lt h)) ((n + 1) % 65)) (lastF m c (n + 1) h))
/-- The kept rows point `n` finds, cleared at the first step of a batch entry. -/
def keptF (c : Dev nD) : (n : ℕ) → n < cfg0.N → Vec F S16x8x512 .f32
  | 0, _ => k0_pay31
  | n + 1, h => if (n + 1) % 65 = 0 then k0_pay31 else haloF m c n (Nat.lt_of_succ_lt h)
/-- The output block at point `n`. -/
def outF (c : Dev nD) (n : ℕ) (h : n < cfg0.N) : Vec F S1x1024x512 .f32 :=
  outOf (BitVec.ofNat 32 (tileOf (n % 65))) (lastF m c n h) (iblk m c 5 ⟨n, h⟩) (withHead (withTail k0_pay30 (lastF m c n h)) (haloRow (keptF m c n h) (n % 65)))

theorem normF_begin (c : Dev nD) (n : ℕ) (h : n < cfg0.N) (hb : n % 65 % 16 = 0 ∧ n % 65 < 64) :
    normF m c n h = k0_pay29 (iblk m c 0 ⟨n, h⟩) (iblk m c 1 ⟨n, h⟩) (iblk m c 2 ⟨n, h⟩) (iblk m c 3 ⟨n, h⟩) := by
  cases n with
  | zero => rfl
  | succ n => rw [normF, if_pos hb]
theorem normF_keep (c : Dev nD) (n : ℕ) (h : n + 1 < cfg0.N) (hb : ¬ ((n + 1) % 65 % 16 = 0 ∧ (n + 1) % 65 < 64)) :
    normF m c (n + 1) h = normF m c n (Nat.lt_of_succ_lt h) := by rw [normF, if_neg hb]
theorem lastF_first (c : Dev nD) (n : ℕ) (h : n < cfg0.N) (h0 : n % 65 = 0) : lastF m c n h = tailOf k0_pay30 := by
  cases n with
  | zero => rfl
  | succ n => rw [lastF, if_pos h0]
theorem lastF_succ (c : Dev nD) (n : ℕ) (h : n + 1 < cfg0.N) (h0 : ¬ (n + 1) % 65 = 0) :
    lastF m c (n + 1) h = prodF m c n (Nat.lt_of_succ_lt h) := by rw [lastF, if_neg h0]
theorem keptF_first (c : Dev nD) (n : ℕ) (h : n < cfg0.N) (h0 : n % 65 = 0) : keptF m c n h = k0_pay31 := by
  cases n with
  | zero => rfl
  | succ n => rw [keptF, if_pos h0]
theorem keptF_succ (c : Dev nD) (n : ℕ) (h : n + 1 < cfg0.N) (h0 : ¬ (n + 1) % 65 = 0) :
    keptF m c (n + 1) h = haloF m c n (Nat.lt_of_succ_lt h) := by rw [keptF, if_neg h0]
theorem haloF_eq (c : Dev nD) (n : ℕ) (h : n < cfg0.N) :
    haloF m c n h = withRow (keptF m c n h) (n % 65) (k0_pay3 (BitVec.ofNat 32 (n % 65)) (haloRow (keptF m c n h) (n % 65)) (lastF m c n h)) := by
  cases n <;> rfl

/-- What a point leaves in its output block, from what its run finds. -/
theorem outF_of (c : Dev nD) (n : ℕ) (h : n < cfg0.N) {D : Vec F S1032x512 .f32} {H : Vec F S16x8x512 .f32}
    (hD : tailOf D = lastF m c n h) (hH : H = keptF m c n h) :
    outOf (BitVec.ofNat 32 (tileOf (n % 65))) (tailOf D) (iblk m c 5 ⟨n, h⟩) (withHead D (haloRow H (n % 65))) = outF m c n h := by
  subst hH
  rw [hD, withHead_congr (hD.trans (tailOf_withTail k0_pay30 (lastF m c n h)).symm)]
  rfl
/-- What it leaves in the kept rows. -/
theorem haloF_of (c : Dev nD) (n : ℕ) (h : n < cfg0.N) {P : Vec F S1024x512 .f32} {H : Vec F S16x8x512 .f32}
    (hP : P = lastF m c n h) (hH : H = keptF m c n h) :
    withRow H (n % 65) (k0_pay3 (BitVec.ofNat 32 (n % 65)) (haloRow H (n % 65)) P) = haloF m c n h := by
  subst hH; subst hP; exact (haloF_eq m c n h).symm

end Cert.ProjConvIdeal.Gen

end
-- ==== Proof.ConvIdealFrame.lean ====
/-
  The fused normalisation, product and convolution call (of the program read at the extended reals): the body at every point of the grid, and the frame.
-/
module

public import proofs.«01_k».proof.Proof.ConvIdealState
public import Idealize.ShloMosaic.Lib.Claim

@[expose] public section

set_option maxRecDepth 16384

noncomputable section

namespace Cert.ProjConvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers at a point -/

abbrev ms0_0 (t : Fin cfg0.N) : Memref sig .tc .vmem S1x1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x512 .f32 := win0_6.stage (cfg0.slots t 6)
abbrev hs0_6 (t : Fin cfg0.N) : (ms0_6 t).IsWhole := hstage0_6 ((cfg0.slots t 6).cast nbuf0_6)
abbrev scM0_0 : Memref sig .tc .vmem S1024x2048 .bf16 := Memref.whole cc0_scratch0
abbrev scM0_1 : Memref sig .tc .vmem S16x8x512 .f32 := Memref.whole cc0_scratch1
abbrev scM0_2 : Memref sig .tc .vmem S1032x512 .f32 := Memref.whole cc0_scratch2
abbrev scM0_3 : Memref sig .tc .vmem S1032x512 .f32 := Memref.whole cc0_scratch3

/-- The library's invariant with the body's own buffers owned at some contents. -/
theorem PhiA0_eq (c : Dev nD) :
    (Pipeline.ΦA spec0 c : sProp (Res F))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- What holds of the body's own buffers after point `n`. -/
abbrev Kept (c : Dev nD) (n : ℕ) (h : n < cfg0.N) (y0 : Vec F S1024x2048 .bf16) (y1 : Vec F S16x8x512 .f32) (y2 y3 : Vec F S1032x512 .f32) : Prop :=
  y0 = normF m c n h ∧ y1 = haloF m c n h ∧ tailOf (if n % 65 % 2 = 0 then y2 else y3) = prodF m c n h

/-- The invariant before point `n`: before the first the library's; afterwards the buffers at contents of which `Kept` holds. -/
def PhiS (c : Dev nD) : (n : ℕ) → n ≤ cfg0.N → sProp (Res F)
  | 0, _ => Pipeline.ΦA spec0 c
  | n + 1, hn => iprop(∃ y0 y1 y2 y3, ⌜Kept m c n hn y0 y1 y2 y3⌝ ∗ iprop(owns (c : Thread nD τ) scM0_0 fullShare y0 ∗ owns (c : Thread nD τ) scM0_1 fullShare y1 ∗ owns (c : Thread nD τ) scM0_2 fullShare y2 ∗ owns (c : Thread nD τ) scM0_3 fullShare y3) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(∃ y0 y1 y2 y3, ⌜Kept m c n hn y0 y1 y2 y3⌝ ∗ iprop(owns (c : Thread nD τ) scM0_0 fullShare y0 ∗ owns (c : Thread nD τ) scM0_1 fullShare y1 ∗ owns (c : Thread nD τ) scM0_2 fullShare y2 ∗ owns (c : Thread nD τ) scM0_3 fullShare y3) ∗ (∃ r, prngReg c r)) := rfl

/-- Whatever the point, the invariant gives the buffers at some contents. -/
theorem PhiS_any (c : Dev nD) (n : ℕ) (h : n ≤ cfg0.N) : PhiS m c n h ⊢ Pipeline.ΦA spec0 c := by
  cases n with
  | zero => exact Idealize.SL.BI.Entails.refl _
  | succ n =>
    rw [PhiS_succ, PhiA0_eq]
    iintro ⟨%y0, %y1, %y2, %y3, -, ⟨HS0, HS1, HS2, HS3⟩, Hg⟩
    isplitr [Hg]
    · isplitl [HS0]; · iexists _; iexact HS0
      isplitl [HS1]; · iexists _; iexact HS1
      isplitl [HS2]; · iexists _; iexact HS2
      iexists _; iexact HS3
    iexact Hg

/-! ## The proof data -/

/-- The arrays as the region finds them; after the body at point `t` each input's buffer at its block and the output's at `outF`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => X0_4 m c t
    | ⟨5, _⟩ => iblk m c 5 t
    | ⟨6, _⟩ => outF m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outF m c t.val t.isLt := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body at a point -/

/-- What the body is called with at point `t`, -/
def bodyPre (c : Dev nD) (t : Fin cfg0.N) : sProp (Res F) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))
/-- and what it returns. -/
def bodyPost (c : Dev nD) (t : Fin cfg0.N) : sProp (Res F) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))
/-- The windows' buffers as the body finds them. -/
def pointIns (c : Dev nD) (t : Fin cfg0.N) : sProp (Res F) :=
  iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (X0_4 m c t) ∗ owns (c : Thread nD τ) (ms0_5 t) fullShare (iblk m c 5 t) ∗ (∃ d, owns (c : Thread nD τ) (ms0_6 t) fullShare d))

set_option maxHeartbeats 1600000 in
/-- The body at the first step of a batch entry, from what the points before left. -/
theorem pointA (c : Dev nD) (t : Fin cfg0.N) (xs0 : Vec F S1024x2048 .bf16) (xs1 : Vec F S16x8x512 .f32) (xs2 xs3 : Vec F S1032x512 .f32)
    (hs : t.val % 65 = 0)  :
    iprop(iprop(owns (c : Thread nD τ) scM0_0 fullShare xs0 ∗ owns (c : Thread nD τ) scM0_1 fullShare xs1 ∗ owns (c : Thread nD τ) scM0_2 fullShare xs2 ∗ owns (c : Thread nD τ) scM0_3 fullShare xs3) ∗ (∃ r, prngReg c r) ∗ (dats m 0 c).owesAt () t.castSucc ∗ pointIns m c t)
      ⊢ wp frame (wpE (defs₀ (F := F)) Variants.none c none) Set.univ (bodyAt0 t) (fun _ => bodyPost m c t) := by
  unfold bodyPost bodyAt0 pointIns
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  iintro ⟨⟨HS0, HS1, HS2, HS3⟩, Hg, Ho, H0, H1, H2, H3, H4, H5, H6⟩
  iapply (runA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (x0 := iblk m c 0 t) (x1 := iblk m c 1 t) (x2 := iblk m c 2 t) (x3 := iblk m c 3 t) (x4 := X0_4 m c t) (x5 := iblk m c 5 t) (xs0 := xs0) (xs1 := xs1) (xs2 := xs2) (xs3 := xs3) ((condH1_iff t).mpr (by omega)) ((condH2_iff t).mpr (by omega)) ((cond3_iff t).mpr (by omega)) (fun h => by have := (cond4_iff t).mp h; omega) (off1_at t) (word_at t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  rw [step_eq t, outF_of m c t.val t.isLt (lastF_first m c t.val t.isLt hs).symm (keptF_first m c t.val t.isLt hs).symm, haloF_of m c t.val t.isLt (lastF_first m c t.val t.isLt hs).symm (keptF_first m c t.val t.isLt hs).symm]
  iintro ⟨H0, H1, H2, H3, H4, H5, H6, HS0, HS1, HS2, HS3⟩
  isplitl [HS0 HS1 HS2 HS3 Hg]
  · iexists _; iexists _; iexists _; iexists _
    isplitr
    swap
    · isplitl [HS0 HS1 HS2 HS3]
      · isplitl [HS0]; · iexact HS0
        isplitl [HS1]; · iexact HS1
        isplitl [HS2]; · iexact HS2
        iexact HS3
      iexact Hg
    ipureintro
    refine ⟨(normF_begin m c t.val t.isLt (by omega)).symm, rfl, ?_⟩
    rw [if_pos (by omega)]
    exact (tailOf_withTail _ _).trans (congrArg (fun x => k0_pay14 x (X0_4 m c t)) ((normF_begin m c t.val t.isLt (by omega)).symm))
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 1600000 in
/-- The body at a later step that begins a tile of rows, from what the points before left. -/
theorem pointB (c : Dev nD) (t : Fin cfg0.N) (xs0 : Vec F S1024x2048 .bf16) (xs1 : Vec F S16x8x512 .f32) (xs2 xs3 : Vec F S1032x512 .f32)
    (hs : t.val % 65 ≠ 0 ∧ t.val % 65 % 16 = 0 ∧ t.val % 65 < 64) (hH : xs1 = keptF m c t.val t.isLt) (hD : tailOf xs3 = lastF m c t.val t.isLt) :
    iprop(iprop(owns (c : Thread nD τ) scM0_0 fullShare xs0 ∗ owns (c : Thread nD τ) scM0_1 fullShare xs1 ∗ owns (c : Thread nD τ) scM0_2 fullShare xs2 ∗ owns (c : Thread nD τ) scM0_3 fullShare xs3) ∗ (∃ r, prngReg c r) ∗ (dats m 0 c).owesAt () t.castSucc ∗ pointIns m c t)
      ⊢ wp frame (wpE (defs₀ (F := F)) Variants.none c none) Set.univ (bodyAt0 t) (fun _ => bodyPost m c t) := by
  unfold bodyPost bodyAt0 pointIns
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  iintro ⟨⟨HS0, HS1, HS2, HS3⟩, Hg, Ho, H0, H1, H2, H3, H4, H5, H6⟩
  iapply (runB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (x0 := iblk m c 0 t) (x1 := iblk m c 1 t) (x2 := iblk m c 2 t) (x3 := iblk m c 3 t) (x4 := X0_4 m c t) (x5 := iblk m c 5 t) (xs0 := xs0) (xs1 := xs1) (xs2 := xs2) (xs3 := xs3) ((condH1_iff t).mpr (by omega)) (fun h => by have := (condH2_iff t).mp h; omega) ((cond3_iff t).mpr (by omega)) (fun h => by have := (cond4_iff t).mp h; omega) (off1_at t) (word_at t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  rw [step_eq t, outF_of m c t.val t.isLt hD hH, haloF_of m c t.val t.isLt hD hH]
  iintro ⟨H0, H1, H2, H3, H4, H5, H6, HS0, HS1, HS2, HS3⟩
  isplitl [HS0 HS1 HS2 HS3 Hg]
  · iexists _; iexists _; iexists _; iexists _
    isplitr
    swap
    · isplitl [HS0 HS1 HS2 HS3]
      · isplitl [HS0]; · iexact HS0
        isplitl [HS1]; · iexact HS1
        isplitl [HS2]; · iexact HS2
        iexact HS3
      iexact Hg
    ipureintro
    refine ⟨(normF_begin m c t.val t.isLt (by omega)).symm, rfl, ?_⟩
    rw [if_pos (by omega)]
    exact (tailOf_withTail _ _).trans (congrArg (fun x => k0_pay14 x (X0_4 m c t)) ((normF_begin m c t.val t.isLt (by omega)).symm))
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 1600000 in
/-- The body at an even step inside a tile of rows, from what the points before left. -/
theorem pointC (c : Dev nD) (t : Fin cfg0.N) (xs0 : Vec F S1024x2048 .bf16) (xs1 : Vec F S16x8x512 .f32) (xs2 xs3 : Vec F S1032x512 .f32)
    (hs : t.val % 65 % 2 = 0 ∧ ¬ (t.val % 65 % 16 = 0 ∧ t.val % 65 < 64)) (hH : xs1 = keptF m c t.val t.isLt) (hD : tailOf xs3 = lastF m c t.val t.isLt) (hx : xs0 = normF m c t.val t.isLt) :
    iprop(iprop(owns (c : Thread nD τ) scM0_0 fullShare xs0 ∗ owns (c : Thread nD τ) scM0_1 fullShare xs1 ∗ owns (c : Thread nD τ) scM0_2 fullShare xs2 ∗ owns (c : Thread nD τ) scM0_3 fullShare xs3) ∗ (∃ r, prngReg c r) ∗ (dats m 0 c).owesAt () t.castSucc ∗ pointIns m c t)
      ⊢ wp frame (wpE (defs₀ (F := F)) Variants.none c none) Set.univ (bodyAt0 t) (fun _ => bodyPost m c t) := by
  unfold bodyPost bodyAt0 pointIns
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  iintro ⟨⟨HS0, HS1, HS2, HS3⟩, Hg, Ho, H0, H1, H2, H3, H4, H5, H6⟩
  iapply (runC (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (x0 := iblk m c 0 t) (x1 := iblk m c 1 t) (x2 := iblk m c 2 t) (x3 := iblk m c 3 t) (x4 := X0_4 m c t) (x5 := iblk m c 5 t) (xs0 := xs0) (xs1 := xs1) (xs2 := xs2) (xs3 := xs3) (fun h => by have := (condH1_iff t).mp h; omega) (fun h => by have := (condH2_iff t).mp h; omega) ((cond3_iff t).mpr (by omega)) (fun h => by have := (cond4_iff t).mp h; omega) (off1_at t) (word_at t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  rw [step_eq t, outF_of m c t.val t.isLt hD hH, haloF_of m c t.val t.isLt hD hH]
  iintro ⟨H0, H1, H2, H3, H4, H5, H6, HS0, HS1, HS2, HS3⟩
  isplitl [HS0 HS1 HS2 HS3 Hg]
  · iexists _; iexists _; iexists _; iexists _
    isplitr
    swap
    · isplitl [HS0 HS1 HS2 HS3]
      · isplitl [HS0]; · iexact HS0
        isplitl [HS1]; · iexact HS1
        isplitl [HS2]; · iexact HS2
        iexact HS3
      iexact Hg
    ipureintro
    refine ⟨hx, rfl, ?_⟩
    rw [if_pos (by omega)]
    exact (tailOf_withTail _ _).trans (congrArg (fun x => k0_pay14 x (X0_4 m c t)) (hx))
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 1600000 in
/-- The body at an odd step, from what the points before left. -/
theorem pointD (c : Dev nD) (t : Fin cfg0.N) (xs0 : Vec F S1024x2048 .bf16) (xs1 : Vec F S16x8x512 .f32) (xs2 xs3 : Vec F S1032x512 .f32)
    (hs : t.val % 65 % 2 = 1) (hH : xs1 = keptF m c t.val t.isLt) (hD : tailOf xs2 = lastF m c t.val t.isLt) (hx : xs0 = normF m c t.val t.isLt) :
    iprop(iprop(owns (c : Thread nD τ) scM0_0 fullShare xs0 ∗ owns (c : Thread nD τ) scM0_1 fullShare xs1 ∗ owns (c : Thread nD τ) scM0_2 fullShare xs2 ∗ owns (c : Thread nD τ) scM0_3 fullShare xs3) ∗ (∃ r, prngReg c r) ∗ (dats m 0 c).owesAt () t.castSucc ∗ pointIns m c t)
      ⊢ wp frame (wpE (defs₀ (F := F)) Variants.none c none) Set.univ (bodyAt0 t) (fun _ => bodyPost m c t) := by
  unfold bodyPost bodyAt0 pointIns
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  iintro ⟨⟨HS0, HS1, HS2, HS3⟩, Hg, Ho, H0, H1, H2, H3, H4, H5, H6⟩
  iapply (runD (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (x0 := iblk m c 0 t) (x1 := iblk m c 1 t) (x2 := iblk m c 2 t) (x3 := iblk m c 3 t) (x4 := X0_4 m c t) (x5 := iblk m c 5 t) (xs0 := xs0) (xs1 := xs1) (xs2 := xs2) (xs3 := xs3) (fun h => by have := (condH1_iff t).mp h; omega) (fun h => by have := (condH2_iff t).mp h; omega) (fun h => by have := (cond3_iff t).mp h; omega) ((cond4_iff t).mpr (by omega)) (off1_at t) (word_at t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  rw [step_eq t, outF_of m c t.val t.isLt hD hH, haloF_of m c t.val t.isLt hD hH]
  iintro ⟨H0, H1, H2, H3, H4, H5, H6, HS0, HS1, HS2, HS3⟩
  isplitl [HS0 HS1 HS2 HS3 Hg]
  · iexists _; iexists _; iexists _; iexists _
    isplitr
    swap
    · isplitl [HS0 HS1 HS2 HS3]
      · isplitl [HS0]; · iexact HS0
        isplitl [HS1]; · iexact HS1
        isplitl [HS2]; · iexact HS2
        iexact HS3
      iexact Hg
    ipureintro
    refine ⟨hx, rfl, ?_⟩
    rw [if_neg (by omega)]
    exact (tailOf_withTail _ _).trans (congrArg (fun x => k0_pay14 x (X0_4 m c t)) (hx))
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- Whatever the invariant says, the buffers with the windows' blocks are what a point finds. -/
theorem bodyPre_of (c : Dev nD) (t : Fin cfg0.N) :
    bodyPre m c t ⊢ iprop(PhiS m c t.val (Nat.le_of_lt t.isLt) ∗ (dats m 0 c).owesAt () t.castSucc ∗ pointIns m c t) := by
  unfold bodyPre pointIns
  simp only [before0_0, before0_1, before0_2, before0_3, before0_4, before0_5]
  rw [PhiS_castSucc m c t]
  iintro ⟨Hp, Ho, ⟨%d0, H0⟩, ⟨%d1, H1⟩, ⟨%d2, H2⟩, ⟨%d3, H3⟩, ⟨%d4, H4⟩, ⟨%d5, H5⟩, ⟨%d6, H6⟩⟩
  isplitl [Hp]; · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

/-- At the first step of a batch entry the buffers' contents do not matter. -/
theorem sound_first (c : Dev nD) (t : Fin cfg0.N) (hs : t.val % 65 = 0) :
    iprop(PhiS m c t.val (Nat.le_of_lt t.isLt) ∗ (dats m 0 c).owesAt () t.castSucc ∗ pointIns m c t)
      ⊢ wp frame (wpE (defs₀ (F := F)) Variants.none c none) Set.univ (bodyAt0 t) (fun _ => bodyPost m c t) := by
  refine (BIClass.sep_mono (PhiS_any m c t.val (Nat.le_of_lt t.isLt)) (Idealize.SL.BI.Entails.refl _)).trans ?_
  rw [PhiA0_eq]
  iintro ⟨⟨⟨⟨%xs0, HS0⟩, ⟨%xs1, HS1⟩, ⟨%xs2, HS2⟩, ⟨%xs3, HS3⟩⟩, Hg⟩, Ho, Hi⟩
  iapply (pointA m c t xs0 xs1 xs2 xs3 hs)
  isplitl [HS0 HS1 HS2 HS3]
  · isplitl [HS0]; · iexact HS0
    isplitl [HS1]; · iexact HS1
    isplitl [HS2]; · iexact HS2
    iexact HS3
  isplitl [Hg]; · iexact Hg
  isplitl [Ho]; · iexact Ho
  iexact Hi

/-- At any other step they are what the point before left. -/
theorem sound_later (c : Dev nD) (n : ℕ) (h : n + 1 < cfg0.N) (hs : (n + 1) % 65 ≠ 0) :
    iprop(PhiS m c (n + 1) (Nat.le_of_lt h) ∗ (dats m 0 c).owesAt () (⟨n + 1, h⟩ : Fin cfg0.N).castSucc ∗ pointIns m c ⟨n + 1, h⟩)
      ⊢ wp frame (wpE (defs₀ (F := F)) Variants.none c none) Set.univ (bodyAt0 ⟨n + 1, h⟩) (fun _ => bodyPost m c ⟨n + 1, h⟩) := by
  rw [PhiS_succ]
  iintro ⟨⟨%xs0, %xs1, %xs2, %xs3, %hk, ⟨HS0, HS1, HS2, HS3⟩, Hg⟩, Ho, Hi⟩
  obtain ⟨hk0, hk1, hk2⟩ := hk
  have hH : xs1 = keptF m c (n + 1) h := hk1.trans (keptF_succ m c n h hs).symm
  rcases Nat.mod_two_eq_zero_or_one ((n + 1) % 65) with he | ho
  · have hD : tailOf xs3 = lastF m c (n + 1) h := by
      rw [if_neg (by omega)] at hk2; exact hk2.trans (lastF_succ m c n h hs).symm
    by_cases hb : (n + 1) % 65 % 16 = 0 ∧ (n + 1) % 65 < 64
    · iapply (pointB m c ⟨n + 1, h⟩ xs0 xs1 xs2 xs3 ⟨hs, hb⟩ hH hD)
      isplitl [HS0 HS1 HS2 HS3]
      · isplitl [HS0]; · iexact HS0
        isplitl [HS1]; · iexact HS1
        isplitl [HS2]; · iexact HS2
        iexact HS3
      isplitl [Hg]; · iexact Hg
      isplitl [Ho]; · iexact Ho
      iexact Hi
    · iapply (pointC m c ⟨n + 1, h⟩ xs0 xs1 xs2 xs3 ⟨he, hb⟩ hH hD (hk0.trans (normF_keep m c n h hb).symm))
      isplitl [HS0 HS1 HS2 HS3]
      · isplitl [HS0]; · iexact HS0
        isplitl [HS1]; · iexact HS1
        isplitl [HS2]; · iexact HS2
        iexact HS3
      isplitl [Hg]; · iexact Hg
      isplitl [Ho]; · iexact Ho
      iexact Hi
  · have hD : tailOf xs2 = lastF m c (n + 1) h := by
      rw [if_pos (by omega)] at hk2; exact hk2.trans (lastF_succ m c n h hs).symm
    iapply (pointD m c ⟨n + 1, h⟩ xs0 xs1 xs2 xs3 ho hH hD (hk0.trans (normF_keep m c n h (by omega)).symm))
    isplitl [HS0 HS1 HS2 HS3]
    · isplitl [HS0]; · iexact HS0
      isplitl [HS1]; · iexact HS1
      isplitl [HS2]; · iexact HS2
      iexact HS3
    isplitl [Hg]; · iexact Hg
    isplitl [Ho]; · iexact Ho
    iexact Hi

/-- The body at any point. -/
theorem sound_body (c : Dev nD) (t : Fin cfg0.N) :
    bodyPre m c t ⊢ wp frame (wpE (defs₀ (F := F)) Variants.none c none) Set.univ (bodyAt0 t) (fun _ => bodyPost m c t) := by
  refine (bodyPre_of m c t).trans ?_
  by_cases hs : t.val % 65 = 0
  · exact sound_first m c t hs
  · obtain ⟨n, h⟩ := t
    cases n with
    | zero => exact absurd rfl hs
    | succ n => exact sound_later m c n h hs

theorem defs₀_row (t : Fin cfg0.N) :
    defs₀ (F := F) .tc cfg0.body (cfg0.bodyArgs t (cfg0.slots t)) = bodyAt0 t := by
  unfold defs₀; rw [Defs.onTc_tc]
/-- Every point stores the output block. -/
theorem idle6 : ∀ t : Fin cfg0.N, cfg0.idle 6 (cfg0.grid.coords t) = false :=
  (by decide +kernel : ∀ t : Fin grid0.N, idle0 6 (grid0.coords t) = false)
theorem body_obligation (c : Dev nD) : BodyObligation (dats (F := F) m 0 c) (defs₀ (F := F)) Variants.none () Set.univ := fun t => by
  rw [bigSep_W0, bigSep_W0, defs₀_row]
  beta_reduce
  rw [idle6 t]
  exact triple_restated (sound_body m c t) rfl .rfl fun _ => .rfl
theorem hin (c : Dev nD) : Pipeline.ΦA spec0 c ⊢ (dats m 0 c).Φ 0 := by
  rw [show (dats m 0 c).Φ 0 = PhiS m c 0 (Nat.zero_le _) from rfl, PhiS_zero m c 0 _ rfl]
theorem hout (c : Dev nD) : (dats m 0 c).Φ (Fin.last cfg0.N) ⊢ Pipeline.ΦA spec0 c :=
  PhiS_any m c (Fin.last cfg0.N).val (Nat.le_of_lt_succ (Fin.last cfg0.N).isLt)

/-! ## The run and the frame -/

set_option backward.isDefEq.respectTransparency.types false in
/-- Every fair execution from zero counters ends with the pipeline's arrays at what the proof data give, and with zero counters. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)
theorem run_main : θ_run defs (onTc (τ := τ) (main (F := F))) (s₀ m ρ) (Pipeline.FramePost cfgs (dats m) 0 (V m)) :=
  (θ_run defs _ _).mono (fun _ h => h.1) (run_main_quiescent m ρ)
/-- The frame: the argument arrays end unchanged and the counters at zero. -/
theorem frame : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) ∧ r.2.sem = fun _ => 0) :=
  θ_run_and (frame_of m ρ (dats m) (A_eq m) (run_main m ρ)) ((θ_run defs _ _).mono (fun _ h => h.2) (run_main_quiescent m ρ))

end Cert.ProjConvIdeal.Gen

end
-- ==== Proof.ConvIdealUpper.lean ====
/-
  THE VALUE of the fused normalisation, product and convolution, first part: the product that a point computes is the
  reference's product at the rows and columns of the point.
-/
module

public import proofs.«01_k».proof.Defs
public import proofs.«01_k».proof.Proof.ConvIdealFrame
public import proofs.«01_k».proof.Proof.Gen.ProjConvRefIdeal.Run
public import proofs.«01_k».proof.Proof.Gen.ProjConvRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ProjConvIdeal.RefValue

open Cert.ProjConvIdeal Cert.ProjConvIdeal.Gen
open Cert.ProjConvRefIdeal.Read (val_main_v0 val_main_v1 val_main_v2 val_main_v3 val_main_v4 val_main_v5 val_main_v6 val_main_v7 val_main_v8 val_main_v9 val_main_v10 val_main_v11 val_main_v12 val_main_v13 val_main_v14 val_main_v15 val_main_v16 val_main_v17 val_main_v18 val_main_v19 val_main_v20 val_main_v21 val_main_v22 val_main_v23 val_main_cst val_main_cst_0 val_main_cst_1 val_main_cst_2)

variable (m : (ℓ : Loc nD τ sig) → Buf (Elt Ideal) ℓ) (ρ : Dev nD → PrngReg)

/-- The reference's product of the modulated norm with the weights, before the convolution. -/
abbrev U (c : Dev nD) : FVec Ideal S4x4096x8192 .f32 :=
  val_main_v23 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The block every window takes at a grid point, decided over the points: the batch entry is `t / 65`; at step `s = t % 65` the
    product is of row tile `s / 16` and column tile `s % 16`, the tile finished is that of the step before. -/
theorem idx : ∀ t : Fin cfg0.N, win0_0.index t = ![t.val / 65, min (t.val % 65) 63 / 16, 0]
    ∧ win0_1.index t = ![0, 0]
    ∧ win0_2.index t = ![t.val / 65, 0, 0]
    ∧ win0_3.index t = ![t.val / 65, 0, 0]
    ∧ win0_4.index t = ![0, 0, min (t.val % 65) 63 % 16]
    ∧ win0_5.index t = ![0, (t.val % 65 - 1) % 16]
    ∧ win0_6.index t = ![t.val / 65, (t.val % 65 - 1) / 16, (t.val % 65 - 1) % 16] :=
  (by decide +kernel : ∀ t : Fin grid0.N, _)

/-- The modulated norm of a point's rows. -/
abbrev normed (c : Dev nD) (t : Fin cfg0.N) : FVec Ideal S1024x2048 .bf16 :=
  k0_pay29 (iblk m c 0 t) (iblk m c 1 t) (iblk m c 2 t) (iblk m c 3 t)

/-- Within a row tile a point stages the same rows, shift and scale as the point before it. -/
theorem normed_pred (c : Dev nD) (n : ℕ) (h : n + 1 < cfg0.N) (hs : (n + 1) % 65 % 16 ≠ 0) (hl : (n + 1) % 65 < 64) :
    normed m c ⟨n, Nat.lt_of_succ_lt h⟩ = normed m c ⟨n + 1, h⟩ := by
  have e := idx ⟨n + 1, h⟩
  have e' := idx ⟨n, Nat.lt_of_succ_lt h⟩
  have d1 : n / 65 = (n + 1) / 65 := by omega
  have d2 : min (n % 65) 63 / 16 = min ((n + 1) % 65) 63 / 16 := by omega
  have e0 : iblk m c 0 ⟨n, Nat.lt_of_succ_lt h⟩ = iblk m c 0 ⟨n + 1, h⟩ := by
    funext y; blk_point [iblk, V, e, e', d1, d2]
  have e1 : iblk m c 1 ⟨n, Nat.lt_of_succ_lt h⟩ = iblk m c 1 ⟨n + 1, h⟩ := by
    funext y; blk_point [iblk, V, e, e', d1, d2]
  have e2 : iblk m c 2 ⟨n, Nat.lt_of_succ_lt h⟩ = iblk m c 2 ⟨n + 1, h⟩ := by
    funext y; blk_point [iblk, V, e, e', d1, d2]
  have e3 : iblk m c 3 ⟨n, Nat.lt_of_succ_lt h⟩ = iblk m c 3 ⟨n + 1, h⟩ := by
    funext y; blk_point [iblk, V, e, e', d1, d2]
  unfold normed
  rw [e0, e1, e2, e3]

/-- THE KEPT ROWS: before the last step of a batch entry they are the modulated norm of the point's rows. -/
theorem normF_at (c : Dev nD) : ∀ (n : ℕ) (h : n < cfg0.N), n % 65 < 64 → normF m c n h = normed m c ⟨n, h⟩
  | 0, h, _ => normF_begin m c 0 h ⟨rfl, by decide⟩
  | n + 1, h, hl => by
    by_cases h0 : (n + 1) % 65 % 16 = 0
    · exact normF_begin m c (n + 1) h ⟨h0, hl⟩
    · rw [normF_keep m c n h (fun hb => h0 hb.1), normF_at c n (Nat.lt_of_succ_lt h) (by omega)]
      exact normed_pred m c n h h0 hl

/-- The weights a point stages: the rows of its column tile. -/
abbrev weights (c : Dev nD) (t : Fin cfg0.N) : FVec Ideal S1x2048x512 .bf16 := fun x =>
  V m c main_v0 (ix3 (n0 := 2) (n1 := 2048) (n2 := 12352) 0 (x 1) ⟨min (t.val % 65) 63 % 16 * 512 + (x 2).val, by have : (x 2).val < 512 := (x 2).isLt; omega⟩)
/-- It is the contents of the staged block. -/
theorem weights_at (c : Dev nD) (t : Fin cfg0.N) : X0_4 m c t = weights m c t := by
  funext x
  unfold X0_4 Pipeline.Window.fill
  rw [dif_pos (moved0_4 t x)]
  blk_ext [iblk, weights, idx t]

/-- The product of a point, at an index of its tile: the reference's product at the array index. -/
theorem prod_core (c : Dev nD) (t : Fin cfg0.N) (hl : t.val % 65 < 64) (y : S1024x512.Idx) (i : S4x4096x8192.Idx)
    (hi0 : (i 0 : ℕ) = t.val / 65) (hi1 : (i 1 : ℕ) = t.val % 65 / 16 * 1024 + y 0) (hi2 : (i 2 : ℕ) = t.val % 65 % 16 * 512 + y 1) :
    k0_pay14 (normed m c t) (weights m c t) y = U m c i := by
  have d : min (t.val % 65) 63 = t.val % 65 := by omega
  pointwise [k0_pay29, k0_pay14, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, dot_S1024x2048_S2048x512_S1024x512_1_0_0_1_n_n]
  simp only [← mul_assoc]
  blk_point [iblk, weights, V, idx t, d]

/-- So is what a point leaves as its product. -/
theorem prod_at (c : Dev nD) (n : ℕ) (h : n < cfg0.N) (hl : n % 65 < 64) (y : S1024x512.Idx) (i : S4x4096x8192.Idx)
    (hi0 : (i 0 : ℕ) = n / 65) (hi1 : (i 1 : ℕ) = n % 65 / 16 * 1024 + y 0) (hi2 : (i 2 : ℕ) = n % 65 % 16 * 512 + y 1) :
    prodF m c n h y = U m c i := by
  unfold prodF
  rw [normF_at m c n h hl, weights_at m c ⟨n, h⟩]
  exact prod_core m c ⟨n, h⟩ hl y i hi0 hi1 hi2

end Cert.ProjConvIdeal.RefValue

end
-- ==== Proof.ConvIdealTaps.lean ====
/-
  THE VALUE of the fused normalisation, product and convolution, second part: what a tile's buffer holds when the step after
  convolves it, the kept rows of the tile above over the tile's own, is the reference's product padded by three rows.
-/
module

public import proofs.«01_k».proof.Proof.ConvIdealUpper

@[expose] public section

set_option maxRecDepth 16384

noncomputable section

open Idealize.ShloMosaic Idealize.ShloMosaic.TcCoe Idealize.SL.Sem
open Idealize.ShloMosaic.Pipeline (Dat)

namespace Cert.ProjConvIdeal.RefValue

open Cert.ProjConvIdeal Cert.ProjConvIdeal.Gen
open Cert.ProjConvRefIdeal.Read (val_main_c val_main_call0_v0 val_main_v24)

variable (m : (ℓ : Loc nD τ sig) → Buf (Elt Ideal) ℓ) (ρ : Dev nD → PrngReg)

/-! ## Windows of the two buffers, at an index -/

/-- The rows kept for a column tile, at an index. -/
theorem haloRow_at (H : Vec Ideal S16x8x512 .f32) (s : ℕ) (x : S1x8x512.Idx) (z : S16x8x512.Idx)
    (h0 : (z 0 : ℕ) = tileOf s) (h1 : (z 1 : ℕ) = x 1) (h2 : (z 2 : ℕ) = x 2) : haloRow (F := Ideal) H s x = H z := by
  unfold haloRow VecWindow.window
  refine congrArg H (funext fun a => Fin.ext ?_)
  have hx : (x 0).val < 1 := (x 0).isLt
  match a with
  | ⟨0, _⟩ => show tileOf s + 1 * (x 0).val = (z 0).val; omega
  | ⟨1, _⟩ => show 0 + 1 * (x 1).val = (z 1).val; omega
  | ⟨2, _⟩ => show 0 + 1 * (x 2).val = (z 2).val; omega

/-- The kept rows after a replacement, inside it. -/
theorem withRow_in (H : Vec Ideal S16x8x512 .f32) (s : ℕ) (R : Vec Ideal S1x8x512 .f32) (x : S1x8x512.Idx) (z : S16x8x512.Idx)
    (h0 : (z 0 : ℕ) = tileOf s) (h1 : (z 1 : ℕ) = x 1) (h2 : (z 2 : ℕ) = x 2) : withRow (F := Ideal) H s R z = R x := by
  have hx : (x 0).val < 1 := (x 0).isLt
  have hx1 : (x 1).val < 8 := (x 1).isLt
  have hx2 : (x 2).val < 512 := (x 2).isLt
  have hin : ∀ a : Fin 3, (![tileOf s, 0, 0] : Fin 3 → ℕ) a ≤ (z a).val ∧ (z a).val < (![tileOf s, 0, 0] : Fin 3 → ℕ) a + S1x8x512.size a := by
    intro a
    match a with
    | ⟨0, _⟩ => show tileOf s ≤ (z 0).val ∧ (z 0).val < tileOf s + 1; omega
    | ⟨1, _⟩ => show 0 ≤ (z 1).val ∧ (z 1).val < 0 + 8; omega
    | ⟨2, _⟩ => show 0 ≤ (z 2).val ∧ (z 2).val < 0 + 512; omega
  refine (dif_pos hin).trans (congrArg R (funext fun a => Fin.ext ?_))
  match a with
  | ⟨0, _⟩ => show (z 0).val - tileOf s = (x 0).val; omega
  | ⟨1, _⟩ => show (z 1).val - 0 = (x 1).val; omega
  | ⟨2, _⟩ => show (z 2).val - 0 = (x 2).val; omega

/-- And outside it. -/
theorem withRow_out (H : Vec Ideal S16x8x512 .f32) (s : ℕ) (R : Vec Ideal S1x8x512 .f32) (z : S16x8x512.Idx)
    (h0 : (z 0 : ℕ) ≠ tileOf s) : withRow (F := Ideal) H s R z = H z :=
  dif_neg fun hin => h0 (by
    have h : tileOf s ≤ (z 0).val ∧ (z 0).val < tileOf s + 1 := hin (0 : Fin 3)
    omega)

/-- A tile's buffer, in its first eight rows. -/
theorem tile_low (D : Vec Ideal S1032x512 .f32) (R : Vec Ideal S1x8x512 .f32) (d : S1032x512.Idx) (x : S1x8x512.Idx)
    (h1 : (d 0 : ℕ) = x 1) (h2 : (d 1 : ℕ) = x 2) : withHead (F := Ideal) D R d = R x := by
  have hx : (x 0).val < 1 := (x 0).isLt
  have hx1 : (x 1).val < 8 := (x 1).isLt
  have hx2 : (x 2).val < 512 := (x 2).isLt
  have hin : ∀ a : Fin 2, (![0, 0] : Fin 2 → ℕ) a ≤ (d a).val ∧ (d a).val < (![0, 0] : Fin 2 → ℕ) a + S8x512.size a := by
    intro a
    match a with
    | ⟨0, _⟩ => show 0 ≤ (d 0).val ∧ (d 0).val < 0 + 8; omega
    | ⟨1, _⟩ => show 0 ≤ (d 1).val ∧ (d 1).val < 0 + 512; omega
  obtain_idx q : S8x512 := [(x 1 : ℕ), (x 2 : ℕ)] with hq
  have hR : k0_pay2 R q = R x := by pointwise [k0_pay2, k0_pay1]; blk_ext
  refine (dif_pos hin).trans (Eq.trans (congrArg (k0_pay2 R) (funext fun a => Fin.ext ?_)) hR)
  match a with
  | ⟨0, _⟩ => show (d 0).val - 0 = (q 0).val; omega
  | ⟨1, _⟩ => show (d 1).val - 0 = (q 1).val; omega

/-- And from its row 8 on. -/
theorem tile_high (P : Vec Ideal S1024x512 .f32) (R : Vec Ideal S1x8x512 .f32) (d : S1032x512.Idx) (y : S1024x512.Idx)
    (h1 : (d 0 : ℕ) = 8 + y 0) (h2 : (d 1 : ℕ) = y 1) : withHead (F := Ideal) (withTail (k0_pay30 (F := Ideal)) P) R d = P y := by
  have hy0 : (y 0).val < 1024 := (y 0).isLt
  have hy1 : (y 1).val < 512 := (y 1).isLt
  have hin : ∀ a : Fin 2, (![8, 0] : Fin 2 → ℕ) a ≤ (d a).val ∧ (d a).val < (![8, 0] : Fin 2 → ℕ) a + S1024x512.size a := by
    intro a
    match a with
    | ⟨0, _⟩ => show 8 ≤ (d 0).val ∧ (d 0).val < 8 + 1024; omega
    | ⟨1, _⟩ => show 0 ≤ (d 1).val ∧ (d 1).val < 0 + 512; omega
  refine Eq.trans (dif_neg fun ho => ?_) ((dif_pos hin).trans (congrArg P (funext fun a => Fin.ext ?_)))
  · have h : 0 ≤ (d 0).val ∧ (d 0).val < 0 + 8 := ho (0 : Fin 2)
    omega
  · match a with
    | ⟨0, _⟩ => show (d 0).val - 8 = (y 0).val; omega
    | ⟨1, _⟩ => show (d 1).val - 0 = (y 1).val; omega

/-- The three earlier views of a tile's buffer, at an index. -/
theorem tapA_at (D : Vec Ideal S1032x512 .f32) (y : S1024x512.Idx) (d : S1032x512.Idx) (h0 : (d 0 : ℕ) = 7 + y 0) (h1 : (d 1 : ℕ) = y 1) : tapA (F := Ideal) D y = D d := by
  unfold tapA VecWindow.window
  refine congrArg D (funext fun a => Fin.ext ?_)
  match a with
  | ⟨0, _⟩ => show 7 + 1 * (y 0).val = (d 0).val; omega
  | ⟨1, _⟩ => show 0 + 1 * (y 1).val = (d 1).val; omega
theorem tapB_at (D : Vec Ideal S1032x512 .f32) (y : S1024x512.Idx) (d : S1032x512.Idx) (h0 : (d 0 : ℕ) = 6 + y 0) (h1 : (d 1 : ℕ) = y 1) : tapB (F := Ideal) D y = D d := by
  unfold tapB VecWindow.window
  refine congrArg D (funext fun a => Fin.ext ?_)
  match a with
  | ⟨0, _⟩ => show 6 + 1 * (y 0).val = (d 0).val; omega
  | ⟨1, _⟩ => show 0 + 1 * (y 1).val = (d 1).val; omega
theorem tapC_at (D : Vec Ideal S1032x512 .f32) (y : S1024x512.Idx) (d : S1032x512.Idx) (h0 : (d 0 : ℕ) = 5 + y 0) (h1 : (d 1 : ℕ) = y 1) : tapC (F := Ideal) D y = D d := by
  unfold tapC VecWindow.window
  refine congrArg D (funext fun a => Fin.ext ?_)
  match a with
  | ⟨0, _⟩ => show 5 + 1 * (y 0).val = (d 0).val; omega
  | ⟨1, _⟩ => show 0 + 1 * (y 1).val = (d 1).val; omega

/-! ## The product a step finishes -/

/-- From the second step of a batch entry on, the tile a step finishes is the reference's product. -/
theorem last_at (c : Dev nD) (n : ℕ) (h : n < cfg0.N) (hs : n % 65 ≠ 0) (y : S1024x512.Idx) (i : S4x4096x8192.Idx)
    (hi0 : (i 0 : ℕ) = n / 65) (hi1 : (i 1 : ℕ) = (n % 65 - 1) / 16 * 1024 + y 0) (hi2 : (i 2 : ℕ) = (n % 65 - 1) % 16 * 512 + y 1) :
    lastF m c n h y = U m c i := by
  cases n with
  | zero => exact absurd rfl hs
  | succ n =>
    rw [lastF_succ m c n h hs]
    exact prod_at m c n (Nat.lt_of_succ_lt h) (by omega) y i (by omega) (by omega) (by omega)

/-! ## The kept rows -/

/-- The rows written into the kept ones: the last eight of the tile finished, at the first step what was there. -/
theorem pay3_zero (R : Vec Ideal S1x8x512 .f32) (P : Vec Ideal S1024x512 .f32) (x : S1x8x512.Idx) : k0_pay3 (BitVec.ofNat 32 0) R P x = R x := by
  have e : Scalar.cmpi .sgt (BitVec.ofNat 32 0) 0#32 = 0#1 := by decide
  unfold k0_pay3
  rw [e]
  pointwise [k0_pay1]
  blk_ext
theorem pay3_pos (s : ℕ) (hs : s ≠ 0) (hl : s < 65) (R : Vec Ideal S1x8x512 .f32) (P : Vec Ideal S1024x512 .f32) (x : S1x8x512.Idx) (y : S1024x512.Idx)
    (h0 : (y 0 : ℕ) = 1016 + x 1) (h1 : (y 1 : ℕ) = x 2) : k0_pay3 (BitVec.ofNat 32 s) R P x = P y := by
  have e : ∀ s : Fin 65, s.val ≠ 0 → Scalar.cmpi .sgt (BitVec.ofNat 32 s.val) 0#32 = 1#1 := by decide +kernel
  have e' : Scalar.cmpi .sgt (BitVec.ofNat 32 s) 0#32 = 1#1 := e ⟨s, hl⟩ hs
  unfold k0_pay3
  rw [e']
  pointwise [k0_pay1]
  blk_ext

/-- THE KEPT ROWS after a point: of each column tile the last eight rows of the last row tile finished, none finished zero. -/
theorem halo_at (c : Dev nD) : ∀ (n : ℕ) (h : n < cfg0.N) (z : S16x8x512.Idx),
    (n % 65 < z 0 + 1 → haloF m c n h z = (0 : EReal)) ∧
    (∀ i : S4x4096x8192.Idx, (z 0 : ℕ) + 1 ≤ n % 65 → (i 0 : ℕ) = n / 65 → (i 1 : ℕ) = (n % 65 - 1 - z 0) / 16 * 1024 + 1016 + z 1 →
      (i 2 : ℕ) = z 0 * 512 + z 2 → haloF m c n h z = U m c i) := by
  have zero : ∀ z, k0_pay31 (F := Ideal) z = (0 : EReal) := fun z => by pointwise [k0_pay31]
  have first : ∀ (n : ℕ) (h : n < cfg0.N), n % 65 = 0 → ∀ z, haloF m c n h z = (0 : EReal) := fun n h h0 z => by
    rw [haloF_eq, keptF_first m c n h h0, h0]
    by_cases hz : (z 0 : ℕ) = tileOf 0
    · obtain_idx x : S1x8x512 := [0, (z 1 : ℕ), (z 2 : ℕ)] with hx
      rw [withRow_in _ 0 _ x z hz hx1.symm hx2.symm]
      refine (pay3_zero _ _ x).trans ?_
      exact (haloRow_at _ 0 x z hz hx1.symm hx2.symm).trans (zero z)
    · exact (withRow_out _ 0 _ z hz).trans (zero z)
  intro n
  induction n with
  | zero =>
    intro h z
    refine ⟨fun _ => first 0 h rfl z, fun i hz => ?_⟩
    exact absurd hz (by omega)
  | succ n ih =>
    intro h z
    have b0 : (z 0).val < 16 := (z 0).isLt
    have b1 : (z 1).val < 8 := (z 1).isLt
    by_cases h0 : (n + 1) % 65 = 0
    · exact ⟨fun _ => first (n + 1) h h0 z, fun i hz => absurd hz (by omega)⟩
    obtain ⟨ih1, ih2⟩ := ih (Nat.lt_of_succ_lt h) z
    by_cases hz : (z 0 : ℕ) = tileOf ((n + 1) % 65)
    · have hz' : (z 0 : ℕ) = ((n + 1) % 65 - 1) % 16 := hz
      refine ⟨fun hlt => absurd hlt (by omega), fun i hz1 hi0 hi1 hi2 => ?_⟩
      rw [haloF_eq]
      obtain_idx x : S1x8x512 := [0, (z 1 : ℕ), (z 2 : ℕ)] with hx
      obtain_idx y : S1024x512 := [1016 + (z 1 : ℕ), (z 2 : ℕ)] with hy
      rw [withRow_in _ _ _ x z hz hx1.symm hx2.symm]
      refine (pay3_pos _ h0 (by omega) _ _ x y (by omega) (by omega)).trans ?_
      refine last_at m c (n + 1) h h0 y i hi0 (by omega) (by omega)
    · have hz' : (z 0 : ℕ) ≠ ((n + 1) % 65 - 1) % 16 := hz
      rw [haloF_eq, keptF_succ m c n h h0, withRow_out _ _ _ z hz]
      refine ⟨fun hlt => ih1 (by omega), fun i hz1 hi0 hi1 hi2 => ih2 i (by omega) (by omega) (by omega) hi2⟩

/-- The rows the step after the first finds for its column tile. -/
theorem row_at (c : Dev nD) (n : ℕ) (h : n < cfg0.N) (hs : n % 65 ≠ 0) (x : S1x8x512.Idx) :
    ((n % 65 - 1) / 16 = 0 → haloRow (keptF m c n h) (n % 65) x = (0 : EReal)) ∧
    (∀ i : S4x4096x8192.Idx, (n % 65 - 1) / 16 ≠ 0 → (i 0 : ℕ) = n / 65 → (i 1 : ℕ) + 8 = (n % 65 - 1) / 16 * 1024 + x 1 →
      (i 2 : ℕ) = (n % 65 - 1) % 16 * 512 + x 2 → haloRow (keptF m c n h) (n % 65) x = U m c i) := by
  cases n with
  | zero => exact absurd rfl hs
  | succ n =>
    obtain_idx z : S16x8x512 := [((n + 1) % 65 - 1) % 16, (x 1 : ℕ), (x 2 : ℕ)] with hz
    have b1 : (x 1).val < 8 := (x 1).isLt
    rw [keptF_succ m c n h hs, haloRow_at _ _ x z hz0 hz1 hz2]
    obtain ⟨k1, k2⟩ := halo_at m c n (Nat.lt_of_succ_lt h) z
    exact ⟨fun ht => k1 (by omega), fun i ht hi0 hi1 hi2 => k2 i (by omega) (by omega) (by omega) (by omega)⟩

/-! ## The tile's buffer -/

/-- The reference's product with three rows of zeros before it. -/
abbrev Pad (c : Dev nD) : FVec Ideal Cert.ProjConvRefIdeal.S4x4099x8192 .f32 :=
  val_main_v24 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The padded product, in its first three rows and below. -/
theorem pad_low (c : Dev nD) (j : Cert.ProjConvRefIdeal.S4x4099x8192.Idx) (hj : (j 1 : ℕ) < 3) : Pad m c j = (0 : EReal) := by
  pointwise [val_main_v24, val_main_c, val_main_call0_v0]
  rw [dif_neg (by omega)]
  show (((0#32 : BitVec 32).toInt : ℝ) : EReal) = 0
  simp
theorem pad_high (c : Dev nD) (j : Cert.ProjConvRefIdeal.S4x4099x8192.Idx) (i : S4x4096x8192.Idx) (h0 : (j 0 : ℕ) = i 0) (h1 : (j 1 : ℕ) = 3 + i 1) (h2 : (j 2 : ℕ) = i 2) :
    Pad m c j = U m c i := by
  pointwise [val_main_v24, val_main_c, val_main_call0_v0]
  have hi : (i 1).val < 4096 := (i 1).isLt
  rw [dif_pos (by omega)]
  blk_ext

/-- THE TILE'S BUFFER, from row 5 on, is the padded product from three rows above the tile on. -/
theorem tile_at (c : Dev nD) (n : ℕ) (h : n < cfg0.N) (hs : n % 65 ≠ 0) (d : S1032x512.Idx) (j : Cert.ProjConvRefIdeal.S4x4099x8192.Idx)
    (hj0 : (j 0 : ℕ) = n / 65) (hj1 : (j 1 : ℕ) + 5 = (n % 65 - 1) / 16 * 1024 + d 0) (hj2 : (j 2 : ℕ) = (n % 65 - 1) % 16 * 512 + d 1) :
    withHead (withTail (k0_pay30 (F := Ideal)) (lastF m c n h)) (haloRow (keptF m c n h) (n % 65)) d = Pad m c j := by
  have b0 : (d 0).val < 1032 := (d 0).isLt
  have b1 : (d 1).val < 512 := (d 1).isLt
  have hn : n < 260 := lt_of_lt_of_eq h N_0
  by_cases hd : (d 0).val < 8
  · obtain_idx x : S1x8x512 := [0, (d 0 : ℕ), (d 1 : ℕ)] with hx
    refine (tile_low _ _ d x hx1.symm hx2.symm).trans ?_
    obtain ⟨k1, k2⟩ := row_at m c n h hs x
    by_cases ht : (n % 65 - 1) / 16 = 0
    · exact (k1 ht).trans (pad_low m c j (by omega)).symm
    · obtain_idx i : S4x4096x8192 := [n / 65, (n % 65 - 1) / 16 * 1024 + (d 0 : ℕ) - 8, (n % 65 - 1) % 16 * 512 + (d 1 : ℕ)] with hi
      exact (k2 i ht hi0 (by omega) (by omega)).trans (pad_high m c j i (by omega) (by omega) (by omega)).symm
  · obtain_idx y : S1024x512 := [(d 0 : ℕ) - 8, (d 1 : ℕ)] with hy
    obtain_idx i : S4x4096x8192 := [n / 65, (n % 65 - 1) / 16 * 1024 + ((d 0 : ℕ) - 8), (n % 65 - 1) % 16 * 512 + (d 1 : ℕ)] with hi
    refine (tile_high _ _ d y (by omega) hy1.symm).trans ?_
    exact (last_at m c n h hs y i hi0 (by omega) (by omega)).trans (pad_high m c j i (by omega) (by omega) (by omega)).symm

end Cert.ProjConvIdeal.RefValue

end
-- ==== Proof.ConvIdealHeads.lean ====
/-
  THE VALUE of the fused normalisation, product and convolution, third part: the convolution of a tile, its gate, and the
  normalisation of the query and key heads.
-/
module

public import proofs.«01_k».proof.Proof.ConvIdealTaps

@[expose] public section

set_option maxRecDepth 16384

noncomputable section

open Idealize.ShloMosaic Idealize.ShloMosaic.TcCoe Idealize.SL.Sem
open Idealize.ShloMosaic.Pipeline (Dat)

namespace Cert.ProjConvIdeal.RefValue

open Cert.ProjConvIdeal Cert.ProjConvIdeal.Gen
open Cert.ProjConvRefIdeal.Read (val_main_v24 val_main_v25 val_main_v26 val_main_v27 val_main_v28 val_main_v29 val_main_v30 val_main_v31 val_main_v32 val_main_v33 val_main_v34 val_main_v35 val_main_v36 val_main_v37 val_main_v38 val_main_v39 val_main_v40 val_main_v41 val_main_v42 val_main_v43 val_main_v44 val_main_v45 val_main_v46 val_main_v47 val_main_v48 val_main_v49 val_main_v50 val_main_v51 val_main_call1_v0 val_main_call1_v1 val_main_call1_cst val_main_call1_v2 val_main_call1_v3 val_main_call1_cst_0 val_main_call1_v4 val_main_call1_v5 val_main_v52 val_main_v53 val_main_v54 val_main_v55 val_main_v56 val_main_v57 val_main_v58 val_main_v59 val_main_v60 val_main_v61 val_main_v62 val_main_v63 val_main_v64 val_main_v65 val_main_v66 val_main_v67 val_main_v68 val_main_v69 val_main_v70 val_main_v71 val_main_v72 val_main_v73 val_main_v74 val_main_v75 val_main_v76 val_main_v77 val_main_v78 val_main_cst_3 val_main_cst_4 val_main_cst_5 val_main_cst_6 val_main_cst_7)

variable (m : (ℓ : Loc nD τ sig) → Buf (Elt Ideal) ℓ) (ρ : Dev nD → PrngReg)

/-! ## The convolution -/

/-- The reference's convolution, before its gate. -/
abbrev Conv (c : Dev nD) : FVec Ideal S4x4096x8192 .f32 :=
  val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The kernel's sum of the four products, the last tap first. -/
theorem pay4_at (P : Vec Ideal S1024x512 .f32) (x5 : Vec Ideal S4x512 .f32) (A B C : Vec Ideal S1024x512 .f32) (y : S1024x512.Idx) :
    k0_pay4 P x5 A B C y = (x5 (ix2 3 (y 1)) * P y + x5 (ix2 2 (y 1)) * A y + x5 (ix2 1 (y 1)) * B y + x5 (ix2 0 (y 1)) * C y : EReal) := by
  pointwise [k0_pay4]
  try blk_ext

/-- The reference's, the first tap first. -/
theorem conv_ref (c : Dev nD) (i : S4x4096x8192.Idx) (j0 j1 j2 j3 : Cert.ProjConvRefIdeal.S4x4099x8192.Idx)
    (h00 : (j0 0 : ℕ) = i 0) (h01 : (j0 1 : ℕ) = i 1) (h02 : (j0 2 : ℕ) = i 2)
    (h10 : (j1 0 : ℕ) = i 0) (h11 : (j1 1 : ℕ) = 1 + i 1) (h12 : (j1 2 : ℕ) = i 2)
    (h20 : (j2 0 : ℕ) = i 0) (h21 : (j2 1 : ℕ) = 2 + i 1) (h22 : (j2 2 : ℕ) = i 2)
    (h30 : (j3 0 : ℕ) = i 0) (h31 : (j3 1 : ℕ) = 3 + i 1) (h32 : (j3 2 : ℕ) = i 2) :
    Conv m c i = ((show FVec Ideal Cert.ProjConvRefIdeal.S2x4x8192 .f32 from m ((c : Thread nD τ).loc main_arg5)) (ix3 0 0 (i 2)) * Pad m c j0
      + (show FVec Ideal Cert.ProjConvRefIdeal.S2x4x8192 .f32 from m ((c : Thread nD τ).loc main_arg5)) (ix3 0 1 (i 2)) * Pad m c j1
      + (show FVec Ideal Cert.ProjConvRefIdeal.S2x4x8192 .f32 from m ((c : Thread nD τ).loc main_arg5)) (ix3 0 2 (i 2)) * Pad m c j2
      + (show FVec Ideal Cert.ProjConvRefIdeal.S2x4x8192 .f32 from m ((c : Thread nD τ).loc main_arg5)) (ix3 0 3 (i 2)) * Pad m c j3 : EReal) := by
  pointwise [val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51]
  blk_point []

/-- The taps a point stages are the reference's at the tile's columns. -/
theorem taps_at (c : Dev nD) (t : Fin cfg0.N) (k : Fin 4) (y : S1024x512.Idx) (i : S4x4096x8192.Idx) (hi : (i 2 : ℕ) = (t.val % 65 - 1) % 16 * 512 + y 1) :
    (show Vec Ideal S4x512 .f32 from iblk m c 5 t) (ix2 k (y 1)) = (show FVec Ideal Cert.ProjConvRefIdeal.S2x4x8192 .f32 from m ((c : Thread nD τ).loc main_arg5)) (ix3 0 k (i 2)) := by
  blk_point [iblk, V, idx t]

/-- THE CONVOLUTION of the tile a step finishes is the reference's. -/
theorem conv_at (c : Dev nD) (n : ℕ) (h : n < cfg0.N) (hs : n % 65 ≠ 0) (y : S1024x512.Idx) (i : S4x4096x8192.Idx)
    (hi0 : (i 0 : ℕ) = n / 65) (hi1 : (i 1 : ℕ) = (n % 65 - 1) / 16 * 1024 + y 0) (hi2 : (i 2 : ℕ) = (n % 65 - 1) % 16 * 512 + y 1) :
    convOf (F := Ideal) (lastF m c n h) (iblk m c 5 ⟨n, h⟩) (withHead (withTail (k0_pay30 (F := Ideal)) (lastF m c n h)) (haloRow (keptF m c n h) (n % 65))) y = Conv m c i := by
  have b0 : (y 0).val < 1024 := (y 0).isLt
  have b1 : (y 1).val < 512 := (y 1).isLt
  have bi0 : (i 0).val < 4 := (i 0).isLt
  have bi1 : (i 1).val < 4096 := (i 1).isLt
  have bi2 : (i 2).val < 8192 := (i 2).isLt
  obtain_idx j0 : Cert.ProjConvRefIdeal.S4x4099x8192 := [(i 0 : ℕ), (i 1 : ℕ), (i 2 : ℕ)] with g0
  obtain_idx j1 : Cert.ProjConvRefIdeal.S4x4099x8192 := [(i 0 : ℕ), 1 + (i 1 : ℕ), (i 2 : ℕ)] with g1
  obtain_idx j2 : Cert.ProjConvRefIdeal.S4x4099x8192 := [(i 0 : ℕ), 2 + (i 1 : ℕ), (i 2 : ℕ)] with g2
  obtain_idx j3 : Cert.ProjConvRefIdeal.S4x4099x8192 := [(i 0 : ℕ), 3 + (i 1 : ℕ), (i 2 : ℕ)] with g3
  obtain_idx d0 : S1032x512 := [5 + (y 0 : ℕ), (y 1 : ℕ)] with f0
  obtain_idx d1 : S1032x512 := [6 + (y 0 : ℕ), (y 1 : ℕ)] with f1
  obtain_idx d2 : S1032x512 := [7 + (y 0 : ℕ), (y 1 : ℕ)] with f2
  have eP : lastF m c n h y = Pad m c j3 :=
    (last_at m c n h hs y i hi0 hi1 hi2).trans (pad_high m c j3 i g30 g31 g32).symm
  have eA := (tapA_at (withHead (withTail (k0_pay30 (F := Ideal)) (lastF m c n h)) (haloRow (keptF m c n h) (n % 65))) y d2 f20 f21).trans
    (tile_at m c n h hs d2 j2 (by omega) (by omega) (by omega))
  have eB := (tapB_at (withHead (withTail (k0_pay30 (F := Ideal)) (lastF m c n h)) (haloRow (keptF m c n h) (n % 65))) y d1 f10 f11).trans
    (tile_at m c n h hs d1 j1 (by omega) (by omega) (by omega))
  have eC := (tapC_at (withHead (withTail (k0_pay30 (F := Ideal)) (lastF m c n h)) (haloRow (keptF m c n h) (n % 65))) y d0 f00 f01).trans
    (tile_at m c n h hs d0 j0 (by omega) (by omega) (by omega))
  unfold convOf
  refine (pay4_at _ _ _ _ _ y).trans ?_
  rw [conv_ref m c i j0 j1 j2 j3 g00 g01 g02 g10 g11 g12 g20 g21 g22 g30 g31 g32, ← eP, ← eA, ← eB, ← eC,
    ← taps_at m c ⟨n, h⟩ 0 y i hi2, ← taps_at m c ⟨n, h⟩ 1 y i hi2, ← taps_at m c ⟨n, h⟩ 2 y i hi2, ← taps_at m c ⟨n, h⟩ 3 y i hi2]
  have rev : ∀ p q r s : EReal, p + q + r + s = s + r + q + p := fun p q r s => by
    rw [add_comm (p + q + r) s, add_comm (p + q) r, add_comm p q, ← add_assoc, ← add_assoc]
  exact rev _ _ _ _

/-! ## The gate -/

/-- The reference's gated convolution. -/
abbrev Act (c : Dev nD) : FVec Ideal S4x4096x8192 .f32 :=
  val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The gated convolution of the tile a step finishes. -/
abbrev act (c : Dev nD) (n : ℕ) (h : n < cfg0.N) : FVec Ideal S1024x512 .f32 :=
  k0_pay6 (convOf (F := Ideal) (lastF m c n h) (iblk m c 5 ⟨n, h⟩) (withHead (withTail (k0_pay30 (F := Ideal)) (lastF m c n h)) (haloRow (keptF m c n h) (n % 65))))
    (gateOf (F := Ideal) (lastF m c n h) (iblk m c 5 ⟨n, h⟩) (withHead (withTail (k0_pay30 (F := Ideal)) (lastF m c n h)) (haloRow (keptF m c n h) (n % 65))))

/-- The gate of a convolution, at an index. -/
theorem gate_pay (P : Vec Ideal S1024x512 .f32) (x5 : Vec Ideal S4x512 .f32) (D : Vec Ideal S1032x512 .f32) (y : S1024x512.Idx) (v : EReal)
    (hv : convOf P x5 D y = v) : k0_pay6 (convOf P x5 D) (gateOf P x5 D) y = v * Ideal.div 1 (1 + Ideal.exp (-v)) := by
  have hv' : k0_pay4 P x5 (tapA D) (tapB D) (tapC D) y = v := hv
  unfold gateOf
  pointwise [k0_pay6, k0_pay5]
  rw [hv, hv', sub_eq_add_neg, zero_add]

/-- The reference's gate, at an index. -/
theorem gate_ref (c : Dev nD) (i : S4x4096x8192.Idx) (v : EReal) (hv : Conv m c i = v) : Act m c i = v * Ideal.div 1 (1 + Ideal.exp (-v)) := by
  pointwise [val_main_call1_v0, val_main_call1_v1, val_main_call1_cst, val_main_call1_v2, val_main_call1_v3, val_main_call1_cst_0, val_main_call1_v4, val_main_call1_v5, val_main_v52]
  rw [← hv]

/-- THE GATED CONVOLUTION of the tile a step finishes is the reference's. -/
theorem act_at (c : Dev nD) (n : ℕ) (h : n < cfg0.N) (hs : n % 65 ≠ 0) (y : S1024x512.Idx) (i : S4x4096x8192.Idx)
    (hi0 : (i 0 : ℕ) = n / 65) (hi1 : (i 1 : ℕ) = (n % 65 - 1) / 16 * 1024 + y 0) (hi2 : (i 2 : ℕ) = (n % 65 - 1) % 16 * 512 + y 1) :
    act m c n h y = Act m c i :=
  (gate_pay _ _ _ y _ (conv_at m c n h hs y i hi0 hi1 hi2)).trans (gate_ref m c i _ rfl).symm

/-! ## The heads -/

/-- A head's column times the reciprocal root of the head's mean square and a factor. -/
def headOf (T : FVec Ideal S1024x512 .f32) (s : EReal) (p : S1024x512.Idx) : EReal :=
  T p * (Ideal.rsqrt ((∑ k : Fin 128, T (ix2 (p 0) ⟨(p 1).val / 128 * 128 + k.val, by have : (p 1).val < 512 := (p 1).isLt; omega⟩)
    * T (ix2 (p 0) ⟨(p 1).val / 128 * 128 + k.val, by have : (p 1).val < 512 := (p 1).isLt; omega⟩)) + Ideal.ofBits .f32 0x358637BD#32) * s)

/-- A query column tile of the output block: each head normalised and scaled, -/
theorem out_query (w : BitVec 32) (e8 : Scalar.cmpi .slt w 8#32 = 1#1) (e4 : Scalar.cmpi .slt w 4#32 = 1#1) (Y E : FVec Ideal S1024x512 .f32)
    (y : S1x1024x512.Idx) (p : S1024x512.Idx) (hp0 : (p 0 : ℕ) = y 1) (hp1 : (p 1 : ℕ) = y 2) :
    View.canon (outPieces w Y E) y = headOf (k0_pay6 Y E) (Ideal.ofBits .f32 0x3DB504F3#32) p := by
  have e7 : k0_pay7 (F := Ideal) w = Ideal.ofBits .f32 0x3DB504F3#32 := by unfold k0_pay7; rw [e4]; rfl
  unfold outPieces headOf
  canon_tiles x q
  all_goals (open_payloads; rw [e8]; (try rw [e4]); pointwise; blk_point [])

/-- a key column tile: each head normalised, -/
theorem out_key (w : BitVec 32) (e8 : Scalar.cmpi .slt w 8#32 = 1#1) (e4 : Scalar.cmpi .slt w 4#32 = 0#1) (Y E : FVec Ideal S1024x512 .f32)
    (y : S1x1024x512.Idx) (p : S1024x512.Idx) (hp0 : (p 0 : ℕ) = y 1) (hp1 : (p 1 : ℕ) = y 2) :
    View.canon (outPieces w Y E) y = headOf (k0_pay6 Y E) 1 p := by
  have e7 : k0_pay7 (F := Ideal) w = Ideal.ofBits .f32 0x3F800000#32 := by unfold k0_pay7; rw [e4]; rfl
  unfold outPieces headOf
  canon_tiles x q
  all_goals (open_payloads; rw [e8]; (try rw [e4]); pointwise; blk_point [])

/-- a value column tile: as it is. -/
theorem out_value (w : BitVec 32) (e8 : Scalar.cmpi .slt w 8#32 = 0#1) (e4 : Scalar.cmpi .slt w 4#32 = 0#1) (Y E : FVec Ideal S1024x512 .f32)
    (y : S1x1024x512.Idx) (p : S1024x512.Idx) (hp0 : (p 0 : ℕ) = y 1) (hp1 : (p 1 : ℕ) = y 2) :
    View.canon (outPieces w Y E) y = k0_pay6 Y E p := by
  have e7 : k0_pay7 (F := Ideal) w = Ideal.ofBits .f32 0x3F800000#32 := by unfold k0_pay7; rw [e4]; rfl
  unfold outPieces
  canon_tiles x q
  all_goals (open_payloads; rw [e8]; (try rw [e4]); pointwise; blk_point [])

end Cert.ProjConvIdeal.RefValue

end
-- ==== Proof.ConvIdealValue.lean ====
/-
  THE VALUE of the fused normalisation, product and convolution: every flushed block of the output is the reference's, so the
  result array is.
-/
module

public import proofs.«01_k».proof.Proof.ConvIdealHeads
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ProjConvIdeal.RefValue

open Cert.ProjConvIdeal Cert.ProjConvIdeal.Gen
open Cert.ProjConvRefIdeal.Read (val_main_v52 val_main_v53 val_main_v54 val_main_v55 val_main_v56 val_main_v57 val_main_v58 val_main_v59 val_main_v60 val_main_v61 val_main_v62 val_main_v63 val_main_v64 val_main_v65 val_main_v66 val_main_v67 val_main_v68 val_main_v69 val_main_v70 val_main_v71 val_main_v72 val_main_v73 val_main_v74 val_main_v75 val_main_v76 val_main_v77 val_main_v78 val_main_cst_3 val_main_cst_4 val_main_cst_5 val_main_cst_6 val_main_cst_7)

variable (m : (ℓ : Loc nD τ sig) → Buf (Elt Ideal) ℓ) (ρ : Dev nD → PrngReg)

/-- What the result array is shown to hold: the reference's last value of the argument arrays. -/
abbrev result (c : Dev nD) : FVec Ideal S4x4096x8192 .f32 :=
  val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-! ## The reference's result, by its columns -/

/-- The mean square of a head's columns in the reference's gated convolution, less the division: the sum of squares. -/
abbrev squares (c : Dev nD) (i : S4x4096x8192.Idx) : EReal :=
  ∑ k : Fin 128, Act m c (ix3 (i 0) (i 1) ⟨(i 2).val / 128 * 128 + k.val, by have : (i 2).val < 8192 := (i 2).isLt; omega⟩)
    * Act m c (ix3 (i 0) (i 1) ⟨(i 2).val / 128 * 128 + k.val, by have : (i 2).val < 8192 := (i 2).isLt; omega⟩)

/-- The query columns, -/
theorem ref_query (c : Dev nD) (i : S4x4096x8192.Idx) (hi : (i 2 : ℕ) < 2048) :
    result m c i = Act m c i * (Ideal.rsqrt (squares m c i + Ideal.ofBits .f32 0x358637BD#32) * Ideal.ofBits .f32 0x3DB504F3#32) := by
  pointwise [val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_cst_3, val_main_cst_4, val_main_cst_5, val_main_cst_6, val_main_cst_7]
  rw [dif_pos (by omega)]
  simp only [← mul_assoc]
  blk_point [squares]

/-- the key columns, -/
theorem ref_key (c : Dev nD) (i : S4x4096x8192.Idx) (hi : 2048 ≤ (i 2 : ℕ)) (hi' : (i 2 : ℕ) < 4096) :
    result m c i = Act m c i * (Ideal.rsqrt (squares m c i + Ideal.ofBits .f32 0x358637BD#32) * 1) := by
  pointwise [val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_cst_3, val_main_cst_4, val_main_cst_5, val_main_cst_6, val_main_cst_7]
  rw [dif_neg (by omega), dif_pos (by omega)]
  blk_point [squares]
  refine congrArg (· + _) (Finset.sum_congr rfl fun k _ => ?_)
  refine congrArg₂ (· * ·) ?_ ?_ <;> blk_point []

/-- and the value columns. -/
theorem ref_value (c : Dev nD) (i : S4x4096x8192.Idx) (hi : 4096 ≤ (i 2 : ℕ)) : result m c i = Act m c i := by
  pointwise [val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_cst_3, val_main_cst_4, val_main_cst_5, val_main_cst_6, val_main_cst_7]
  rw [dif_neg (by omega), dif_neg (by omega)]
  blk_point []

/-! ## A flushed block -/

/-- A head of the tile a step finishes is the reference's. -/
theorem head_at (c : Dev nD) (n : ℕ) (h : n < cfg0.N) (hs : n % 65 ≠ 0) (s : EReal) (p : S1024x512.Idx) (i : S4x4096x8192.Idx)
    (hi0 : (i 0 : ℕ) = n / 65) (hi1 : (i 1 : ℕ) = (n % 65 - 1) / 16 * 1024 + p 0) (hi2 : (i 2 : ℕ) = (n % 65 - 1) % 16 * 512 + p 1) :
    headOf (act m c n h) s p = Act m c i * (Ideal.rsqrt (squares m c i + Ideal.ofBits .f32 0x358637BD#32) * s) := by
  have b1 : (p 1).val < 512 := (p 1).isLt
  have e0 := act_at m c n h hs p i hi0 hi1 hi2
  have e : ∀ k : Fin 128, act m c n h (ix2 (p 0) ⟨(p 1).val / 128 * 128 + k.val, by omega⟩)
      = Act m c (ix3 (i 0) (i 1) ⟨(i 2).val / 128 * 128 + k.val, by have : (i 2).val < 8192 := (i 2).isLt; omega⟩) := fun k =>
    act_at m c n h hs _ _ hi0 hi1 (by
      show (i 2).val / 128 * 128 + k.val = (n % 65 - 1) % 16 * 512 + ((p 1).val / 128 * 128 + k.val)
      omega)
  have es : (∑ k : Fin 128, act m c n h (ix2 (p 0) ⟨(p 1).val / 128 * 128 + k.val, by omega⟩)
      * act m c n h (ix2 (p 0) ⟨(p 1).val / 128 * 128 + k.val, by omega⟩)) = squares m c i :=
    Finset.sum_congr rfl fun k _ => by rw [e k]
  show act m c n h p * (Ideal.rsqrt ((∑ k : Fin 128, act m c n h (ix2 (p 0) ⟨(p 1).val / 128 * 128 + k.val, _⟩)
      * act m c n h (ix2 (p 0) ⟨(p 1).val / 128 * 128 + k.val, _⟩)) + Ideal.ofBits .f32 0x358637BD#32) * s) = _
  rw [es, e0]

/-- The comparisons of a column tile's number, decided. -/
theorem word_lt : ∀ j : Fin 16, Scalar.cmpi .slt (BitVec.ofNat 32 j.val) 8#32 = (if j.val < 8 then 1#1 else 0#1)
    ∧ Scalar.cmpi .slt (BitVec.ofNat 32 j.val) 4#32 = (if j.val < 4 then 1#1 else 0#1) := by decide +kernel

/-- A BLOCK of a later step, at an index, is the reference at the array index. -/
theorem block_at (c : Dev nD) (n : ℕ) (h : n < cfg0.N) (hs : n % 65 ≠ 0) (y : S1x1024x512.Idx) (i : S4x4096x8192.Idx)
    (hi0 : (i 0 : ℕ) = n / 65) (hi1 : (i 1 : ℕ) = (n % 65 - 1) / 16 * 1024 + y 1) (hi2 : (i 2 : ℕ) = (n % 65 - 1) % 16 * 512 + y 2) :
    outF m c n h y = result m c i := by
  obtain_idx p : S1024x512 := [(y 1 : ℕ), (y 2 : ℕ)] with hp
  have b2 : (y 2).val < 512 := (y 2).isLt
  have hj : (n % 65 - 1) % 16 < 16 := Nat.mod_lt _ (by decide)
  obtain ⟨w8, w4⟩ := word_lt ⟨(n % 65 - 1) % 16, hj⟩
  unfold outF outOf
  by_cases c4 : (n % 65 - 1) % 16 < 4
  · rw [if_pos (show _ from Nat.lt_of_lt_of_le c4 (by decide))] at w8
    rw [if_pos c4] at w4
    refine (out_query _ w8 w4 _ _ y p hp0 hp1).trans ?_
    exact (head_at m c n h hs _ p i hi0 (by omega) (by omega)).trans (ref_query m c i (by omega)).symm
  · rw [if_neg c4] at w4
    by_cases c8 : (n % 65 - 1) % 16 < 8
    · rw [if_pos c8] at w8
      refine (out_key _ w8 w4 _ _ y p hp0 hp1).trans ?_
      exact (head_at m c n h hs _ p i hi0 (by omega) (by omega)).trans (ref_key m c i (by omega) (by omega)).symm
    · rw [if_neg c8] at w8
      refine (out_value _ w8 w4 _ _ y p hp0 hp1).trans ?_
      exact (act_at m c n h hs p i hi0 (by omega) (by omega)).trans (ref_value m c i (by omega)).symm

/-- No block is flushed at the first step of a batch entry. -/
theorem flush_later : ∀ t : Fin cfg0.N, (cfg0.win 6).flush t = true → t.val % 65 ≠ 0 :=
  (by decide +kernel : ∀ t : Fin grid0.N, (cfg0.win 6).flush t = true → t.val % 65 ≠ 0)

/-- So the result array ends holding the reference's value: the blocks tile it. -/
theorem final (c : Dev nD) : (dats m 0 c).arrAt 6 (cfgs 0).N = result m c := by
  refine (dats m 0 c).arrAt_eq_of_covers 6 _ (by decide +kernel) fun t hf y => ?_
  blk_simp
  rw [after0_6]
  have hs := flush_later t hf
  refine block_at m c t.val t.isLt hs y _ ?_ ?_ ?_
  all_goals (blk_simp [idx t] <;> try omega)

end Cert.ProjConvIdeal.RefValue

namespace Cert.Proof

/-- The kernel and the reference end with the same result array whenever their arguments agree. -/
theorem projConv_algebraic : Cert.algebraic_ProjConvIdeal_ProjConvRefIdeal := by
  intro m ρ m' ρ' _ hagree
  refine ⟨fun c => Cert.ProjConvIdeal.RefValue.result m c, ?_, ?_⟩
  · exact (θ_run Cert.ProjConvIdeal.defs _ _).mono
      (fun _ h c => ⟨((h.2 c).1 6).trans (Cert.ProjConvIdeal.RefValue.final m c), h.1.1 c⟩)
      (θ_run_and (Cert.ProjConvIdeal.Gen.frame (F := Ideal) m ρ) (Cert.ProjConvIdeal.Gen.run_main (F := Ideal) m ρ))
  · refine (θ_run Cert.ProjConvRefIdeal.defs _ _).mono (fun _ h c => ⟨(h c).1.trans ?_, (h c).2⟩)
      (Cert.ProjConvRefIdeal.Value.run (F := Ideal) m' ρ')
    rw [Cert.ProjConvRefIdeal.Read.val_main_v78_eq]
    show Cert.ProjConvRefIdeal.Read.val_main_v78 (F := Ideal) (m' ((c.tc : Thread Cert.ProjConvRefIdeal.nD Cert.ProjConvRefIdeal.τ).loc Cert.ProjConvRefIdeal.main_arg0)) (m' ((c.tc : Thread Cert.ProjConvRefIdeal.nD Cert.ProjConvRefIdeal.τ).loc Cert.ProjConvRefIdeal.main_arg1)) (m' ((c.tc : Thread Cert.ProjConvRefIdeal.nD Cert.ProjConvRefIdeal.τ).loc Cert.ProjConvRefIdeal.main_arg2)) (m' ((c.tc : Thread Cert.ProjConvRefIdeal.nD Cert.ProjConvRefIdeal.τ).loc Cert.ProjConvRefIdeal.main_arg3)) (m' ((c.tc : Thread Cert.ProjConvRefIdeal.nD Cert.ProjConvRefIdeal.τ).loc Cert.ProjConvRefIdeal.main_arg4)) (m' ((c.tc : Thread Cert.ProjConvRefIdeal.nD Cert.ProjConvRefIdeal.τ).loc Cert.ProjConvRefIdeal.main_arg5)) = _
    rw [(hagree c).1, (hagree c).2.1, (hagree c).2.2.1, (hagree c).2.2.2.1, (hagree c).2.2.2.2.1, (hagree c).2.2.2.2.2]

end Cert.Proof

end
-- ==== Proof.OutProjBValue.lean ====
/-
  THE VALUE of the output projection of an attention layer that is not the last: the tiled kernel leaves `x + gate * (y @ w)` of the whole arrays, which
  is what the reference computes. Each grid point writes one [1, 1024, 512] block; the block's element is the reference's element
  at the block's place in the array, the contraction running whole inside the block.
-/
module

public import proofs.«01_k».proof.Defs
public import proofs.«01_k».proof.Proof.Gen.OutProjBIdeal.Value
public import proofs.«01_k».proof.Proof.Gen.OutProjBRefIdeal.Run
public import proofs.«01_k».proof.Proof.Gen.OutProjBRefIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutProjBIdeal.RefValue

open Cert.OutProjBIdeal Cert.OutProjBIdeal.Gen
open Cert.OutProjBRefIdeal.Read (val_main_v0 val_main_v1 val_main_v2 val_main_v3 val_main_v4 val_main_v5 val_main_v6 val_main_v7)

variable (m : (ℓ : Loc nD τ sig) → Buf (Elt Ideal) ℓ) (ρ : Dev nD → PrngReg)

/-- What the result array is shown to hold: the reference's last value of the argument arrays. -/
abbrev result (c : Dev nD) : FVec Ideal S4x4096x2048 .f32 :=
  val_main_v7 (F := Ideal) (m ((c : Thread nD τ).loc main_arg0)) (m ((c : Thread nD τ).loc main_arg1))
    (m ((c : Thread nD τ).loc main_arg2)) (m ((c : Thread nD τ).loc main_arg3))

/-- The block every window takes at a grid point, decided over the points. -/
theorem idx : ∀ t : Fin cfg0.N,
    win0_0.index t = ![(grid0.coords t 0).val, (grid0.coords t 1).val, 0] ∧ win0_1.index t = ![0, 0, (grid0.coords t 2).val]
    ∧ win0_2.index t = ![(grid0.coords t 0).val, (grid0.coords t 1).val, (grid0.coords t 2).val]
    ∧ win0_3.index t = ![(grid0.coords t 0).val, 0, (grid0.coords t 2).val]
    ∧ win0_4.index t = ![(grid0.coords t 0).val, (grid0.coords t 1).val, (grid0.coords t 2).val] :=
  (by decide +kernel : ∀ t : Fin grid0.N, _)

/-- What the body stores at an index of its block is the reference at the array index the block's element sits at. -/
theorem point (c : Dev nD) (t : Fin cfg0.N) (y) :
    k0_pay1 (iblk m c 2 t) (iblk m c 3 t) (iblk m c 0 t) (iblk m c 1 t) y = result m c (((cfg0.win 4).blk t).view.emb y) := by
  pointwise [k0_pay1, val_main_v0, val_main_v1, val_main_v2, val_main_v3, val_main_v4, val_main_v5, val_main_v6, val_main_v7, dot_S1024x2048_S2048x512_S1024x512_1_0_0_1_n_n]
  blk_point [iblk, V, idx t]

/-- So the result array ends holding the reference's value: the blocks tile it. -/
theorem final (c : Dev nD) : (dats m 0 c).arrAt 4 (cfgs 0).N = result m c := by
  refine (dats m 0 c).arrAt_eq_of_covers 4 _ (by decide +kernel) fun t _ y => ?_
  blk_simp
  rw [after0_4]; frame_out
  exact point m c t y

end Cert.OutProjBIdeal.RefValue

namespace Cert.Proof

/-- The kernel and the reference end with the same result array whenever their arguments agree. -/
theorem outProjB_algebraic : Cert.algebraic_OutProjBIdeal_OutProjBRefIdeal := by
  intro m ρ m' ρ' _ hagree
  refine ⟨fun c => Cert.OutProjBIdeal.RefValue.result m c, ?_, ?_⟩
  · exact (θ_run Cert.OutProjBIdeal.defs _ _).mono
      (fun _ h c => ⟨((h c).1).trans (Cert.OutProjBIdeal.RefValue.final m c), (h c).2⟩)
      (Cert.OutProjBIdeal.Value.run_blocks (F := Ideal) m ρ)
  · refine (θ_run Cert.OutProjBRefIdeal.defs _ _).mono (fun _ h c => ⟨(h c).1.trans ?_, (h c).2⟩)
      (Cert.OutProjBRefIdeal.Value.run (F := Ideal) m' ρ')
    rw [Cert.OutProjBRefIdeal.Read.val_main_v7_eq, (hagree c).1, (hagree c).2.1, (hagree c).2.2.1, (hagree c).2.2.2]

end Cert.Proof

end
-- ==== Proof.ZbaRuns.lean ====
/-
  The normalisation and product with a second, side product: what its body does at a grid point, in each of the two cases of its
  condition, stated of the vectors its buffers hold.
-/
module

public import proofs.«01_k».proof.Proof.Gen.ProjZbaIdeal.Frame
public import proofs.«01_k».proof.Proof.Gen.ProjZbaIdeal.Skeleton
public import Idealize.ShloMosaic.Lib.VecWindow

@[expose] public section

set_option maxRecDepth 16384

noncomputable section

namespace Cert.ProjZbaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the body's assertions speak of. -/
abbrev Res (F : FTy → Type) [FloatOps F] := MT nD τ sig Unit (Elt F) ℕ (UR sig nD τ) ℕ

/-- A load of a whole buffer reads its contents. -/
theorem rd_full {sg : RefSig} {κ : Kind} {sp : Space} {S : Shape} {e : EltTy} (m : Memref sg κ sp S e) (hm : m.IsWhole) (x : Vec F S e) {off : Fin S.rank → ℕ} (inb : ∀ a, off a + S.size a ≤ S.size a) :
    View.readAt (Elt F) m.view (Rect.unit off S.size inb).toLoadRect (hm.unread x) = x := by
  rw [View.readAt_full, hm.read_unread]

set_option maxHeartbeats 1600000 in
/-- The body at the first column tile of a tile of rows: the modulated norm of the rows goes to the kept buffer, its product with
    the side weights to the second result's buffer and its product with the column tile of the weights to the first's. -/
theorem runA (c : Dev nD) (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048x1024 .bf16) (harg7 : arg7.IsWhole) (arg8 : Memref sig .tc .vmem S1x2048x128 .bf16) (harg8 : arg8.IsWhole) (arg9 : Memref sig .tc .vmem S1x1024x1024 .f32) (harg9 : arg9.IsWhole) (arg10 : Memref sig .tc .vmem S1x1024x128 .f32) (harg10 : arg10.IsWhole) (arg11 : Memref sig .tc .vmem S1024x2048 .bf16) (harg11 : arg11.IsWhole) (hc0 : k0_cond1 i = 1#1)
    (x0 : Vec F S1x1024x2048 .f32) (x1 : Vec F S1x2048 .f32) (x2 : Vec F S1x1x2048 .f32) (x3 : Vec F S1x1x2048 .f32) (x4 : Vec F S1x2048x1024 .bf16) (x5 : Vec F S1x2048x128 .bf16) (E : Set ℕ) (K : PUnit → sProp (Res F)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (k0_pay2 (k0_pay3 x0 x1 x2 x3) x4) ∗ owns (c : Thread nD τ) arg10 fullShare (k0_pay1 (k0_pay4 (k0_pay3 x0 x1 x2 x3) x5)) ∗ owns (c : Thread nD τ) arg11 fullShare (k0_pay3 x0 x1 x2 x3)) -∗ K ⟨⟩))
      ⊢ wp frame (wpE (defs₀ (F := F)) Variants.none c none) E (cc0_norm_matmul i arg3 harg3 arg4 harg4 arg5 harg5 arg6 harg6 arg7 harg7 arg8 harg8 arg9 harg9 arg10 harg10 arg11 harg11) K := by
  simp only [cc0_norm_matmul_eq_skeleton]; unfold cc0_norm_matmul_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    delta runA.sl.v39 runA.sl.HS0_1
    repeat rw [rd_full]
    rw [View.readCov_full]
    exact View.read_writes_full _ _ _ _ _
  isplitl [H7]
  · iexists _; isplitr; swap; · iexact H7
    ipureintro
    delta runA.sl.r runA.sl.v39 runA.sl.HS0_1
    repeat rw [rd_full]
    rw [View.readCov_full]
    exact View.read_writes_full _ _ _ _ _
  iexists _; isplitr; swap; · iexact HS0
  ipureintro
  delta runA.sl.HS0_1
  repeat rw [rd_full]
  exact View.read_writes_full _ _ _ _ _

set_option maxHeartbeats 1600000 in
/-- The body at a later column tile: the kept rows times the column tile of the weights go to the first result's buffer, and
    nothing else changes. -/
theorem runB (c : Dev nD) (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048x1024 .bf16) (harg7 : arg7.IsWhole) (arg8 : Memref sig .tc .vmem S1x2048x128 .bf16) (harg8 : arg8.IsWhole) (arg9 : Memref sig .tc .vmem S1x1024x1024 .f32) (harg9 : arg9.IsWhole) (arg10 : Memref sig .tc .vmem S1x1024x128 .f32) (harg10 : arg10.IsWhole) (arg11 : Memref sig .tc .vmem S1024x2048 .bf16) (harg11 : arg11.IsWhole) (hc0 : ¬ k0_cond1 i = 1#1)
    (x0 : Vec F S1x1024x2048 .f32) (x1 : Vec F S1x2048 .f32) (x2 : Vec F S1x1x2048 .f32) (x3 : Vec F S1x1x2048 .f32) (x4 : Vec F S1x2048x1024 .bf16) (x5 : Vec F S1x2048x128 .bf16) (x7 : Vec F S1x1024x128 .f32) (xs0 : Vec F S1024x2048 .bf16) (E : Set ℕ) (K : PUnit → sProp (Res F)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare x7 ∗ owns (c : Thread nD τ) arg11 fullShare xs0
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (k0_pay2 xs0 x4) ∗ owns (c : Thread nD τ) arg10 fullShare x7 ∗ owns (c : Thread nD τ) arg11 fullShare xs0) -∗ K ⟨⟩))
      ⊢ wp frame (wpE (defs₀ (F := F)) Variants.none c none) E (cc0_norm_matmul i arg3 harg3 arg4 harg4 arg5 harg5 arg6 harg6 arg7 harg7 arg8 harg8 arg9 harg9 arg10 harg10 arg11 harg11) K := by
  simp only [cc0_norm_matmul_eq_skeleton]; unfold cc0_norm_matmul_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hf7; obtain rfl := harg11.eq_unread hfs0
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    repeat rw [rd_full]
    exact View.read_writes_full _ _ _ _ _
  isplitl [H7]
  · iexists _; isplitr; · ipureintro; exact harg10.read_unread _
    iexact H7
  iexists _; isplitr; · ipureintro; exact harg11.read_unread _
  iexact HS0

end Cert.ProjZbaIdeal.Gen

end
-- ==== Proof.ZbaFrame.lean ====
/-
  The normalisation and product with a second, side product: the body at every point of the grid, the run and the frame. The
  second result's buffer is stored at the first column tile of a row tile and written back three points later.
-/
module

public import proofs.«01_k».proof.Proof.ZbaRuns
public import Idealize.ShloMosaic.Lib.Pipeline.ValueKit
public import Idealize.ShloMosaic.Lib.Claim

@[expose] public section

set_option maxRecDepth 16384

noncomputable section

namespace Cert.ProjZbaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers at a point -/

abbrev ms0_0 (t : Fin cfg0.N) : Memref sig .tc .vmem S1x1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x128 .f32 := win0_7.stage (cfg0.slots t 7)
abbrev hs0_7 (t : Fin cfg0.N) : (ms0_7 t).IsWhole := hstage0_7 ((cfg0.slots t 7).cast nbuf0_7)
abbrev scM0_0 : Memref sig .tc .vmem S1024x2048 .bf16 := Memref.whole cc0_scratch0

/-- The library's invariant with the kept buffer owned at some contents. -/
theorem PhiA0_eq (c : Dev nD) :
    (Pipeline.ΦA spec0 c : sProp (Res F)) = iprop(iprop((∃ d, owns (c : Thread nD τ) scM0_0 fullShare d)) ∗ (∃ r, prngReg c r)) := by
  unfold Pipeline.ΦA; rw [scopedRest0_eq]; simp only [scM0_0, owns_whole]; try rfl

/-- The body's condition holds at the first of the four column tiles. -/
theorem cond_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-! ## What the buffers hold -/

/-- The modulated norm of a point's rows. -/
abbrev normed (c : Dev nD) (t : Fin cfg0.N) : FVec F S1024x2048 .bf16 :=
  k0_pay3 (iblk m c 0 t) (iblk m c 1 t) (iblk m c 2 t) (iblk m c 3 t)

/-- Its product with the side weights. -/
abbrev side (c : Dev nD) (t : Fin cfg0.N) : FVec F S1x1024x128 .f32 := k0_pay1 (k0_pay4 (normed m c t) (iblk m c 5 t))

/-- The block every window takes at a grid point, decided over the points: the row tile is `t / 4`, the column tile `t % 4`. -/
theorem idx : ∀ t : Fin cfg0.N, win0_0.index t = ![t.val / 16, t.val / 4 % 4, 0]
    ∧ win0_1.index t = ![0, 0]
    ∧ win0_2.index t = ![t.val / 16, 0, 0]
    ∧ win0_3.index t = ![t.val / 16, 0, 0]
    ∧ win0_4.index t = ![0, 0, 8 + t.val % 4]
    ∧ win0_5.index t = ![0, 0, 0]
    ∧ win0_6.index t = ![t.val / 16, t.val / 4 % 4, t.val % 4]
    ∧ win0_7.index t = ![t.val / 16, t.val / 4 % 4, 0] :=
  (by decide +kernel : ∀ t : Fin grid0.N, _)

/-- The point before. -/
abbrev prev (t : Fin cfg0.N) : Fin cfg0.N := ⟨t.val - 1, Nat.lt_of_le_of_lt (Nat.sub_le _ _) t.isLt⟩

/-- A later column tile's point stages the same rows, gain, shift, scale and side weights as the point before it. -/
theorem same (c : Dev nD) (t : Fin cfg0.N) (h : ¬t.val % 4 = 0) :
    normed m c (prev t) = normed m c t ∧ side m c (prev t) = side m c t := by
  have e := idx t
  have e' := idx (prev t)
  have hN := lt_of_lt_of_eq t.isLt (show cfg0.N = 64 from N_0)
  have d1 : (t.val - 1) / 16 = t.val / 16 := by omega
  have d2 : (t.val - 1) / 4 % 4 = t.val / 4 % 4 := by omega
  have e0 : iblk m c 0 (prev t) = iblk m c 0 t := by
    funext y; blk_point [iblk, V, e, e', d1, d2]
  have e1 : iblk m c 1 (prev t) = iblk m c 1 t := by
    funext y; blk_point [iblk, V, e, e', d1, d2]
  have e2 : iblk m c 2 (prev t) = iblk m c 2 t := by
    funext y; blk_point [iblk, V, e, e', d1, d2]
  have e3 : iblk m c 3 (prev t) = iblk m c 3 t := by
    funext y; blk_point [iblk, V, e, e', d1, d2]
  have e5 : iblk m c 5 (prev t) = iblk m c 5 t := by
    funext y; blk_point [iblk, V, e, e', d1, d2]
  unfold side normed
  rw [e0, e1, e2, e3, e5]
  exact ⟨rfl, rfl⟩

/-- The invariant before point `n`: before the first the library's; afterwards the kept buffer at the norm of the point's rows. -/
def PhiS (c : Dev nD) : (n : ℕ) → n ≤ cfg0.N → sProp (Res F)
  | 0, _ => Pipeline.ΦA spec0 c
  | n + 1, hn => iprop(iprop(owns (c : Thread nD τ) scM0_0 fullShare (normed m c ⟨n, hn⟩)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (normed m c ⟨n, hn⟩)) ∗ (∃ r, prngReg c r)) := rfl
theorem PhiS_pos (c : Dev nD) (t : Fin cfg0.N) (hz : t.val ≠ 0) :
    PhiS m c t.val (Nat.le_of_lt t.isLt) = iprop(iprop(owns (c : Thread nD τ) scM0_0 fullShare (normed m c (prev t))) ∗ (∃ r, prngReg c r)) := by
  obtain ⟨n, hn⟩ := t
  cases n with
  | zero => exact absurd rfl hz
  | succ n => rfl

/-- Whatever the point, the invariant gives the kept buffer at some contents. -/
theorem PhiS_any (c : Dev nD) (n : ℕ) (h : n ≤ cfg0.N) : PhiS m c n h ⊢ Pipeline.ΦA spec0 c := by
  cases n with
  | zero => exact Idealize.SL.BI.Entails.refl _
  | succ n =>
    rw [PhiS_succ, PhiA0_eq]
    iintro ⟨HS0, Hg⟩
    isplitr [Hg]
    · iexists _; iexact HS0
    iexact Hg

/-! ## The proof data -/

/-- The arrays as the region finds them; after the body at point `t` each input's buffer at its block, the first result's at the
    product with the column tile of the weights, the second's at the product with the side weights — stored at the first column
    tile of the row tile and left there by the other three, whose rows are the same. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => X0_4 m c t
    | ⟨5, _⟩ => iblk m c 5 t
    | ⟨6, _⟩ => k0_pay2 (normed m c t) (X0_4 m c t)
    | ⟨7, _⟩ => side m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = k0_pay2 (normed m c t) (X0_4 m c t) := by dsimp only [dats]
theorem after0_7 (c : Dev nD) (t : Fin cfg0.N) : (dats m 0 c).after 7 t = side m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem live0_0 : ∀ t : Fin cfg0.N, cfg0.idle 0 (cfg0.grid.coords t) = false := fun _ => rfl
theorem live0_1 : ∀ t : Fin cfg0.N, cfg0.idle 1 (cfg0.grid.coords t) = false := fun _ => rfl
theorem live0_2 : ∀ t : Fin cfg0.N, cfg0.idle 2 (cfg0.grid.coords t) = false := fun _ => rfl
theorem live0_3 : ∀ t : Fin cfg0.N, cfg0.idle 3 (cfg0.grid.coords t) = false := fun _ => rfl
theorem live0_4 : ∀ t : Fin cfg0.N, cfg0.idle 4 (cfg0.grid.coords t) = false := fun _ => rfl
theorem live0_5 : ∀ t : Fin cfg0.N, cfg0.idle 5 (cfg0.grid.coords t) = false := fun _ => rfl
theorem live0_6 : ∀ t : Fin cfg0.N, cfg0.idle 6 (cfg0.grid.coords t) = false := fun _ => rfl
/-- The second result's buffer is stored at the first column tile only. -/
theorem idle0_7 : ∀ t : Fin cfg0.N, cfg0.idle 7 (cfg0.grid.coords t) = if t.val % 4 = 0 then false else true :=
  (by decide +kernel : ∀ t : Fin grid0.N, idle0 7 (grid0.coords t) = if t.val % 4 = 0 then false else true)

/-- At a later column tile the second result's buffer is found at the product with the side weights. -/
theorem before0_7 (c : Dev nD) : ∀ (n : ℕ) (h : n < cfg0.N) (_ : ¬n % 4 = 0) (d), (dats m 0 c).before 7 ⟨n, h⟩ d = side m c ⟨n, h⟩
  | 0, _, h0, _ => absurd (Nat.zero_mod _) h0
  | n + 1, h, h0, d => by
    have hfl : (cfg0.win 7).flush ⟨n, Nat.lt_of_succ_lt h⟩ ≠ true := fun hf => by
      have := (flush0_7 ⟨n, Nat.lt_of_succ_lt h⟩).mp hf
      dsimp only at this; omega
    rw [(dats m 0 c).before_of_pos 7 ⟨n + 1, h⟩ (Nat.succ_ne_zero n) rfl d]
    refine (if_neg hfl).trans ?_
    refine Eq.trans ?_ (same m c ⟨n + 1, h⟩ h0).2
    show (dats m 0 c).left 7 ⟨n, Nat.lt_of_succ_lt h⟩ d = side m c ⟨n, Nat.lt_of_succ_lt h⟩
    unfold Dat.left
    rw [idle0_7 ⟨n, Nat.lt_of_succ_lt h⟩]
    by_cases hn : n % 4 = 0
    · rw [if_pos hn]
      exact after0_7 m c ⟨n, Nat.lt_of_succ_lt h⟩
    · rw [if_neg hn]
      exact before0_7 c n (Nat.lt_of_succ_lt h) hn d

/-! ## The body at a point -/

/-- What the body is called with at point `t`, -/
def bodyPre (c : Dev nD) (t : Fin cfg0.N) : sProp (Res F) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))
/-- and what it returns. -/
def bodyPost (c : Dev nD) (t : Fin cfg0.N) : sProp (Res F) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- A buffer the body stores at every point, or one only read, is left at the proof data's contents. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- Where the second result's buffer is not stored, leaving it at the product with the side weights is enough. -/
theorem leaves_idle7 (c : Dev nD) (t : Fin cfg0.N) (h : ¬t.val % 4 = 0) :
    owns (c : Thread nD τ) (ms0_7 t) fullShare (side m c t) ⊢ (dats m 0 c).leavesExact 7 t := by
  have hi : cfg0.idle 7 (cfg0.grid.coords t) = true := (idle0_7 t).trans (if_neg h)
  unfold Dat.leavesExact
  rw [hi]
  cases hf : (cfg0.win 7).flush t with
  | true => rw [after0_7]
  | false =>
    dsimp only
    iintro H
    iexists (side m c t)
    rw [show (dats m 0 c).before 7 t (side m c t) = side m c t from before0_7 m c t.val t.isLt h _]
    iexact H

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    leaves_live m c 0 t (live0_0 t), leaves_live m c 1 t (live0_1 t), leaves_live m c 2 t (live0_2 t), leaves_live m c 3 t (live0_3 t), leaves_live m c 4 t (live0_4 t), leaves_live m c 5 t (live0_5 t), leaves_live m c 6 t (live0_6 t),
    after0_0, after0_1, after0_2, after0_3, after0_4, after0_5, after0_6]
  rw [show (dats m 0 c).Φ t.succ = PhiS m c (t.val + 1) t.isLt from rfl, PhiS_succ, PhiS_castSucc m c t]
  by_cases h0 : t.val % 4 = 0
  · rw [leaves_live m c 7 t ((idle0_7 t).trans (if_pos h0)), after0_7]
    refine (BIClass.sep_mono (PhiS_any m c t.val (Nat.le_of_lt t.isLt)) (Idealize.SL.BI.Entails.refl _)).trans ?_
    rw [PhiA0_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((cond_iff t).mpr h0) (iblk m c 0 t) (iblk m c 1 t) (iblk m c 2 t) (iblk m c 3 t) (X0_4 m c t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS_pos m c t (fun hz => h0 (by omega)), (same m c t h0).1]
    simp only [show ∀ d, (dats m 0 c).before 7 t d = side m c t from before0_7 m c t.val t.isLt h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((cond_iff t).mp h)) (iblk m c 0 t) (iblk m c 1 t) (iblk m c 2 t) (iblk m c 3 t) (X0_4 m c t) (iblk m c 5 t) (side m c t) (normed m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (leaves_idle7 m c t h0)
    iexact H7

theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
theorem hin (c : Dev nD) : Pipeline.ΦA spec0 c ⊢ (dats m 0 c).Φ 0 := by
  rw [show (dats m 0 c).Φ 0 = PhiS m c 0 (Nat.zero_le _) from rfl, PhiS_zero m c 0 _ rfl]
theorem hout (c : Dev nD) : (dats m 0 c).Φ (Fin.last cfg0.N) ⊢ Pipeline.ΦA spec0 c :=
  PhiS_any m c (Fin.last cfg0.N).val (Nat.le_of_lt_succ (Fin.last cfg0.N).isLt)

/-! ## The run and the frame -/

set_option backward.isDefEq.respectTransparency.types false in
/-- Every fair execution from zero counters ends with the pipeline's arrays at what the proof data give, and with zero counters. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)
theorem run_main : θ_run defs (onTc (τ := τ) (main (F := F))) (s₀ m ρ) (Pipeline.FramePost cfgs (dats m) 0 (V m)) :=
  (θ_run defs _ _).mono (fun _ h => h.1) (run_main_quiescent m ρ)
/-- The frame: the argument arrays end unchanged and the counters at zero. -/
theorem frame : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4)) ∧ r.2.sem = fun _ => 0) :=
  θ_run_and (frame_of m ρ (dats m) (A_eq m) (run_main m ρ)) ((θ_run defs _ _).mono (fun _ h => h.2) (run_main_quiescent m ρ))

end Cert.ProjZbaIdeal.Gen

end
-- ==== Proof.ZbaValue.lean ====
/-
  THE VALUE of the normalisation and product with a second, side product: the tiled kernel leaves the columns 8192 … 12287 of the
  reference's product in its first result, and its last 64 columns, padded with zeros to 128, in its second.
-/
module

public import proofs.«01_k».proof.Defs
public import proofs.«01_k».proof.Proof.ZbaFrame
public import proofs.«01_k».proof.Proof.Gen.ProjZbaRefIdeal.Run
public import proofs.«01_k».proof.Proof.Gen.ProjZbaRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ProjZbaIdeal.RefValue

open Cert.ProjZbaIdeal Cert.ProjZbaIdeal.Gen
open Cert.ProjZbaRefIdeal.Read (val_main_v0 val_main_v1 val_main_v2 val_main_v3 val_main_v4 val_main_v5 val_main_v6 val_main_v7 val_main_v8 val_main_v9 val_main_v10 val_main_v11 val_main_v12 val_main_v13 val_main_v14 val_main_v15 val_main_v16 val_main_v17 val_main_v18 val_main_v19 val_main_v20 val_main_v21 val_main_v22 val_main_v23 val_main_v24 val_main_v25 val_main_v26 val_main_cst val_main_cst_0 val_main_cst_1 val_main_cst_2 val_main_c val_main_call0_v0)

variable (m : (ℓ : Loc nD τ sig) → Buf (Elt Ideal) ℓ) (ρ : Dev nD → PrngReg)

/-- The reference's product of the modulated norm with all the weights. -/
abbrev U (c : Dev nD) : FVec Ideal Cert.ProjZbaRefIdeal.S4x4096x12352 .f32 :=
  val_main_v23 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
/-- What the first result array is shown to hold: the reference's first result, -/
abbrev result0 (c : Dev nD) : FVec Ideal S4x4096x4096 .f32 :=
  val_main_v24 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
/-- and the second its second. -/
abbrev result1 (c : Dev nD) : FVec Ideal S4x4096x128 .f32 :=
  val_main_v26 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The arrays the host code makes of the arguments. -/
theorem V_gain (c : Dev nD) : V m c main_v4 = shapeCast S1x2048 (m ((c : Thread nD τ).loc main_arg1)) shapeCasts_S2048_S1x2048 := rfl
theorem V_shift (c : Dev nD) : V m c main_v5 = shapeCast S4x1x2048 (m ((c : Thread nD τ).loc main_arg2)) shapeCasts_S4x2048_S4x1x2048 := rfl
theorem V_scale (c : Dev nD) : V m c main_v6 = shapeCast S4x1x2048 (m ((c : Thread nD τ).loc main_arg3)) shapeCasts_S4x2048_S4x1x2048 := rfl
theorem V_weights (c : Dev nD) : V m c main_v3 = (truncf .bf16 (m ((c : Thread nD τ).loc main_arg4) : FVec Ideal S2x2048x12352 .f32) bitsLt_bf16_f32 : FVec Ideal S2x2048x12352 .bf16) := rfl
theorem V_side (c : Dev nD) : V m c main_v2 = (pad (s := S2x2048x64) S2x2048x128 ![0, 0, 0] ![0, 0, 64] ![0, 0, 0]
    (truncf .bf16 (extractStridedSlice S2x2048x64 ![0, 0, 12288] (m ((c : Thread nD τ).loc main_arg4) : FVec Ideal S2x2048x12352 .f32) slices_S2x2048x12352_S2x2048x64_0_0_12288) bitsLt_bf16_f32)
    (sitofp .bf16 (constantI S_ 32 0#32)) pads_S2x2048x64_S2x2048x128_000_000_0640 h_S_ : FVec Ideal S2x2048x128 .bf16) := rfl

/-- At an index. -/
theorem gain_at (c : Dev nD) (x : S1x2048.Idx) : V m c main_v4 x = m ((c : Thread nD τ).loc main_arg1) (ix1 (n0 := 2048) (x 1)) := by
  rw [V_gain]; pointwise []; blk_ext
theorem shift_at (c : Dev nD) (x : S4x1x2048.Idx) : V m c main_v5 x = m ((c : Thread nD τ).loc main_arg2) (ix2 (n0 := 4) (n1 := 2048) (x 0) (x 2)) := by
  rw [V_shift]; pointwise []; blk_ext
theorem scale_at (c : Dev nD) (x : S4x1x2048.Idx) : V m c main_v6 x = m ((c : Thread nD τ).loc main_arg3) (ix2 (n0 := 4) (n1 := 2048) (x 0) (x 2)) := by
  rw [V_scale]; pointwise []; blk_ext
theorem side_low (c : Dev nD) (x : S2x2048x128.Idx) (i : S2x2048x12352.Idx) (h0 : (i 0 : ℕ) = x 0) (h1 : (i 1 : ℕ) = x 1) (h2 : (i 2 : ℕ) = 12288 + x 2) (h : (x 2).val < 64) :
    V m c main_v2 x = m ((c : Thread nD τ).loc main_arg4) i := by
  rw [V_side]; pointwise []
  rw [dif_pos (by omega)]
  blk_ext
theorem side_high (c : Dev nD) (x : S2x2048x128.Idx) (h : ¬(x 2).val < 64) : V m c main_v2 x = (0 : EReal) := by
  rw [V_side]; pointwise []
  rw [dif_neg (by omega)]
  show (((0#32 : BitVec 32).toInt : ℝ) : EReal) = 0
  simp

/-- The weights a point stages: the rows of its column tile. -/
abbrev weights (c : Dev nD) (t : Fin cfg0.N) : FVec Ideal S1x2048x1024 .bf16 := fun x =>
  V m c main_v3 (ix3 (n0 := 2) (n1 := 2048) (n2 := 12352) 0 (x 1) ⟨(8 + t.val % 4) * 1024 + (x 2).val, by have : (x 2).val < 1024 := (x 2).isLt; omega⟩)
/-- It is the contents of the staged block. -/
theorem weights_at (c : Dev nD) (t : Fin cfg0.N) : X0_4 m c t = weights m c t := by
  funext x
  unfold X0_4 Pipeline.Window.fill
  rw [dif_pos (moved0_4 t x)]
  blk_ext [iblk, weights, idx t]

/-- The product of a point, at an index of its tile: the reference's product at the array index. -/
theorem prod_at (c : Dev nD) (t : Fin cfg0.N) (y : S1x1024x1024.Idx) (i : Cert.ProjZbaRefIdeal.S4x4096x12352.Idx)
    (hi0 : (i 0 : ℕ) = t.val / 16) (hi1 : (i 1 : ℕ) = t.val / 4 % 4 * 1024 + y 1) (hi2 : (i 2 : ℕ) = (8 + t.val % 4) * 1024 + y 2) :
    k0_pay2 (normed m c t) (weights m c t) y = U m c i := by
  pointwise [k0_pay3, k0_pay2, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, dot_S1024x2048_S2048x1024_S1024x1024_1_0_0_1_n_n]
  simp only [← mul_assoc]
  blk_point [iblk, weights, gain_at, shift_at, scale_at, V_weights, V_main_arg0, idx t]
  · exact (gain_at m c _).trans (by blk_ext [idx t])
  · exact (scale_at m c _).trans (by blk_ext [idx t])
  · exact (shift_at m c _).trans (by blk_ext [idx t])

/-- So the first result array ends holding the reference's value: the blocks tile it. -/
theorem final0 (c : Dev nD) : (dats m 0 c).arrAt 6 (cfgs 0).N = result0 m c := by
  refine (dats m 0 c).arrAt_eq_of_covers 6 _ (by decide +kernel) fun t _ y => ?_
  blk_simp
  rw [after0_6, weights_at m c t]
  refine (prod_at m c t y _ ?_ ?_ ?_).trans (Cert.ProjZbaRefIdeal.Read.val_main_v24_apply (F := Ideal) _ _ _ _ _ _).symm
  · show (((win0_6.blk t).view.emb y 0 : Fin _) : ℕ) = _
    blk_simp [idx t] <;> try omega
  · show (((win0_6.blk t).view.emb y 1 : Fin _) : ℕ) = _
    blk_simp [idx t] <;> try omega
  · show 8192 + (((win0_6.blk t).view.emb y 2 : Fin _) : ℕ) = _
    blk_simp [idx t] <;> try omega

/-- The side product of a point, in its first 64 columns: the reference's product in its last 64, -/
theorem side_prod (c : Dev nD) (t : Fin cfg0.N) (y : S1x1024x128.Idx) (i : Cert.ProjZbaRefIdeal.S4x4096x12352.Idx)
    (hi0 : (i 0 : ℕ) = t.val / 16) (hi1 : (i 1 : ℕ) = t.val / 4 % 4 * 1024 + y 1) (hi2 : (i 2 : ℕ) = 12288 + y 2) (hy : (y 2).val < 64) :
    side m c t y = U m c i := by
  unfold side
  pointwise [k0_pay3, k0_pay4, k0_pay1, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, dot_S1024x2048_S2048x128_S1024x128_1_0_0_1_n_n]
  simp only [← mul_assoc]
  blk_point [iblk, gain_at, shift_at, scale_at, V_main_arg0, idx t]
  · exact (gain_at m c _).trans (by blk_ext [idx t])
  · exact (scale_at m c _).trans (by blk_ext [idx t])
  · exact (shift_at m c _).trans (by blk_ext [idx t])
  · refine side_low m c _ _ ?_ ?_ ?_ ?_
    · blk_simp [idx t]; rfl
    all_goals (blk_simp [idx t] <;> try omega)

/-- and zero in the others. -/
theorem side_zero (c : Dev nD) (t : Fin cfg0.N) (y : S1x1024x128.Idx) (hy : ¬(y 2).val < 64) : side m c t y = (0 : EReal) := by
  unfold side
  generalize normed m c t = N
  pointwise [k0_pay4, k0_pay1, dot_S1024x2048_S2048x128_S1024x128_1_0_0_1_n_n]
  refine Finset.sum_eq_zero fun k _ => ?_
  rw [show iblk m c 5 t _ = (0 : EReal) from side_high m c _ (by blk_simp [idx t] <;> omega)]
  exact mul_zero _

/-- The reference's second result at an index. -/
theorem ref_low (c : Dev nD) (j : S4x4096x128.Idx) (i : Cert.ProjZbaRefIdeal.S4x4096x12352.Idx) (h0 : (i 0 : ℕ) = j 0) (h1 : (i 1 : ℕ) = j 1) (h2 : (i 2 : ℕ) = 12288 + j 2)
    (hj : (j 2).val < 64) : result1 m c j = U m c i := by
  pointwise [val_main_v26, val_main_c, val_main_call0_v0]
  rw [dif_pos (by omega)]
  refine (Cert.ProjZbaRefIdeal.Read.val_main_v25_apply (F := Ideal) _ _ _ _ _ _).trans (congrArg (U m c) ?_)
  blk_ext
theorem ref_high (c : Dev nD) (j : S4x4096x128.Idx) (hj : ¬(j 2).val < 64) : result1 m c j = (0 : EReal) := by
  pointwise [val_main_v26, val_main_c, val_main_call0_v0]
  rw [dif_neg (by omega)]
  show (((0#32 : BitVec 32).toInt : ℝ) : EReal) = 0
  simp

/-- A point's side product, at an index, is the reference's second result at the array index. -/
theorem side_at (c : Dev nD) (t : Fin cfg0.N) (y : S1x1024x128.Idx) (j : S4x4096x128.Idx)
    (hj0 : (j 0 : ℕ) = t.val / 16) (hj1 : (j 1 : ℕ) = t.val / 4 % 4 * 1024 + y 1) (hj2 : (j 2 : ℕ) = y 2) :
    side m c t y = result1 m c j := by
  have b : (j 2).val < 128 := (j 2).isLt
  have hN := lt_of_lt_of_eq t.isLt (show cfg0.N = 64 from N_0)
  by_cases h : (y 2).val < 64
  · obtain_idx i : Cert.ProjZbaRefIdeal.S4x4096x12352 := [(j 0 : ℕ), (j 1 : ℕ), 12288 + (j 2 : ℕ)] with hi
    exact (side_prod m c t y i (by omega) (by omega) (by omega) h).trans (ref_low m c j i (by omega) (by omega) (by omega) (by omega)).symm
  · exact (side_zero m c t y h).trans (ref_high m c j (by omega)).symm

/-- So the second result array ends holding the reference's second value. -/
theorem final1 (c : Dev nD) : (dats m 0 c).arrAt 7 (cfgs 0).N = result1 m c := by
  refine (dats m 0 c).arrAt_eq_of_covers 7 _ (by decide +kernel) fun t _ y => ?_
  blk_simp
  rw [after0_7]
  refine side_at m c t y _ ?_ ?_ ?_
  all_goals (blk_simp [idx t] <;> try omega)

end Cert.ProjZbaIdeal.RefValue

namespace Cert.Proof

/-- The kernel and the reference end with the same two result arrays whenever their arguments agree. -/
theorem projZba_algebraic : Cert.algebraic_ProjZbaIdeal_ProjZbaRefIdeal := by
  intro m ρ m' ρ' _ hagree
  refine ⟨fun c => Cert.ProjZbaIdeal.RefValue.result0 m c, fun c => Cert.ProjZbaIdeal.RefValue.result1 m c, ?_, ?_⟩
  · exact (θ_run Cert.ProjZbaIdeal.defs _ _).mono
      (fun _ h c => ⟨((h.2 c).1 6).trans (Cert.ProjZbaIdeal.RefValue.final0 m c), ((h.2 c).1 7).trans (Cert.ProjZbaIdeal.RefValue.final1 m c), h.1.1 c⟩)
      (θ_run_and (Cert.ProjZbaIdeal.Gen.frame (F := Ideal) m ρ) (Cert.ProjZbaIdeal.Gen.run_main (F := Ideal) m ρ))
  · refine (θ_run Cert.ProjZbaRefIdeal.defs _ _).mono (fun _ h c => ⟨(h c).1.trans ?_, (h c).2.1.trans ?_, (h c).2.2⟩)
      (Cert.ProjZbaRefIdeal.Value.run (F := Ideal) m' ρ')
    · rw [Cert.ProjZbaRefIdeal.Read.val_main_v24_eq]
      show Cert.ProjZbaRefIdeal.Read.val_main_v24 (F := Ideal) (m' ((c.tc : Thread Cert.ProjZbaRefIdeal.nD Cert.ProjZbaRefIdeal.τ).loc Cert.ProjZbaRefIdeal.main_arg0)) (m' ((c.tc : Thread Cert.ProjZbaRefIdeal.nD Cert.ProjZbaRefIdeal.τ).loc Cert.ProjZbaRefIdeal.main_arg1)) (m' ((c.tc : Thread Cert.ProjZbaRefIdeal.nD Cert.ProjZbaRefIdeal.τ).loc Cert.ProjZbaRefIdeal.main_arg2)) (m' ((c.tc : Thread Cert.ProjZbaRefIdeal.nD Cert.ProjZbaRefIdeal.τ).loc Cert.ProjZbaRefIdeal.main_arg3)) (m' ((c.tc : Thread Cert.ProjZbaRefIdeal.nD Cert.ProjZbaRefIdeal.τ).loc Cert.ProjZbaRefIdeal.main_arg4)) = _
      rw [(hagree c).1, (hagree c).2.1, (hagree c).2.2.1, (hagree c).2.2.2.1, (hagree c).2.2.2.2]
    · rw [Cert.ProjZbaRefIdeal.Read.val_main_v26_eq]
      show Cert.ProjZbaRefIdeal.Read.val_main_v26 (F := Ideal) (m' ((c.tc : Thread Cert.ProjZbaRefIdeal.nD Cert.ProjZbaRefIdeal.τ).loc Cert.ProjZbaRefIdeal.main_arg0)) (m' ((c.tc : Thread Cert.ProjZbaRefIdeal.nD Cert.ProjZbaRefIdeal.τ).loc Cert.ProjZbaRefIdeal.main_arg1)) (m' ((c.tc : Thread Cert.ProjZbaRefIdeal.nD Cert.ProjZbaRefIdeal.τ).loc Cert.ProjZbaRefIdeal.main_arg2)) (m' ((c.tc : Thread Cert.ProjZbaRefIdeal.nD Cert.ProjZbaRefIdeal.τ).loc Cert.ProjZbaRefIdeal.main_arg3)) (m' ((c.tc : Thread Cert.ProjZbaRefIdeal.nD Cert.ProjZbaRefIdeal.τ).loc Cert.ProjZbaRefIdeal.main_arg4)) = _
      rw [(hagree c).1, (hagree c).2.1, (hagree c).2.2.1, (hagree c).2.2.2.1, (hagree c).2.2.2.2]

end Cert.Proof

end
-- ==== Proof.UnpRuns.lean ====
/-
  The move of the rows back out of the order of the attention tiles: what its body does to a tile, stated of the vectors its
  buffers hold. The body copies sixteen runs of 128 rows, run `r` to the rows `r, r + 16, r + 32, …`.
-/
module

public import proofs.«01_k».proof.Proof.Gen.UnpermuteIdeal.Frame
public import proofs.«01_k».proof.Proof.Gen.UnpermuteIdeal.Skeleton
public import Idealize.ShloMosaic.Lib.VecWindow
public import Idealize.ShloMosaic.Lib.CellWrites
public import Idealize.ShloMosaic.Lib.Pipeline.ValueKit

@[expose] public section

set_option maxRecDepth 16384

noncomputable section

namespace Cert.UnpermuteIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the body's assertions speak of. -/
abbrev Res (F : FTy → Type) [FloatOps F] := MT nD τ sig Unit (Elt F) ℕ (UR sig nD τ) ℕ

/-- The row a row of the moved tile comes from: row `16 q + r` from row `128 r + q`. -/
theorem src_lt (n : ℕ) (h : n < 2048) : n % 16 * 128 + n / 16 < 2048 := by omega

/-- The tile with its rows moved. -/
def moved (x : Vec F S1x2048x128 .f32) : Vec F S1x2048x128 .f32 := fun j =>
  x (ix3 (j 0) ⟨(j 1).val % 16 * 128 + (j 1).val / 16, src_lt _ (j 1).isLt⟩ (j 2))

/-- What a stored run holds: its rows, read off the tile, are the moved tile's at the rows the store puts them. -/
theorem run_at (arg3 : Memref sig .tc .vmem S1x2048x128 .f32) (harg3 : arg3.IsWhole) (x : Vec F S1x2048x128 .f32) (r o : ℕ) (ho : o = r * 128) (hr : r < 16)
    (i1 : ∀ a, ![0, o, 0] a + S1x128x128.size a ≤ S1x2048x128.size a)
    (i2 : ∀ a : Fin 3, S1x128x128.size a = 0 ∨ ![0, r, 0] a + ![1, 16, 1] a * (S1x128x128.size a - 1) < S1x2048x128.size a) (i3 : ∀ a, 0 < ![1, 16, 1] a) (k : S1x128x128.Idx) :
    k0_pay3 (View.readAt (Elt F) arg3.view (Rect.unit (s := S1x2048x128) ![0, o, 0] S1x128x128.size i1).toLoadRect (harg3.unread x)) k
      = moved x ((⟨⟨![0, r, 0], S1x128x128.size, ![1, 16, 1], i2⟩, i3⟩ : Rect S1x2048x128).emb k) := by
  have hk0 : (k 0).val < 1 := (k 0).isLt
  have hk1 : (k 1).val < 128 := (k 1).isLt
  have e : k0_pay3 (View.readAt (Elt F) arg3.view (Rect.unit (s := S1x2048x128) ![0, o, 0] S1x128x128.size i1).toLoadRect (harg3.unread x)) k
      = x ((Rect.unit (s := S1x2048x128) ![0, o, 0] S1x128x128.size i1).emb k) := by
    pointwise [k0_pay3]
    rw [View.readAt_apply, harg3.read_unread]
    rfl
  rw [e]; unfold moved
  congr 1; funext a; apply Fin.ext
  fin_cases a
  · show 0 + 1 * (k 0).val = 0 + 1 * (k 0).val
    rfl
  · show o + 1 * (k 1).val = (r + 16 * (k 1).val) % 16 * 128 + (r + 16 * (k 1).val) / 16
    omega
  · show 0 + 1 * (k 2).val = 0 + 1 * (k 2).val
    rfl

/-- One more run stored: if the rows of the runs before `r` are the moved tile's, so are those of the runs before `r + 1`. -/
theorem run_step (arg4 : Memref sig .tc .vmem S1x2048x128 .f32) (f : BufTy.Contents (Elt F) arg4.view.ty) (x : Vec F S1x2048x128 .f32) (r : ℕ) (hr : r < 16)
    (i2 : ∀ a : Fin 3, S1x128x128.size a = 0 ∨ ![0, r, 0] a + ![1, 16, 1] a * (S1x128x128.size a - 1) < S1x2048x128.size a) (i3 : ∀ a, 0 < ![1, 16, 1] a) (v : Vec F S1x128x128 .f32) (L)
    (hv : ∀ k, v k = moved x ((⟨⟨![0, r, 0], S1x128x128.size, ![1, 16, 1], i2⟩, i3⟩ : Rect S1x2048x128).emb k))
    (hL : ∀ y : S1x2048x128.Idx, (y 1).val % 16 < r → View.read (Elt F) arg4.view (arg4.view.writes (Elt F) f L) y = moved x y) :
    ∀ y : S1x2048x128.Idx, (y 1).val % 16 < r + 1 →
      View.read (Elt F) arg4.view (arg4.view.writes (Elt F) f (⟨⟨⟨![0, r, 0], S1x128x128.size, ![1, 16, 1], i2⟩, i3⟩, v⟩ :: L)) y = moved x y := by
  intro y hy
  by_cases h : (y 1).val % 16 = r
  · have hy0 : (y 0).val < 1 := (y 0).isLt
    have hy1 : (y 1).val < 2048 := (y 1).isLt
    obtain ⟨k, rfl⟩ : ∃ k, (⟨⟨![0, r, 0], S1x128x128.size, ![1, 16, 1], i2⟩, i3⟩ : Rect S1x2048x128).emb k = y := by
      refine ⟨ix3 (y 0) ⟨(y 1).val / 16, by show _ < 128; omega⟩ (y 2), ?_⟩
      funext a; apply Fin.ext
      fin_cases a
      · show 0 + 1 * (y 0).val = (y 0).val
        omega
      · show r + 16 * ((y 1).val / 16) = (y 1).val
        omega
      · show 0 + 1 * (y 2).val = (y 2).val
        omega
    rw [View.read_writes_cons_emb]
    exact hv k
  · have hn : y ∉ Finset.univ.map (⟨⟨![0, r, 0], S1x128x128.size, ![1, 16, 1], i2⟩, i3⟩ : Rect S1x2048x128).emb := by
      rw [Finset.mem_map]
      rintro ⟨k, -, rfl⟩
      refine h ?_
      show (r + 16 * (k 1).val) % 16 = r
      omega
    rw [View.writes_cons, View.read_slice_write_of_not_mem _ _ _ _ hn]
    exact hL y (by omega)

set_option maxHeartbeats 3200000 in
/-- The body on a tile: the result's buffer ends at the tile with its rows moved, whatever it held. -/
theorem runU (c : Dev nD) (i : grid0.Coords) (arg3 : Memref sig .tc .vmem S1x2048x128 .f32) (harg3 : arg3.IsWhole) (arg4 : Memref sig .tc .vmem S1x2048x128 .f32) (harg4 : arg4.IsWhole)
    (x0 : Vec F S1x2048x128 .f32) (E : Set ℕ) (K : PUnit → sProp (Res F)) :
    iprop(owns (c : Thread nD τ) arg3 fullShare x0 ∗ (∃ d, owns (c : Thread nD τ) arg4 fullShare d)
        ∗ (iprop(owns (c : Thread nD τ) arg3 fullShare x0 ∗ owns (c : Thread nD τ) arg4 fullShare (moved x0)) -∗ K ⟨⟩))
      ⊢ wp frame (wpE (defs₀ (F := F)) Variants.none c none) E (cc0_unpermute_rows i arg3 harg3 arg4 harg4) K := by
  simp only [cc0_unpermute_rows_eq_skeleton]; unfold cc0_unpermute_rows_skel
  simp only [k0_part1_eq_skeleton, k0_part2_eq_skeleton, k0_part3_eq_skeleton]; unfold k0_part1_skel k0_part2_skel k0_part3_skel
  unfold owns
  iintro ⟨⟨%f0, %hf0, H0⟩, ⟨%d1, %f1, -, H1⟩, Hk⟩
  obtain rfl := harg3.eq_unread hf0
  sl_exec
  sl_step
  iapply Hk
  isplitl [H0]
  · iexists _; isplitr; · ipureintro; exact harg3.read_unread _
    iexact H0
  iexists _; isplitr; swap; · iexact H1
  ipureintro
  funext y
  exact (run_step arg4 f1 x0 15 (by decide) inb_S1x2048x128_S1x128x128_0_15_0_s_1_16_1 spos_1_16_1 _ _ (run_at arg3 harg3 x0 15 1920 rfl (by decide) inb_S1x2048x128_S1x128x128_0_1920_0 _ _)
    (run_step arg4 f1 x0 14 (by decide) inb_S1x2048x128_S1x128x128_0_14_0_s_1_16_1 spos_1_16_1 _ _ (run_at arg3 harg3 x0 14 1792 rfl (by decide) inb_S1x2048x128_S1x128x128_0_1792_0 _ _)
    (run_step arg4 f1 x0 13 (by decide) inb_S1x2048x128_S1x128x128_0_13_0_s_1_16_1 spos_1_16_1 _ _ (run_at arg3 harg3 x0 13 1664 rfl (by decide) inb_S1x2048x128_S1x128x128_0_1664_0 _ _)
    (run_step arg4 f1 x0 12 (by decide) inb_S1x2048x128_S1x128x128_0_12_0_s_1_16_1 spos_1_16_1 _ _ (run_at arg3 harg3 x0 12 1536 rfl (by decide) inb_S1x2048x128_S1x128x128_0_1536_0 _ _)
    (run_step arg4 f1 x0 11 (by decide) inb_S1x2048x128_S1x128x128_0_11_0_s_1_16_1 spos_1_16_1 _ _ (run_at arg3 harg3 x0 11 1408 rfl (by decide) inb_S1x2048x128_S1x128x128_0_1408_0 _ _)
    (run_step arg4 f1 x0 10 (by decide) inb_S1x2048x128_S1x128x128_0_10_0_s_1_16_1 spos_1_16_1 _ _ (run_at arg3 harg3 x0 10 1280 rfl (by decide) inb_S1x2048x128_S1x128x128_0_1280_0 _ _)
    (run_step arg4 f1 x0 9 (by decide) inb_S1x2048x128_S1x128x128_0_9_0_s_1_16_1 spos_1_16_1 _ _ (run_at arg3 harg3 x0 9 1152 rfl (by decide) inb_S1x2048x128_S1x128x128_0_1152_0 _ _)
    (run_step arg4 f1 x0 8 (by decide) inb_S1x2048x128_S1x128x128_0_8_0_s_1_16_1 spos_1_16_1 _ _ (run_at arg3 harg3 x0 8 1024 rfl (by decide) inb_S1x2048x128_S1x128x128_0_1024_0 _ _)
    (run_step arg4 f1 x0 7 (by decide) inb_S1x2048x128_S1x128x128_0_7_0_s_1_16_1 spos_1_16_1 _ _ (run_at arg3 harg3 x0 7 896 rfl (by decide) inb_S1x2048x128_S1x128x128_0_896_0 _ _)
    (run_step arg4 f1 x0 6 (by decide) inb_S1x2048x128_S1x128x128_0_6_0_s_1_16_1 spos_1_16_1 _ _ (run_at arg3 harg3 x0 6 768 rfl (by decide) inb_S1x2048x128_S1x128x128_0_768_0 _ _)
    (run_step arg4 f1 x0 5 (by decide) inb_S1x2048x128_S1x128x128_0_5_0_s_1_16_1 spos_1_16_1 _ _ (run_at arg3 harg3 x0 5 640 rfl (by decide) inb_S1x2048x128_S1x128x128_0_640_0 _ _)
    (run_step arg4 f1 x0 4 (by decide) inb_S1x2048x128_S1x128x128_0_4_0_s_1_16_1 spos_1_16_1 _ _ (run_at arg3 harg3 x0 4 512 rfl (by decide) inb_S1x2048x128_S1x128x128_0_512_0 _ _)
    (run_step arg4 f1 x0 3 (by decide) inb_S1x2048x128_S1x128x128_0_3_0_s_1_16_1 spos_1_16_1 _ _ (run_at arg3 harg3 x0 3 384 rfl (by decide) inb_S1x2048x128_S1x128x128_0_384_0 _ _)
    (run_step arg4 f1 x0 2 (by decide) inb_S1x2048x128_S1x128x128_0_2_0_s_1_16_1 spos_1_16_1 _ _ (run_at arg3 harg3 x0 2 256 rfl (by decide) inb_S1x2048x128_S1x128x128_0_256_0 _ _)
    (run_step arg4 f1 x0 1 (by decide) inb_S1x2048x128_S1x128x128_0_1_0_s_1_16_1 spos_1_16_1 _ _ (run_at arg3 harg3 x0 1 128 rfl (by decide) inb_S1x2048x128_S1x128x128_0_128_0 _ _)
    (run_step arg4 f1 x0 0 (by decide) inb_S1x2048x128_S1x128x128_0_0_0_s_1_16_1 spos_1_16_1 _ _ (run_at arg3 harg3 x0 0 0 rfl (by decide) inb_S1x2048x128_S1x128x128_0_0_0 _ _)
    (fun y h => absurd h (Nat.not_lt_zero _)))))))))))))))))) y (Nat.mod_lt _ (by decide))

end Cert.UnpermuteIdeal.Gen

end
-- ==== Proof.UnpFrame.lean ====
/-
  The move of the rows back out of the order of the attention tiles: the body at every point of the grid, the run and the frame.
-/
module

public import proofs.«01_k».proof.Proof.UnpRuns
public import Idealize.ShloMosaic.Lib.Pipeline.ValueKit
public import Idealize.ShloMosaic.Lib.Claim

@[expose] public section

set_option maxRecDepth 16384

noncomputable section

namespace Cert.UnpermuteIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers at a point -/

abbrev ms0_0 (t : Fin cfg0.N) : Memref sig .tc .vmem S1x2048x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .f32 := win0_1.stage (cfg0.slots t 1)
abbrev hs0_1 (t : Fin cfg0.N) : (ms0_1 t).IsWhole := hstage0_1 ((cfg0.slots t 1).cast nbuf0_1)

/-! ## The proof data -/

/-- The arrays as the region finds them; after the body at point `t` the input's buffer at its block, the result's at the block
    with its rows moved. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => moved (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = moved (iblk m c 0 t) := by dsimp only [dats]
theorem before0_0 (c : Dev nD) (t : Fin cfg0.N) (d) : (dats m 0 c).before 0 t d = iblk m c 0 t :=
  before0_0_of m (dats m 0 c) (A_eq m c 0) (after0_0 m c) t d
theorem live0_0 : ∀ t : Fin cfg0.N, cfg0.idle 0 (cfg0.grid.coords t) = false := fun _ => rfl
theorem live0_1 : ∀ t : Fin cfg0.N, cfg0.idle 1 (cfg0.grid.coords t) = false := fun _ => rfl

/-! ## The body at a point -/

/-- What the body is called with at point `t`, -/
def bodyPre (c : Dev nD) (t : Fin cfg0.N) : sProp (Res F) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))
/-- and what it returns. -/
def bodyPost (c : Dev nD) (t : Fin cfg0.N) : sProp (Res F) :=
  iprop((dats m 0 c).Φ t.succ ∗ (dats m 0 c).owesAt () t.succ
    ∗ (dats m 0 c).leavesExact 0 t
    ∗ (dats m 0 c).leavesExact 1 t)

/-- Both buffers are left at the proof data's contents. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl,
    show (dats m 0 c).Φ t.succ = (dats m 0 c).Φ t.castSucc from rfl,
    leaves_live m c 0 t (live0_0 t), leaves_live m c 1 t (live0_1 t), after0_0, after0_1]
  iintro ⟨Hp, Ho, ⟨%d0, H0⟩, ⟨%d1, H1⟩⟩
  iapply (runU (F := F) c (grid0.coords t) (ms0_0 t) (hs0_0 t) (ms0_1 t) (hs0_1 t) (iblk m c 0 t) Set.univ _)
  isplitl [H0]; · iexact H0
  isplitl [H1]; · iexists _; iexact H1
  iintro ⟨H0, H1⟩
  isplitl [Hp]; · iexact Hp
  isplitl [Ho]; · iexact Ho
  isplitl [H0]; · iexact H0
  iexact H1

theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
theorem hin (c : Dev nD) : Pipeline.ΦA spec0 c ⊢ (dats m 0 c).Φ 0 := Idealize.SL.BI.Entails.refl _
theorem hout (c : Dev nD) : (dats m 0 c).Φ (Fin.last cfg0.N) ⊢ Pipeline.ΦA spec0 c := Idealize.SL.BI.Entails.refl _

/-! ## The run and the frame -/

set_option backward.isDefEq.respectTransparency.types false in
/-- Every fair execution from zero counters ends with the pipeline's arrays at what the proof data give, and with zero counters. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)
theorem run_main : θ_run defs (onTc (τ := τ) (main (F := F))) (s₀ m ρ) (Pipeline.FramePost cfgs (dats m) 0 (V m)) :=
  (θ_run defs _ _).mono (fun _ h => h.1) (run_main_quiescent m ρ)
/-- The frame: the argument array ends unchanged and the counters at zero. -/
theorem frame : θ_run defs (onTc (τ := τ) (main (F := F))) ⟨m, fun _ => 0, ρ⟩ (fun r => (∀ c : Dev nD, r.2.mem ((c.tc : Thread nD τ).loc main_arg0) = m ((c.tc : Thread nD τ).loc main_arg0)) ∧ r.2.sem = fun _ => 0) :=
  θ_run_and (frame_of m ρ (dats m) (A_eq m) (run_main m ρ)) ((θ_run defs _ _).mono (fun _ h => h.2) (run_main_quiescent m ρ))

end Cert.UnpermuteIdeal.Gen

end
-- ==== Proof.UnpValue.lean ====
/-
  THE VALUE of the move of the rows out of the order of the attention tiles: a tile's row `16 q + r` is the row `128 r + q` of the
  tile read, which is what reshaping the rows to (tile, 16, 128), exchanging the last two and reshaping back gives.
-/
module

public import proofs.«01_k».proof.Defs
public import proofs.«01_k».proof.Proof.UnpFrame
public import proofs.«01_k».proof.Proof.Gen.UnpermuteRefIdeal.Run
public import proofs.«01_k».proof.Proof.Gen.UnpermuteRefIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.UnpermuteIdeal.RefValue

open Cert.UnpermuteIdeal Cert.UnpermuteIdeal.Gen
open Cert.UnpermuteRefIdeal.Read (val_main_v0 val_main_v1 val_main_v2)

variable (m : (ℓ : Loc nD τ sig) → Buf (Elt Ideal) ℓ) (ρ : Dev nD → PrngReg)

/-- What the result array is shown to hold: the reference's value of the argument array. -/
abbrev result (c : Dev nD) : FVec Ideal S4x4096x2048 .f32 :=
  val_main_v2 (F := Ideal) (m ((c : Thread nD τ).loc main_arg0))

/-- The block both windows take at a grid point, decided over the points. -/
theorem idx : ∀ t : Fin cfg0.N, win0_0.index t = ![t.val / 32, t.val / 16 % 2, t.val % 16]
    ∧ win0_1.index t = ![t.val / 32, t.val / 16 % 2, t.val % 16] :=
  (by decide +kernel : ∀ t : Fin grid0.N, _)

/-- The reference at an index: the argument at the row it names. -/
theorem ref_at (x : FVec Ideal S4x4096x2048 .f32) (i j : S4x4096x2048.Idx)
    (h0 : (j 0 : ℕ) = i 0) (h1 : (j 1 : ℕ) = (i 1).val / 2048 * 2048 + (i 1).val % 16 * 128 + (i 1).val % 2048 / 16) (h2 : (j 2 : ℕ) = i 2) :
    val_main_v2 (F := Ideal) x i = x j := by
  have b0 : (i 0).val < 4 := (i 0).isLt
  have b1 : (i 1).val < 4096 := (i 1).isLt
  have b2 : (i 2).val < 2048 := (i 2).isLt
  pointwise [val_main_v0, val_main_v1, val_main_v2]
  blk_ext
  have hd := Nat.div_div_eq_div_mul (i 1).val 16 128
  omega

/-- What the body leaves at an index of its block is the reference at the array index the block's element sits at. -/
theorem point (c : Dev nD) (t : Fin cfg0.N) (y) :
    moved (iblk m c 0 t) y = result m c (((cfg0.win 1).blk t).view.emb y) := by
  have hN := lt_of_lt_of_eq t.isLt (show cfg0.N = 128 from N_0)
  have b1 : (y 1).val < 2048 := (y 1).isLt
  unfold moved
  refine Eq.trans ?_ (ref_at _ _ (((cfg0.win 0).blk t).view.emb (ix3 (y 0) ⟨(y 1).val % 16 * 128 + (y 1).val / 16, src_lt _ (y 1).isLt⟩ (y 2))) ?_ ?_ ?_).symm
  · rfl
  · blk_simp [idx t]
  · blk_simp [idx t]
    show t.val / 16 % 2 * 2048 + ((y 1).val % 16 * 128 + (y 1).val / 16) = _
    omega
  · blk_simp [idx t]

/-- So the result array ends holding the reference's value: the blocks tile it. -/
theorem final (c : Dev nD) : (dats m 0 c).arrAt 1 (cfgs 0).N = result m c := by
  refine (dats m 0 c).arrAt_eq_of_covers 1 _ (by decide +kernel) fun t _ y => ?_
  blk_simp
  rw [after0_1]
  exact point m c t y

end Cert.UnpermuteIdeal.RefValue

namespace Cert.Proof

/-- The kernel and the reference end with the same result array whenever their arguments agree. -/
theorem unpermute_algebraic : Cert.algebraic_UnpermuteIdeal_UnpermuteRefIdeal := by
  intro m ρ m' ρ' _ hagree
  refine ⟨fun c => Cert.UnpermuteIdeal.RefValue.result m c, ?_, ?_⟩
  · exact (θ_run Cert.UnpermuteIdeal.defs _ _).mono
      (fun _ h c => ⟨((h.2 c).1 1).trans (Cert.UnpermuteIdeal.RefValue.final m c), h.1.1 c⟩)
      (θ_run_and (Cert.UnpermuteIdeal.Gen.frame (F := Ideal) m ρ) (Cert.UnpermuteIdeal.Gen.run_main (F := Ideal) m ρ))
  · refine (θ_run Cert.UnpermuteRefIdeal.defs _ _).mono (fun _ h c => ⟨(h c).1.trans ?_, (h c).2⟩)
      (Cert.UnpermuteRefIdeal.Value.run (F := Ideal) m' ρ')
    rw [Cert.UnpermuteRefIdeal.Read.val_main_v2_eq, hagree c]

end Cert.Proof

end
-- ==== Proof.PermValue.lean ====
/-
  THE VALUE of the move of the rows into the order of the attention tiles: a tile's row `128 r + q` is the row `16 q + r` of the
  tile read, which is what reshaping the rows to (tile, 128, 16), exchanging the last two and reshaping back gives. The body
  copies sixteen runs of 128 rows; the runs it stores tile the result's buffer.
-/
module

public import proofs.«01_k».proof.Defs
public import proofs.«01_k».proof.Proof.Gen.PermuteIdeal.Frame
public import proofs.«01_k».proof.Proof.Gen.PermuteRefIdeal.Run
public import proofs.«01_k».proof.Proof.Gen.PermuteRefIdeal.Read
public import Idealize.ShloMosaic.Lib.CellWrites
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.PermuteIdeal.RefValue

open Cert.PermuteIdeal Cert.PermuteIdeal.Gen
open Cert.PermuteRefIdeal.Read (val_main_v0 val_main_v1 val_main_v2)

variable (m : (ℓ : Loc nD τ sig) → Buf (Elt Ideal) ℓ) (ρ : Dev nD → PrngReg)

/-- What the result array is shown to hold: the reference's value of the argument array. -/
abbrev result (c : Dev nD) : FVec Ideal S4x4096x2048 .f32 :=
  val_main_v2 (F := Ideal) (m ((c : Thread nD τ).loc main_arg0))

/-- The block both windows take at a grid point, decided over the points. -/
theorem idx : ∀ t : Fin cfg0.N, win0_0.index t = ![t.val / 32, t.val / 16 % 2, t.val % 16]
    ∧ win0_1.index t = ![t.val / 32, t.val / 16 % 2, t.val % 16] :=
  (by decide +kernel : ∀ t : Fin grid0.N, _)

/-- The reference at an index: the argument at the row it names. -/
theorem ref_at (x : FVec Ideal S4x4096x2048 .f32) (i j : S4x4096x2048.Idx)
    (h0 : (j 0 : ℕ) = i 0) (h1 : (j 1 : ℕ) = (i 1).val / 2048 * 2048 + (i 1).val % 128 * 16 + (i 1).val % 2048 / 128) (h2 : (j 2 : ℕ) = i 2) :
    val_main_v2 (F := Ideal) x i = x j := by
  have b0 : (i 0).val < 4 := (i 0).isLt
  have b1 : (i 1).val < 4096 := (i 1).isLt
  have b2 : (i 2).val < 2048 := (i 2).isLt
  pointwise [val_main_v0, val_main_v1, val_main_v2]
  blk_ext
  have hd := Nat.div_div_eq_div_mul (i 1).val 128 16
  omega

/-- The row a row of the moved tile comes from: row `128 r + q` from row `16 q + r`. -/
theorem src_lt (n : ℕ) (h : n < 2048) : n % 128 * 16 + n / 128 < 2048 := by omega

/-- The tile with its rows moved. -/
def moved (x : FVec Ideal S1x2048x128 .f32) : FVec Ideal S1x2048x128 .f32 := fun j =>
  x (ix3 (j 0) ⟨(j 1).val % 128 * 16 + (j 1).val / 128, src_lt _ (j 1).isLt⟩ (j 2))

/-- What a stored run holds: the rows it reads off the tile are the moved tile's at the rows the store puts them. -/
theorem run_at (arg3 : Memref sig .tc .vmem S1x2048x128 .f32) (harg3 : arg3.IsWhole) (x : FVec Ideal S1x2048x128 .f32) (r o : ℕ) (ho : o = r * 128) (hr : r < 16)
    (i1 : ∀ a : Fin 3, S1x128x128.size a = 0 ∨ ![0, r, 0] a + ![1, 16, 1] a * (S1x128x128.size a - 1) < S1x2048x128.size a)
    (i2 : ∀ a, ![0, o, 0] a + S1x128x128.size a ≤ S1x2048x128.size a) (k : S1x128x128.Idx) :
    k0_pay3 (F := Ideal) (View.readAt (Elt Ideal) arg3.view (⟨![0, r, 0], S1x128x128.size, ![1, 16, 1], i1⟩ : LoadRect S1x2048x128) (harg3.unread x)) k
      = moved x ((Rect.unit (s := S1x2048x128) ![0, o, 0] S1x128x128.size i2).emb k) := by
  have hk0 : (k 0).val < 1 := (k 0).isLt
  have hk1 : (k 1).val < 128 := (k 1).isLt
  have e : k0_pay3 (F := Ideal) (View.readAt (Elt Ideal) arg3.view (⟨![0, r, 0], S1x128x128.size, ![1, 16, 1], i1⟩ : LoadRect S1x2048x128) (harg3.unread x)) k
      = x ((⟨![0, r, 0], S1x128x128.size, ![1, 16, 1], i1⟩ : LoadRect S1x2048x128).idx k) := by
    pointwise [k0_pay3]
    rw [View.readAt_apply, harg3.read_unread]
    congr 1; funext a; apply Fin.ext
    fin_cases a
    · show 0 + 1 * (k 0).val = 0
      omega
    · show r + 16 * (k 1).val = r + 16 * (k 1).val
      rfl
    · show 0 + 1 * (k 2).val = (k 2).val
      omega
  rw [e]; unfold moved
  congr 1; funext a; apply Fin.ext
  fin_cases a
  · show 0 + 1 * (k 0).val = 0 + 1 * (k 0).val
    rfl
  · show r + 16 * (k 1).val = (o + 1 * (k 1).val) % 128 * 16 + (o + 1 * (k 1).val) / 128
    omega
  · show 0 + 1 * (k 2).val = 0 + 1 * (k 2).val
    rfl

/-- One more run stored: if the rows of the runs before `r` are the moved tile's, so are those of the runs before `r + 1`. -/
theorem run_step (v : View sig .tc .vmem S1x2048x128 .f32) (f : BufTy.Contents (Elt Ideal) v.ty) (x : FVec Ideal S1x2048x128 .f32) (r o : ℕ) (ho : o = r * 128) (hr : r < 16)
    (i2 : ∀ a, ![0, o, 0] a + S1x128x128.size a ≤ S1x2048x128.size a) (p : FVec Ideal S1x128x128 .f32) (L)
    (hv : ∀ k, p k = moved x ((Rect.unit (s := S1x2048x128) ![0, o, 0] S1x128x128.size i2).emb k))
    (hL : ∀ y : S1x2048x128.Idx, (y 1).val / 128 < r → v.read (Elt Ideal) (v.writes (Elt Ideal) f L) y = moved x y) :
    ∀ y : S1x2048x128.Idx, (y 1).val / 128 < r + 1 →
      v.read (Elt Ideal) (v.writes (Elt Ideal) f (⟨Rect.unit (s := S1x2048x128) ![0, o, 0] S1x128x128.size i2, p⟩ :: L)) y = moved x y := by
  intro y hy
  by_cases h : (y 1).val / 128 = r
  · have hy0 : (y 0).val < 1 := (y 0).isLt
    have hy1 : (y 1).val < 2048 := (y 1).isLt
    obtain ⟨k, rfl⟩ : ∃ k, (Rect.unit (s := S1x2048x128) ![0, o, 0] S1x128x128.size i2).emb k = y := by
      refine ⟨ix3 (y 0) ⟨(y 1).val % 128, by show _ < 128; omega⟩ (y 2), ?_⟩
      funext a; apply Fin.ext
      fin_cases a
      · show 0 + 1 * (y 0).val = (y 0).val
        omega
      · show o + 1 * ((y 1).val % 128) = (y 1).val
        omega
      · show 0 + 1 * (y 2).val = (y 2).val
        omega
    rw [View.read_writes_cons_emb]
    exact hv k
  · have hn : y ∉ Finset.univ.map (Rect.unit (s := S1x2048x128) ![0, o, 0] S1x128x128.size i2).emb := by
      rw [Finset.mem_map]
      rintro ⟨k, -, rfl⟩
      have hk1 : (k 1).val < 128 := (k 1).isLt
      refine h ?_
      show (o + 1 * (k 1).val) / 128 = r
      omega
    rw [View.writes_cons, View.read_slice_write_of_not_mem _ _ _ _ hn]
    exact hL y (by omega)

set_option maxHeartbeats 1600000 in
/-- What the body's stores leave in the result's buffer is the tile with its rows moved. -/
theorem out_moved (c : Dev nD) (i : grid0.Coords) (arg3 : Memref sig .tc .vmem S1x2048x128 .f32) (harg3 : arg3.IsWhole) (arg4 : Memref sig .tc .vmem S1x2048x128 .f32) (harg4 : arg4.IsWhole)
    (x : FVec Ideal S1x2048x128 .f32) : out0_A_1 (F := Ideal) c i arg3 harg3 arg4 harg4 x = moved x := by
  funext y
  have b1 : (y 1).val < 2048 := (y 1).isLt
  exact (run_step VO0_1 VO0_1.junk x 15 1920 rfl (by decide) inb_S1x2048x128_S1x128x128_0_1920_0 _ _ (run_at arg3 harg3 x 15 1920 rfl (by decide) inb_S1x2048x128_S1x128x128_0_15_0_s_1_16_1 inb_S1x2048x128_S1x128x128_0_1920_0)
    (run_step VO0_1 VO0_1.junk x 14 1792 rfl (by decide) inb_S1x2048x128_S1x128x128_0_1792_0 _ _ (run_at arg3 harg3 x 14 1792 rfl (by decide) inb_S1x2048x128_S1x128x128_0_14_0_s_1_16_1 inb_S1x2048x128_S1x128x128_0_1792_0)
    (run_step VO0_1 VO0_1.junk x 13 1664 rfl (by decide) inb_S1x2048x128_S1x128x128_0_1664_0 _ _ (run_at arg3 harg3 x 13 1664 rfl (by decide) inb_S1x2048x128_S1x128x128_0_13_0_s_1_16_1 inb_S1x2048x128_S1x128x128_0_1664_0)
    (run_step VO0_1 VO0_1.junk x 12 1536 rfl (by decide) inb_S1x2048x128_S1x128x128_0_1536_0 _ _ (run_at arg3 harg3 x 12 1536 rfl (by decide) inb_S1x2048x128_S1x128x128_0_12_0_s_1_16_1 inb_S1x2048x128_S1x128x128_0_1536_0)
    (run_step VO0_1 VO0_1.junk x 11 1408 rfl (by decide) inb_S1x2048x128_S1x128x128_0_1408_0 _ _ (run_at arg3 harg3 x 11 1408 rfl (by decide) inb_S1x2048x128_S1x128x128_0_11_0_s_1_16_1 inb_S1x2048x128_S1x128x128_0_1408_0)
    (run_step VO0_1 VO0_1.junk x 10 1280 rfl (by decide) inb_S1x2048x128_S1x128x128_0_1280_0 _ _ (run_at arg3 harg3 x 10 1280 rfl (by decide) inb_S1x2048x128_S1x128x128_0_10_0_s_1_16_1 inb_S1x2048x128_S1x128x128_0_1280_0)
    (run_step VO0_1 VO0_1.junk x 9 1152 rfl (by decide) inb_S1x2048x128_S1x128x128_0_1152_0 _ _ (run_at arg3 harg3 x 9 1152 rfl (by decide) inb_S1x2048x128_S1x128x128_0_9_0_s_1_16_1 inb_S1x2048x128_S1x128x128_0_1152_0)
    (run_step VO0_1 VO0_1.junk x 8 1024 rfl (by decide) inb_S1x2048x128_S1x128x128_0_1024_0 _ _ (run_at arg3 harg3 x 8 1024 rfl (by decide) inb_S1x2048x128_S1x128x128_0_8_0_s_1_16_1 inb_S1x2048x128_S1x128x128_0_1024_0)
    (run_step VO0_1 VO0_1.junk x 7 896 rfl (by decide) inb_S1x2048x128_S1x128x128_0_896_0 _ _ (run_at arg3 harg3 x 7 896 rfl (by decide) inb_S1x2048x128_S1x128x128_0_7_0_s_1_16_1 inb_S1x2048x128_S1x128x128_0_896_0)
    (run_step VO0_1 VO0_1.junk x 6 768 rfl (by decide) inb_S1x2048x128_S1x128x128_0_768_0 _ _ (run_at arg3 harg3 x 6 768 rfl (by decide) inb_S1x2048x128_S1x128x128_0_6_0_s_1_16_1 inb_S1x2048x128_S1x128x128_0_768_0)
    (run_step VO0_1 VO0_1.junk x 5 640 rfl (by decide) inb_S1x2048x128_S1x128x128_0_640_0 _ _ (run_at arg3 harg3 x 5 640 rfl (by decide) inb_S1x2048x128_S1x128x128_0_5_0_s_1_16_1 inb_S1x2048x128_S1x128x128_0_640_0)
    (run_step VO0_1 VO0_1.junk x 4 512 rfl (by decide) inb_S1x2048x128_S1x128x128_0_512_0 _ _ (run_at arg3 harg3 x 4 512 rfl (by decide) inb_S1x2048x128_S1x128x128_0_4_0_s_1_16_1 inb_S1x2048x128_S1x128x128_0_512_0)
    (run_step VO0_1 VO0_1.junk x 3 384 rfl (by decide) inb_S1x2048x128_S1x128x128_0_384_0 _ _ (run_at arg3 harg3 x 3 384 rfl (by decide) inb_S1x2048x128_S1x128x128_0_3_0_s_1_16_1 inb_S1x2048x128_S1x128x128_0_384_0)
    (run_step VO0_1 VO0_1.junk x 2 256 rfl (by decide) inb_S1x2048x128_S1x128x128_0_256_0 _ _ (run_at arg3 harg3 x 2 256 rfl (by decide) inb_S1x2048x128_S1x128x128_0_2_0_s_1_16_1 inb_S1x2048x128_S1x128x128_0_256_0)
    (run_step VO0_1 VO0_1.junk x 1 128 rfl (by decide) inb_S1x2048x128_S1x128x128_0_128_0 _ _ (run_at arg3 harg3 x 1 128 rfl (by decide) inb_S1x2048x128_S1x128x128_0_1_0_s_1_16_1 inb_S1x2048x128_S1x128x128_0_128_0)
    (run_step VO0_1 VO0_1.junk x 0 0 rfl (by decide) inb_S1x2048x128_S1x128x128_0_0_0 _ _ (run_at arg3 harg3 x 0 0 rfl (by decide) inb_S1x2048x128_S1x128x128_0_0_0_s_1_16_1 inb_S1x2048x128_S1x128x128_0_0_0)
    (fun y h => absurd h (Nat.not_lt_zero _)))))))))))))))))) y (show (y 1).val / 128 < 16 by omega)

/-- What the body leaves at an index of its block is the reference at the array index the block's element sits at. -/
theorem point (c : Dev nD) (t : Fin cfg0.N) (y) :
    outsAt0 m c t y = result m c (((cfg0.win 1).blk t).view.emb y) := by
  have hN := lt_of_lt_of_eq t.isLt (show cfg0.N = 128 from N_0)
  have b1 : (y 1).val < 2048 := (y 1).isLt
  unfold outsAt0
  rw [out_moved]
  unfold moved
  refine Eq.trans ?_ (ref_at _ _ (((cfg0.win 0).blk t).view.emb (ix3 (y 0) ⟨(y 1).val % 128 * 16 + (y 1).val / 128, src_lt _ (y 1).isLt⟩ (y 2))) ?_ ?_ ?_).symm
  · rfl
  · blk_simp [idx t]
  · blk_simp [idx t]
    show t.val / 16 % 2 * 2048 + ((y 1).val % 128 * 16 + (y 1).val / 128) = _
    omega
  · blk_simp [idx t]

/-- So the result array ends holding the reference's value: the blocks tile it. -/
theorem final (c : Dev nD) : (dats m 0 c).arrAt 1 (cfgs 0).N = result m c := by
  refine (dats m 0 c).arrAt_eq_of_covers 1 _ (by decide +kernel) fun t _ y => ?_
  blk_simp
  rw [after0_1]
  exact point m c t y

end Cert.PermuteIdeal.RefValue

namespace Cert.Proof

/-- The kernel and the reference end with the same result array whenever their arguments agree. -/
theorem permute_algebraic : Cert.algebraic_PermuteIdeal_PermuteRefIdeal := by
  intro m ρ m' ρ' _ hagree
  refine ⟨fun c => Cert.PermuteIdeal.RefValue.result m c, ?_, ?_⟩
  · exact (θ_run Cert.PermuteIdeal.defs _ _).mono
      (fun _ h c => ⟨((h.2 c).1 1).trans (Cert.PermuteIdeal.RefValue.final m c), h.1.1 c⟩)
      (θ_run_and (Cert.PermuteIdeal.Gen.frame (F := Ideal) m ρ) (Cert.PermuteIdeal.Gen.run_main (F := Ideal) m ρ))
  · refine (θ_run Cert.PermuteRefIdeal.defs _ _).mono (fun _ h c => ⟨(h c).1.trans ?_, (h c).2⟩)
      (Cert.PermuteRefIdeal.Value.run (F := Ideal) m' ρ')
    rw [Cert.PermuteRefIdeal.Read.val_main_v2_eq, hagree c]

end Cert.Proof

end
-- ==== Proof.ModValue.lean ====
/-
  THE VALUE of the linear map of the layers' modulations, `silu c @ w + b`. The kernel takes `silu c` in three rounded parts and the
  weights in two; in exact arithmetic the first part is the whole and the others are differences of a value with itself, which
  are zero when the value is real: this is the precondition. The rows are padded to sixteen before the region and cut after it.
-/
module

public import proofs.«01_k».proof.Defs
public import proofs.«01_k».proof.Proof.Gen.Pre_finite
public import proofs.«01_k».proof.Proof.Gen.ModProjIdeal.Frame
public import proofs.«01_k».proof.Proof.Gen.ModProjIdeal.Skeleton
public import proofs.«01_k».proof.Proof.Gen.ModProjRefIdeal.Run
public import proofs.«01_k».proof.Proof.Gen.ModProjRefIdeal.Read
public import Idealize.ShloMosaic.Lib.Pipeline.ValueKit
public import Idealize.ShloMosaic.Lib.Quiescent
public import Idealize.ShloMosaic.Lib.ReduceAll
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.ModProjIdeal.RefValue

open Cert.ModProjIdeal Cert.ModProjIdeal.Gen
open Cert.ModProjRefIdeal.Read

variable (m : (ℓ : Loc nD τ sig) → Buf (Elt Ideal) ℓ) (ρ : Dev nD → PrngReg)

/-- A real value: neither infinity. -/
def IsReal (x : EReal) : Prop := x ≠ ⊤ ∧ x ≠ ⊥

/-- `x / (1 + exp (-x))` in extended reals. -/
def silu (x : EReal) : EReal := x * Ideal.div 1 (1 + Ideal.exp (-x))

/-- A real less itself is zero. -/
theorem real_sub_self (x : EReal) (h : IsReal x) : x - x = 0 := EReal.sub_self h.1 h.2

/-- silu of a real is a real. -/
theorem silu_real (x : EReal) (h : IsReal x) : IsReal (silu x) := by
  obtain ⟨r, rfl⟩ : ∃ r : ℝ, (r : EReal) = x := ⟨x.toReal, EReal.coe_toReal h.1 h.2⟩
  have hp : (0 : ℝ) < 1 + Real.exp (-r) := by positivity
  have e : silu (r : EReal) = ((r * (1 + Real.exp (-r))⁻¹ : ℝ) : EReal) := by
    unfold silu
    rw [show Ideal.exp (-(r : EReal)) = ((Real.exp (-r) : ℝ) : EReal) from by rw [← EReal.coe_neg]; rfl]
    rw [show (1 : EReal) + ((Real.exp (-r) : ℝ) : EReal) = ((1 + Real.exp (-r) : ℝ) : EReal) from by rw [EReal.coe_add]; rfl]
    unfold Ideal.div
    rw [if_neg (by exact_mod_cast hp.ne'), one_mul, ← EReal.coe_inv, ← EReal.coe_mul]
  rw [e]
  exact ⟨EReal.coe_ne_top _, EReal.coe_ne_bot _⟩

/-- The rows padded with zeros to sixteen. -/
abbrev rows (c : Dev nD) : FVec Ideal S16x2048 .f32 :=
  pad S16x2048 ![0, 0] ![12, 0] ![0, 0] (m ((c : Thread nD τ).loc main_arg0)) (sitofp .f32 (constantI S_ 32 0#32) : FVec Ideal S_ .f32) pads_S4x2048_S16x2048_0120_000 h_S_

/-- The region's first array is the padded rows. -/
theorem V_rows (c : Dev nD) : V m c main_v0 = rows m c := rfl

/-- A padded row that is a row. -/
theorem rows_at (c : Dev nD) (i : S16x2048.Idx) (j : S4x2048.Idx) (h0 : (j 0).val = (i 0).val) (h1 : (j 1).val = (i 1).val) :
    rows m c i = m ((c : Thread nD τ).loc main_arg0) j := by
  refine pad_apply_of_inside _ _ _ _ _ _ _ i j fun a => ?_
  fin_cases a
  · show (i 0).val = 0 + (j 0).val * (0 + 1)
    omega
  · show (i 1).val = 0 + (j 1).val * (0 + 1)
    omega

/-- The padded rows are reals where the rows are. -/
theorem rows_real (c : Dev nD) (h : ∀ j, IsReal (m ((c : Thread nD τ).loc main_arg0) j)) (i : S16x2048.Idx) : IsReal (rows m c i) := by
  by_cases hi : (i 0).val < 4
  · rw [rows_at m c i (ix2 ⟨(i 0).val, hi⟩ (i 1)) rfl rfl]
    exact h _
  · have e : rows m c i = ((((0#32 : BitVec 32).toInt : ℝ)) : EReal) := by
      refine (pad_apply_of_not_inside _ _ _ _ _ _ _ i 0 ?_).trans rfl
      intro hn
      have := hn.2.2
      change ((i 0).val - 0) / (0 + 1) < 4 at this
      omega
    rw [e]
    exact ⟨EReal.coe_ne_top _, EReal.coe_ne_bot _⟩

/-- The bias with its middle axis of one. -/
theorem V_bias (c : Dev nD) (l : Fin 4) (o : Fin 1) (j : Fin 6144) : V m c main_v1 (ix3 l o j) = m ((c : Thread nD τ).loc main_arg2) (ix2 l j) := by
  have e : V m c main_v1 = shapeCast S4x1x6144 (m ((c : Thread nD τ).loc main_arg2)) shapeCasts_S4x6144_S4x1x6144 := rfl
  rw [e, shapeCast_apply _ _ (ix3 l o j) (ix2 l j) (by
    rewrite [Shape.rowMajor_val_three, Shape.rowMajor_val_two]
    have ho : o.val < 1 := o.isLt
    show l.val * 6144 + j.val = (l.val * 1 + o.val) * 6144 + j.val
    omega)]

/-- The linear map of the rows, padded ones too. -/
def G (x : FVec Ideal S16x2048 .f32) (w : FVec Ideal S4x2048x6144 .f32) (b : FVec Ideal S4x1x6144 .f32) : FVec Ideal S4x16x6144 .f32 := fun i =>
  (∑ k : Fin 2048, silu (x (ix2 (i 1) k)) * w (ix3 (i 0) k (i 2))) + b (ix3 (i 0) 0 (i 2))

/-- The body's value: the second and third parts of the operands are zero where they are reals. -/
theorem pay (x : FVec Ideal S16x2048 .f32) (w : FVec Ideal S1x2048x512 .f32) (b : FVec Ideal S1x1x512 .f32) (hx : ∀ i, IsReal (x i)) (hw : ∀ i, IsReal (w i)) (y : S1x16x512.Idx) :
    k0_pay1 (F := Ideal) x w b y = (∑ k : Fin 2048, silu (x (ix2 (y 1) k)) * w (ix3 (y 0) k (y 2))) + b (ix3 (y 0) 0 (y 2)) := by
  have hy : y 0 = (0 : Fin 1) := Subsingleton.elim (α := Fin 1) _ _
  rw [hy]
  have hz : ∀ a : EReal, (0 : EReal) - a = -a := fun a => by rw [sub_eq_add_neg, zero_add]
  have hs : ∀ i, x i * Ideal.div 1 (1 + Ideal.exp (-x i)) - x i * Ideal.div 1 (1 + Ideal.exp (-x i)) = 0 := fun i => real_sub_self _ (silu_real _ (hx i))
  have hw' : ∀ i, w i - w i = 0 := fun i => real_sub_self _ (hw i)
  pointwise [k0_pay1, dot_S16x2048_S2048x512_S16x512_1_0_0_1_n_n]
  simp only [hz, hs, hw', mul_zero, zero_mul, sub_zero, neg_zero, Finset.sum_const_zero, add_zero]
  rfl

/-- The reference's value. -/
theorem ref_at (x0 : FVec Ideal S4x2048 .f32) (x1 : FVec Ideal S4x2048x6144 .f32) (x2 : FVec Ideal S4x6144 .f32) (i : S4x4x6144.Idx) :
    val_main_v5 (F := Ideal) x0 x1 x2 i = (∑ k : Fin 2048, silu (x0 (ix2 (i 1) k)) * x1 (ix3 (i 0) k (i 2))) + x2 (ix2 (i 0) (i 2)) := by
  pointwise [val_main_v5, val_main_v4, val_main_v3, val_main_v2, val_main_v1, val_main_v0, val_main_call0_v5, val_main_call0_v4, val_main_call0_v3, val_main_call0_v2, val_main_call0_v1, val_main_call0_v0, val_main_call0_cst, val_main_call0_cst_0, Cert.ModProjRefIdeal.dot_S4x2048x6144_S4x2048_S4x6144x4_1_1_02_0_n_n]
  congr 1
  exact Finset.sum_congr rfl fun k _ => mul_comm (_ : EReal) _

/-- The block every window takes at a grid point, decided over the points. -/
theorem idx : ∀ t : Fin cfg0.N,
    win0_0.index t = ![0, 0] ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val] :=
  (by decide +kernel : ∀ t : Fin grid0.N, _)

/-- What the body stores at an index of its block is the linear map at the array index the block's element sits at. -/
theorem point (c : Dev nD) (hx : ∀ j, IsReal (m ((c : Thread nD τ).loc main_arg0) j)) (hw : ∀ j, IsReal (m ((c : Thread nD τ).loc main_arg1) j)) (t : Fin cfg0.N) (y) :
    k0_pay1 (iblk m c 0 t) (iblk m c 1 t) (iblk m c 2 t) y
      = G (rows m c) (m ((c : Thread nD τ).loc main_arg1)) (V m c main_v1) (((cfg0.win 3).blk t).view.emb y) := by
  rw [pay _ _ _ (fun i => by show IsReal (V m c main_v0 _); rw [V_rows]; exact rows_real m c hx _)
    (fun i => by show IsReal (V m c main_arg1 _); rw [V_main_arg1]; exact hw _)]
  unfold G
  have e0 : ∀ k : Fin 2048, ((cfg0.win 0).blk t).view.emb (ix2 (y 1) k) = ix2 ((((cfg0.win 3).blk t).view.emb y) 1) k := by
    intro k; funext a; apply Fin.ext
    fin_cases a
    · show ((((cfg0.win 0).blk t).view.emb (ix2 (y 1) k)) 0 : ℕ) = (((cfg0.win 3).blk t).view.emb y) 1
      blk_simp [idx t]
    · show ((((cfg0.win 0).blk t).view.emb (ix2 (y 1) k)) 1 : ℕ) = k.val
      blk_simp [idx t]
  have e1 : ∀ k : Fin 2048, ((cfg0.win 1).blk t).view.emb (ix3 (y 0) k (y 2)) = ix3 ((((cfg0.win 3).blk t).view.emb y) 0) k ((((cfg0.win 3).blk t).view.emb y) 2) := by
    intro k; funext a; apply Fin.ext
    fin_cases a
    · show ((((cfg0.win 1).blk t).view.emb (ix3 (y 0) k (y 2))) 0 : ℕ) = (((cfg0.win 3).blk t).view.emb y) 0
      blk_simp [idx t]
    · show ((((cfg0.win 1).blk t).view.emb (ix3 (y 0) k (y 2))) 1 : ℕ) = k.val
      blk_simp [idx t]
    · show ((((cfg0.win 1).blk t).view.emb (ix3 (y 0) k (y 2))) 2 : ℕ) = (((cfg0.win 3).blk t).view.emb y) 2
      blk_simp [idx t]
  have e2 : ((cfg0.win 2).blk t).view.emb (ix3 (y 0) 0 (y 2)) = ix3 ((((cfg0.win 3).blk t).view.emb y) 0) 0 ((((cfg0.win 3).blk t).view.emb y) 2) := by
    funext a; apply Fin.ext
    fin_cases a
    · show ((((cfg0.win 2).blk t).view.emb (ix3 (y 0) 0 (y 2))) 0 : ℕ) = (((cfg0.win 3).blk t).view.emb y) 0
      blk_simp [idx t]
    · show ((((cfg0.win 2).blk t).view.emb (ix3 (y 0) 0 (y 2))) 1 : ℕ) = 0
      blk_simp [idx t]
      rfl
    · show ((((cfg0.win 2).blk t).view.emb (ix3 (y 0) 0 (y 2))) 2 : ℕ) = (((cfg0.win 3).blk t).view.emb y) 2
      blk_simp [idx t]
  refine congrArg₂ (fun a b : EReal => a + b) (Finset.sum_congr rfl fun k _ => ?_) ?_
  · show silu (V m c main_v0 (((cfg0.win 0).blk t).view.emb (ix2 (y 1) k))) * V m c main_arg1 (((cfg0.win 1).blk t).view.emb (ix3 (y 0) k (y 2))) = _
    rw [V_rows, V_main_arg1, e0, e1]
    rfl
  · show V m c main_v1 (((cfg0.win 2).blk t).view.emb (ix3 (y 0) 0 (y 2))) = _
    rw [e2]
    rfl

/-- So the padded result ends holding the linear map of the padded rows: the blocks tile it. -/
theorem final (c : Dev nD) (hx : ∀ j, IsReal (m ((c : Thread nD τ).loc main_arg0) j)) (hw : ∀ j, IsReal (m ((c : Thread nD τ).loc main_arg1) j)) :
    (dats m 0 c).arrAt 3 (cfgs 0).N = G (rows m c) (m ((c : Thread nD τ).loc main_arg1)) (V m c main_v1) := by
  refine (dats m 0 c).arrAt_eq_of_covers 3 _ (by decide +kernel) fun t _ y => ?_
  blk_simp
  rw [after0_3]; frame_out
  exact point m c hx hw t y

/-- What the result array is shown to hold: the reference's last value of the argument arrays. -/
abbrev result (c : Dev nD) : FVec Ideal S4x4x6144 .f32 :=
  val_main_v5 (F := Ideal) (m ((c : Thread nD τ).loc main_arg0)) (m ((c : Thread nD τ).loc main_arg1)) (m ((c : Thread nD τ).loc main_arg2))

/-- The cut after the region takes the first four rows of the padded result. -/
theorem tail (c : Dev nD) : Pipeline.afterTail₀ cfgs (dats m) 0 (V0 m) [hostOps1] c main_v3
    = extractStridedSlice S4x4x6144 ![0, 0, 0] ((dats m 0 c).arrAt 3 (cfgs 0).N) slices_S4x16x6144_S4x4x6144_0_0_0 := by
  unfold Pipeline.afterTail₀
  show StableHlo.after hostOps1 _ _ = _
  after_results
  exact congrArg (fun v => extractStridedSlice S4x4x6144 ![0, 0, 0] v slices_S4x16x6144_S4x4x6144_0_0_0)
    (Pipeline.withArrays_arr (cfgs 0).spec launch0.win.arr_inj c (V0 m c) (fun w => (dats m 0 c).arrAt w (cfgs 0).N) 3)

/-- The result array holds the reference's value. -/
theorem tail_eq (c : Dev nD) (hx : ∀ j, IsReal (m ((c : Thread nD τ).loc main_arg0) j)) (hw : ∀ j, IsReal (m ((c : Thread nD τ).loc main_arg1) j)) :
    Pipeline.afterTail₀ cfgs (dats m) 0 (V0 m) [hostOps1] c main_v3 = result m c := by
  rw [tail, final m c hx hw]
  funext i
  have hi : (i 1).val < 4 := (i 1).isLt
  refine Eq.trans ?_ (ref_at _ _ _ i).symm
  have e : extractStridedSlice S4x4x6144 ![0, 0, 0] (G (rows m c) (m ((c : Thread nD τ).loc main_arg1)) (V m c main_v1)) slices_S4x16x6144_S4x4x6144_0_0_0 i
      = G (rows m c) (m ((c : Thread nD τ).loc main_arg1)) (V m c main_v1) (ix3 (i 0) ⟨(i 1).val, by show _ < 16; omega⟩ (i 2)) := by
    pointwise
  rw [e]; unfold G
  refine congrArg₂ (fun a b : EReal => a + b) (Finset.sum_congr rfl fun k _ => ?_) (V_bias m c _ _ _)
  rw [rows_at m c _ (ix2 (i 1) k) rfl rfl]
  rfl

/-- What the precondition says: the rows and the weights are reals. -/
theorem fin_of_pre (h : Cert.Pre_ModProjIdeal_finite m) (c : Dev nD) :
    (∀ j, IsReal (m ((c : Thread nD τ).loc main_arg0) j)) ∧ (∀ j, IsReal (m ((c : Thread nD τ).loc main_arg1) j)) := by
  have hand : ∀ a b : BitVec 1, IntOp.andi a b = 1#1 → a = 1#1 ∧ b = 1#1 := by decide
  have htop : Ideal.ofBits .f32 0x7F800000#32 = ⊤ := by simp [Ideal.ofBits, Ideal.ieee]
  have hlt : ∀ x : EReal, Ideal.cmp .olt (max x (-x)) (Ideal.ofBits .f32 0x7F800000#32) = 1#1 → IsReal x := by
    intro x hx
    rw [htop] at hx
    have hb : max x (-x) < ⊤ := by
      by_contra hn
      simp [Ideal.cmp, hn] at hx
    refine ⟨fun e => ?_, fun e => ?_⟩ <;> simp [e] at hb
  have h0 := congrFun (h c) (Shape.Idx.first Cert.Pre_finite.Facts.h_S_)
  obtain ⟨ha, hb⟩ := hand _ _ h0
  haveI : Subsingleton Cert.Pre_finite.S_.Idx := ⟨fun a b => funext fun x => x.elim0⟩
  exact ⟨fun j => hlt _ (Host.reduce_andi_all _ _ _ _ _ ha j), fun j => hlt _ (Host.reduce_andi_all _ _ _ _ _ hb j)⟩

end Cert.ModProjIdeal.RefValue

namespace Cert.Proof

/-- The kernel and the reference end with the same result array whenever their arguments agree, the rows and the weights being reals. -/
theorem modProj_algebraic : Cert.algebraic_ModProjIdeal_ModProjRefIdeal_pre_finite := by
  intro m ρ m' ρ' hpre hagree
  have hf := Cert.ModProjIdeal.RefValue.fin_of_pre m hpre
  refine ⟨fun c => Cert.ModProjIdeal.RefValue.result m c, ?_, ?_⟩
  · refine (θ_run Cert.ModProjIdeal.defs _ _).mono (fun _ h c => ⟨?_, h.1 c⟩)
      (Idealize.ShloMosaic.θ_run_and (Cert.ModProjIdeal.Gen.unchanged (F := Ideal) m ρ) (Cert.ModProjIdeal.Gen.run_main (F := Ideal) m ρ))
    exact ((h.2 c).2 Cert.ModProjIdeal.main_v3 (Pipeline.mem_restRefs_of Cert.ModProjIdeal.main_v3 (by decide) (by decide))).trans
      (Cert.ModProjIdeal.RefValue.tail_eq m c (hf c).1 (hf c).2)
  · refine (θ_run Cert.ModProjRefIdeal.defs _ _).mono (fun _ h c => ⟨(h c).1.trans ?_, (h c).2⟩)
      (Cert.ModProjRefIdeal.Value.run (F := Ideal) m' ρ')
    rw [Cert.ModProjRefIdeal.Read.val_main_v5_eq, (hagree c).1, (hagree c).2.1, (hagree c).2.2]

end Cert.Proof

end
-- ==== Proof.lean ====
/-
  The claims of the certificate put together: every program's frame, the two printings of each kernel, and the ten value
  claims proved in the modules beside this one.
-/
module

public import proofs.«01_k».proof.Defs
public import proofs.«01_k».proof.Proof.OutNormValue
public import proofs.«01_k».proof.Proof.Gen.OutNorm.Frame
public import proofs.«01_k».proof.Proof.Gen.OutNormIdeal.Frame
public import proofs.«01_k».proof.Proof.Gen.OutNormRefIdeal.Run
public import proofs.«01_k».proof.Proof.OutProjValue
public import proofs.«01_k».proof.Proof.Gen.OutProj.Frame
public import proofs.«01_k».proof.Proof.Gen.OutProjIdeal.Frame
public import proofs.«01_k».proof.Proof.Gen.OutProjRefIdeal.Run
public import proofs.«01_k».proof.Proof.ProjQzValue
public import proofs.«01_k».proof.Proof.Gen.ProjQz.Frame
public import proofs.«01_k».proof.Proof.Gen.ProjQzIdeal.Frame
public import proofs.«01_k».proof.Proof.Gen.ProjQzRefIdeal.Run
public import proofs.«01_k».proof.Proof.ProjKvValue
public import proofs.«01_k».proof.Proof.Gen.ProjKv.Frame
public import proofs.«01_k».proof.Proof.Gen.ProjKvIdeal.Frame
public import proofs.«01_k».proof.Proof.Gen.ProjKvRefIdeal.Run
public import proofs.«01_k».proof.Proof.ConvIdealValue
public import proofs.«01_k».proof.Proof.ConvFrame
public import proofs.«01_k».proof.Proof.Gen.ProjConvRefIdeal.Run
public import proofs.«01_k».proof.Proof.OutProjBValue
public import proofs.«01_k».proof.Proof.Gen.OutProjB.Frame
public import proofs.«01_k».proof.Proof.Gen.OutProjBIdeal.Frame
public import proofs.«01_k».proof.Proof.Gen.OutProjBRefIdeal.Run
public import proofs.«01_k».proof.Proof.ZbaBitsFrame
public import proofs.«01_k».proof.Proof.ZbaValue
public import proofs.«01_k».proof.Proof.Gen.ProjZbaRefIdeal.Run
public import proofs.«01_k».proof.Proof.UnpBitsFrame
public import proofs.«01_k».proof.Proof.UnpValue
public import proofs.«01_k».proof.Proof.Gen.UnpermuteRefIdeal.Run
public import proofs.«01_k».proof.Proof.Gen.Permute.Frame
public import proofs.«01_k».proof.Proof.PermValue
public import proofs.«01_k».proof.Proof.Gen.PermuteRefIdeal.Run
public import proofs.«01_k».proof.Proof.Gen.Pre_finite
public import proofs.«01_k».proof.Proof.Gen.ModProj.Frame
public import proofs.«01_k».proof.Proof.ModValue
public import proofs.«01_k».proof.Proof.Gen.ModProjIdeal.Frame
public import proofs.«01_k».proof.Proof.Gen.ModProjRefIdeal.Run
public import Idealize.ShloMosaic.Adequacy
public import Idealize.ShloMosaic.Init

@[expose] public section

noncomputable section

namespace Cert.Proof

open Idealize.ShloMosaic Idealize.SL.Sem

/-- The reference of OutNorm runs to its end, leaves its arguments as they were and every semaphore at zero. -/
theorem refFrameOutNorm : Cert.quiescent_OutNormRefIdeal := fun m ρ _ =>
  (θ_run Cert.OutNormRefIdeal.defs _ _).mono
    (fun r h => ⟨fun c => (h c).2, Idealize.ShloMosaic.sem_eq_zero_of_no_sems (by decide) r.2⟩)
    (Cert.OutNormRefIdeal.Value.run (F := Ideal) m ρ)

/-- The reference of OutProj runs to its end, leaves its arguments as they were and every semaphore at zero. -/
theorem refFrameOutProj : Cert.quiescent_OutProjRefIdeal := fun m ρ _ =>
  (θ_run Cert.OutProjRefIdeal.defs _ _).mono
    (fun r h => ⟨fun c => (h c).2, Idealize.ShloMosaic.sem_eq_zero_of_no_sems (by decide) r.2⟩)
    (Cert.OutProjRefIdeal.Value.run (F := Ideal) m ρ)

/-- The reference of ProjQz runs to its end, leaves its arguments as they were and every semaphore at zero. -/
theorem refFrameProjQz : Cert.quiescent_ProjQzRefIdeal := fun m ρ _ =>
  (θ_run Cert.ProjQzRefIdeal.defs _ _).mono
    (fun r h => ⟨fun c => (h c).2, Idealize.ShloMosaic.sem_eq_zero_of_no_sems (by decide) r.2⟩)
    (Cert.ProjQzRefIdeal.Value.run (F := Ideal) m ρ)

/-- The reference of ProjKv runs to its end, leaves its arguments as they were and every semaphore at zero. -/
theorem refFrameProjKv : Cert.quiescent_ProjKvRefIdeal := fun m ρ _ =>
  (θ_run Cert.ProjKvRefIdeal.defs _ _).mono
    (fun r h => ⟨fun c => (h c).2, Idealize.ShloMosaic.sem_eq_zero_of_no_sems (by decide) r.2⟩)
    (Cert.ProjKvRefIdeal.Value.run (F := Ideal) m ρ)

/-- The reference of ProjConv runs to its end, leaves its arguments as they were and every semaphore at zero. -/
theorem refFrameProjConv : Cert.quiescent_ProjConvRefIdeal := fun m ρ _ =>
  (θ_run Cert.ProjConvRefIdeal.defs _ _).mono
    (fun r h => ⟨fun c => (h c).2, Idealize.ShloMosaic.sem_eq_zero_of_no_sems (by decide) r.2⟩)
    (Cert.ProjConvRefIdeal.Value.run (F := Ideal) m ρ)

/-- The reference of OutProjB runs to its end, leaves its arguments as they were and every semaphore at zero. -/
theorem refFrameOutProjB : Cert.quiescent_OutProjBRefIdeal := fun m ρ _ =>
  (θ_run Cert.OutProjBRefIdeal.defs _ _).mono
    (fun r h => ⟨fun c => (h c).2, Idealize.ShloMosaic.sem_eq_zero_of_no_sems (by decide) r.2⟩)
    (Cert.OutProjBRefIdeal.Value.run (F := Ideal) m ρ)

/-- The reference of ProjZba runs to its end, leaves its arguments as they were and every semaphore at zero. -/
theorem refFrameProjZba : Cert.quiescent_ProjZbaRefIdeal := fun m ρ _ =>
  (θ_run Cert.ProjZbaRefIdeal.defs _ _).mono
    (fun r h => ⟨fun c => (h c).2.2, Idealize.ShloMosaic.sem_eq_zero_of_no_sems (by decide) r.2⟩)
    (Cert.ProjZbaRefIdeal.Value.run (F := Ideal) m ρ)

/-- The reference of Unpermute runs to its end, leaves its arguments as they were and every semaphore at zero. -/
theorem refFrameUnpermute : Cert.quiescent_UnpermuteRefIdeal := fun m ρ _ =>
  (θ_run Cert.UnpermuteRefIdeal.defs _ _).mono
    (fun r h => ⟨fun c => (h c).2, Idealize.ShloMosaic.sem_eq_zero_of_no_sems (by decide) r.2⟩)
    (Cert.UnpermuteRefIdeal.Value.run (F := Ideal) m ρ)

/-- The reference of Permute runs to its end, leaves its arguments as they were and every semaphore at zero. -/
theorem refFramePermute : Cert.quiescent_PermuteRefIdeal := fun m ρ _ =>
  (θ_run Cert.PermuteRefIdeal.defs _ _).mono
    (fun r h => ⟨fun c => (h c).2, Idealize.ShloMosaic.sem_eq_zero_of_no_sems (by decide) r.2⟩)
    (Cert.PermuteRefIdeal.Value.run (F := Ideal) m ρ)

/-- The reference of ModProj runs to its end, leaves its arguments as they were and every semaphore at zero. -/
theorem refFrameModProj : Cert.quiescent_ModProjRefIdeal := fun m ρ _ =>
  (θ_run Cert.ModProjRefIdeal.defs _ _).mono
    (fun r h => ⟨fun c => (h c).2, Idealize.ShloMosaic.sem_eq_zero_of_no_sems (by decide) r.2⟩)
    (Cert.ModProjRefIdeal.Value.run (F := Ideal) m ρ)

/-- Everything the certificate claims. -/
theorem claim : Cert.Claim := ⟨Cert.OutNorm.Gen.facts, Cert.OutNormIdeal.Gen.facts, Cert.OutNormRefIdeal.Gen.facts, Cert.OutProj.Gen.facts, Cert.OutProjIdeal.Gen.facts, Cert.OutProjRefIdeal.Gen.facts, Cert.ProjQz.Gen.facts, Cert.ProjQzIdeal.Gen.facts, Cert.ProjQzRefIdeal.Gen.facts, Cert.ProjKv.Gen.facts, Cert.ProjKvIdeal.Gen.facts, Cert.ProjKvRefIdeal.Gen.facts, Cert.ProjConv.Gen.facts, Cert.ProjConvIdeal.Gen.facts, Cert.ProjConvRefIdeal.Gen.facts, Cert.OutProjB.Gen.facts, Cert.OutProjBIdeal.Gen.facts, Cert.OutProjBRefIdeal.Gen.facts, Cert.ProjZba.Gen.facts, Cert.ProjZbaIdeal.Gen.facts, Cert.ProjZbaRefIdeal.Gen.facts, Cert.Unpermute.Gen.facts, Cert.UnpermuteIdeal.Gen.facts, Cert.UnpermuteRefIdeal.Gen.facts, Cert.Permute.Gen.facts, Cert.PermuteIdeal.Gen.facts, Cert.PermuteRefIdeal.Gen.facts, Cert.ModProj.Gen.facts, Cert.ModProjIdeal.Gen.facts, Cert.ModProjRefIdeal.Gen.facts, Cert.Pre_finite.Gen.facts,
  fun m ρ _ => Cert.OutNorm.Gen.frame m ρ,
  fun m ρ _ => Cert.OutNormIdeal.Gen.frame m ρ,
  refFrameOutNorm,
  fun m ρ _ => Cert.OutProj.Gen.frame m ρ,
  fun m ρ _ => Cert.OutProjIdeal.Gen.frame m ρ,
  refFrameOutProj,
  fun m ρ _ => Cert.ProjQz.Gen.frame m ρ,
  fun m ρ _ => Cert.ProjQzIdeal.Gen.frame m ρ,
  refFrameProjQz,
  fun m ρ _ => Cert.ProjKv.Gen.frame m ρ,
  fun m ρ _ => Cert.ProjKvIdeal.Gen.frame m ρ,
  refFrameProjKv,
  fun m ρ _ => Cert.ProjConv.Gen.frame m ρ,
  fun m ρ _ => Cert.ProjConvIdeal.Gen.frame m ρ,
  refFrameProjConv,
  fun m ρ _ => Cert.OutProjB.Gen.frame m ρ,
  fun m ρ _ => Cert.OutProjBIdeal.Gen.frame m ρ,
  refFrameOutProjB,
  fun m ρ _ => Cert.ProjZba.Gen.frame m ρ,
  fun m ρ _ => Cert.ProjZbaIdeal.Gen.frame m ρ,
  refFrameProjZba,
  fun m ρ _ => Cert.Unpermute.Gen.frame m ρ,
  fun m ρ _ => Cert.UnpermuteIdeal.Gen.frame m ρ,
  refFrameUnpermute,
  fun m ρ _ => Cert.Permute.Gen.frame m ρ,
  fun m ρ _ => Cert.PermuteIdeal.Gen.frame m ρ,
  refFramePermute,
  fun m ρ _ => Cert.ModProj.Gen.frame m ρ,
  fun m ρ _ => Cert.ModProjIdeal.Gen.frame m ρ,
  fun m ρ _ => Cert.ModProjIdeal.Gen.frame m ρ,
  refFrameModProj,
  fun m ρ _ => refFrameModProj m ρ trivial,
  trivial,
  outNorm_algebraic,
  trivial,
  outProj_algebraic,
  trivial,
  projQz_algebraic,
  trivial,
  projKv_algebraic,
  trivial,
  projConv_algebraic,
  trivial,
  outProjB_algebraic,
  trivial,
  projZba_algebraic,
  trivial,
  unpermute_algebraic,
  trivial,
  permute_algebraic,
  trivial,
  modProj_algebraic⟩

end Cert.Proof

end
